-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_tame [hPre_scales_tame : Cert.Pre_scales_tame.Facts] (m : (ℓ : Loc Cert.KernelIdeal.nD Cert.KernelIdeal.τ Cert.KernelIdeal.sig) → Buf (Elt Ideal) ℓ) : Prop :=
  ∀ c : Dev Cert.KernelIdeal.nD,
    (Cert.Pre_scales_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_tame [hPre_scales_tame : Cert.Pre_scales_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_LnQuant (m : (ℓ : Loc Cert.LnQuant.nD Cert.LnQuant.τ Cert.LnQuant.sig) → Buf (Elt Bits) ℓ) : Prop :=
  True

def Pre_LnQuantIdeal (m : (ℓ : Loc Cert.LnQuantIdeal.nD Cert.LnQuantIdeal.τ Cert.LnQuantIdeal.sig) → Buf (Elt Ideal) ℓ) : Prop :=
  True

def Pre_LnQuantIdeal_weights_below_inf [hPre_weights_below_inf : Cert.Pre_weights_below_inf.Facts] (m : (ℓ : Loc Cert.LnQuantIdeal.nD Cert.LnQuantIdeal.τ Cert.LnQuantIdeal.sig) → Buf (Elt Ideal) ℓ) : Prop :=
  ∀ c : Dev Cert.LnQuantIdeal.nD,
    (Cert.Pre_weights_below_inf.fn (F := Ideal) (m ((c.tc : Thread Cert.LnQuantIdeal.nD Cert.LnQuantIdeal.τ).loc Cert.LnQuantIdeal.main_arg0)) (m ((c.tc : Thread Cert.LnQuantIdeal.nD Cert.LnQuantIdeal.τ).loc Cert.LnQuantIdeal.main_arg1)) (m ((c.tc : Thread Cert.LnQuantIdeal.nD Cert.LnQuantIdeal.τ).loc Cert.LnQuantIdeal.main_arg2)) (m ((c.tc : Thread Cert.LnQuantIdeal.nD Cert.LnQuantIdeal.τ).loc Cert.LnQuantIdeal.main_arg3))) = (fun _ => 1#1)

def Pre_LnReferenceIdeal (m : (ℓ : Loc Cert.LnReferenceIdeal.nD Cert.LnReferenceIdeal.τ Cert.LnReferenceIdeal.sig) → Buf (Elt Ideal) ℓ) : Prop :=
  True

def Pre_LnReferenceIdeal_weights_below_inf [hPre_weights_below_inf : Cert.Pre_weights_below_inf.Facts] (m : (ℓ : Loc Cert.LnReferenceIdeal.nD Cert.LnReferenceIdeal.τ Cert.LnReferenceIdeal.sig) → Buf (Elt Ideal) ℓ) : Prop :=
  ∀ c : Dev Cert.LnReferenceIdeal.nD,
    (Cert.Pre_weights_below_inf.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_scales_tame [hKernelIdeal : Cert.KernelIdeal.Facts] [hPre_scales_tame : Cert.Pre_scales_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_scales_tame [hReferenceIdeal : Cert.ReferenceIdeal.Facts] [hPre_scales_tame : Cert.Pre_scales_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_LnQuant [hLnQuant : Cert.LnQuant.Facts] : Prop :=
  ∀ (m : (ℓ : Loc Cert.LnQuant.nD Cert.LnQuant.τ Cert.LnQuant.sig) → Buf (Elt Bits) ℓ) (g : Dev Cert.LnQuant.nD → PrngReg), Pre_LnQuant m →
    θ_run (Cert.LnQuant.defs (F := Bits)) (onTc (τ := Cert.LnQuant.τ) (Cert.LnQuant.main (F := Bits))) ⟨m, fun _ => 0, g⟩ (fun r => (∀ c : Dev Cert.LnQuant.nD,
      r.2.mem ((c.tc : Thread Cert.LnQuant.nD Cert.LnQuant.τ).loc Cert.LnQuant.main_arg0) = m ((c.tc : Thread Cert.LnQuant.nD Cert.LnQuant.τ).loc Cert.LnQuant.main_arg0)
      ∧ r.2.mem ((c.tc : Thread Cert.LnQuant.nD Cert.LnQuant.τ).loc Cert.LnQuant.main_arg1) = m ((c.tc : Thread Cert.LnQuant.nD Cert.LnQuant.τ).loc Cert.LnQuant.main_arg1)
      ∧ r.2.mem ((c.tc : Thread Cert.LnQuant.nD Cert.LnQuant.τ).loc Cert.LnQuant.main_arg2) = m ((c.tc : Thread Cert.LnQuant.nD Cert.LnQuant.τ).loc Cert.LnQuant.main_arg2)
      ∧ r.2.mem ((c.tc : Thread Cert.LnQuant.nD Cert.LnQuant.τ).loc Cert.LnQuant.main_arg3) = m ((c.tc : Thread Cert.LnQuant.nD Cert.LnQuant.τ).loc Cert.LnQuant.main_arg3))
      ∧ r.2.sem = fun _ => 0)

def quiescent_LnQuantIdeal [hLnQuantIdeal : Cert.LnQuantIdeal.Facts] : Prop :=
  ∀ (m : (ℓ : Loc Cert.LnQuantIdeal.nD Cert.LnQuantIdeal.τ Cert.LnQuantIdeal.sig) → Buf (Elt Ideal) ℓ) (g : Dev Cert.LnQuantIdeal.nD → PrngReg), Pre_LnQuantIdeal m →
    θ_run (Cert.LnQuantIdeal.defs (F := Ideal)) (onTc (τ := Cert.LnQuantIdeal.τ) (Cert.LnQuantIdeal.main (F := Ideal))) ⟨m, fun _ => 0, g⟩ (fun r => (∀ c : Dev Cert.LnQuantIdeal.nD,
      r.2.mem ((c.tc : Thread Cert.LnQuantIdeal.nD Cert.LnQuantIdeal.τ).loc Cert.LnQuantIdeal.main_arg0) = m ((c.tc : Thread Cert.LnQuantIdeal.nD Cert.LnQuantIdeal.τ).loc Cert.LnQuantIdeal.main_arg0)
      ∧ r.2.mem ((c.tc : Thread Cert.LnQuantIdeal.nD Cert.LnQuantIdeal.τ).loc Cert.LnQuantIdeal.main_arg1) = m ((c.tc : Thread Cert.LnQuantIdeal.nD Cert.LnQuantIdeal.τ).loc Cert.LnQuantIdeal.main_arg1)
      ∧ r.2.mem ((c.tc : Thread Cert.LnQuantIdeal.nD Cert.LnQuantIdeal.τ).loc Cert.LnQuantIdeal.main_arg2) = m ((c.tc : Thread Cert.LnQuantIdeal.nD Cert.LnQuantIdeal.τ).loc Cert.LnQuantIdeal.main_arg2)
      ∧ r.2.mem ((c.tc : Thread Cert.LnQuantIdeal.nD Cert.LnQuantIdeal.τ).loc Cert.LnQuantIdeal.main_arg3) = m ((c.tc : Thread Cert.LnQuantIdeal.nD Cert.LnQuantIdeal.τ).loc Cert.LnQuantIdeal.main_arg3))
      ∧ r.2.sem = fun _ => 0)

def quiescent_LnQuantIdeal_pre_weights_below_inf [hLnQuantIdeal : Cert.LnQuantIdeal.Facts] [hPre_weights_below_inf : Cert.Pre_weights_below_inf.Facts] : Prop :=
  ∀ (m : (ℓ : Loc Cert.LnQuantIdeal.nD Cert.LnQuantIdeal.τ Cert.LnQuantIdeal.sig) → Buf (Elt Ideal) ℓ) (g : Dev Cert.LnQuantIdeal.nD → PrngReg), Pre_LnQuantIdeal_weights_below_inf m →
    θ_run (Cert.LnQuantIdeal.defs (F := Ideal)) (onTc (τ := Cert.LnQuantIdeal.τ) (Cert.LnQuantIdeal.main (F := Ideal))) ⟨m, fun _ => 0, g⟩ (fun r => (∀ c : Dev Cert.LnQuantIdeal.nD,
      r.2.mem ((c.tc : Thread Cert.LnQuantIdeal.nD Cert.LnQuantIdeal.τ).loc Cert.LnQuantIdeal.main_arg0) = m ((c.tc : Thread Cert.LnQuantIdeal.nD Cert.LnQuantIdeal.τ).loc Cert.LnQuantIdeal.main_arg0)
      ∧ r.2.mem ((c.tc : Thread Cert.LnQuantIdeal.nD Cert.LnQuantIdeal.τ).loc Cert.LnQuantIdeal.main_arg1) = m ((c.tc : Thread Cert.LnQuantIdeal.nD Cert.LnQuantIdeal.τ).loc Cert.LnQuantIdeal.main_arg1)
      ∧ r.2.mem ((c.tc : Thread Cert.LnQuantIdeal.nD Cert.LnQuantIdeal.τ).loc Cert.LnQuantIdeal.main_arg2) = m ((c.tc : Thread Cert.LnQuantIdeal.nD Cert.LnQuantIdeal.τ).loc Cert.LnQuantIdeal.main_arg2)
      ∧ r.2.mem ((c.tc : Thread Cert.LnQuantIdeal.nD Cert.LnQuantIdeal.τ).loc Cert.LnQuantIdeal.main_arg3) = m ((c.tc : Thread Cert.LnQuantIdeal.nD Cert.LnQuantIdeal.τ).loc Cert.LnQuantIdeal.main_arg3))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def quiescent_LnReferenceIdeal_pre_weights_below_inf [hLnReferenceIdeal : Cert.LnReferenceIdeal.Facts] [hPre_weights_below_inf : Cert.Pre_weights_below_inf.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal_weights_below_inf m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "neg_log2e" .f32 0xBFB8AA3B#32 ((-((Real.log 2)⁻¹) : ℝ) : EReal)
  ∧ IdealRules.bf16_pack.Statement Cert.KernelIdeal.S32x256
  ∧ IdealRules.named_const.Statement Cert.KernelIdeal.κ "rsqrt_d_log2e" .f32 0x3E8293EE#32 (((Real.sqrt 32)⁻¹ * (Real.log 2)⁻¹ : ℝ) : EReal)

def algebraic_KernelIdeal_ReferenceIdeal_pre_scales_tame [hKernelIdeal : Cert.KernelIdeal.Facts] [hReferenceIdeal : Cert.ReferenceIdeal.Facts] [hPre_scales_tame : Cert.Pre_scales_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)) (v4 : (c : Dev Cert.KernelIdeal.nD) → Buf (Elt Ideal) ((c.tc : Thread Cert.KernelIdeal.nD Cert.KernelIdeal.τ).loc Cert.KernelIdeal.main_v22_4)) (v5 : (c : Dev Cert.KernelIdeal.nD) → Buf (Elt Ideal) ((c.tc : Thread Cert.KernelIdeal.nD Cert.KernelIdeal.τ).loc Cert.KernelIdeal.main_v22_5)) (v6 : (c : Dev Cert.KernelIdeal.nD) → Buf (Elt Ideal) ((c.tc : Thread Cert.KernelIdeal.nD Cert.KernelIdeal.τ).loc Cert.KernelIdeal.main_v22_6)) (v7 : (c : Dev Cert.KernelIdeal.nD) → Buf (Elt Ideal) ((c.tc : Thread Cert.KernelIdeal.nD Cert.KernelIdeal.τ).loc Cert.KernelIdeal.main_v22_7)) (v8 : (c : Dev Cert.KernelIdeal.nD) → Buf (Elt Ideal) ((c.tc : Thread Cert.KernelIdeal.nD Cert.KernelIdeal.τ).loc Cert.KernelIdeal.main_v22_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_v22_4) = v4 c
          ∧ r.2.mem ((c.tc : Thread Cert.KernelIdeal.nD Cert.KernelIdeal.τ).loc Cert.KernelIdeal.main_v22_5) = v5 c
          ∧ r.2.mem ((c.tc : Thread Cert.KernelIdeal.nD Cert.KernelIdeal.τ).loc Cert.KernelIdeal.main_v22_6) = v6 c
          ∧ r.2.mem ((c.tc : Thread Cert.KernelIdeal.nD Cert.KernelIdeal.τ).loc Cert.KernelIdeal.main_v22_7) = v7 c
          ∧ r.2.mem ((c.tc : Thread Cert.KernelIdeal.nD Cert.KernelIdeal.τ).loc Cert.KernelIdeal.main_v22_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_v189) = v3 c
          ∧ r.2.mem ((c.tc : Thread Cert.ReferenceIdeal.nD Cert.ReferenceIdeal.τ).loc Cert.ReferenceIdeal.main_v190) = v4 c
          ∧ r.2.mem ((c.tc : Thread Cert.ReferenceIdeal.nD Cert.ReferenceIdeal.τ).loc Cert.ReferenceIdeal.main_v192) = v5 c
          ∧ r.2.mem ((c.tc : Thread Cert.ReferenceIdeal.nD Cert.ReferenceIdeal.τ).loc Cert.ReferenceIdeal.main_v194) = v6 c
          ∧ r.2.mem ((c.tc : Thread Cert.ReferenceIdeal.nD Cert.ReferenceIdeal.τ).loc Cert.ReferenceIdeal.main_v164) = v7 c
          ∧ r.2.mem ((c.tc : Thread Cert.ReferenceIdeal.nD Cert.ReferenceIdeal.τ).loc Cert.ReferenceIdeal.main_v165) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_LnQuant_LnQuantIdeal : Prop :=
  IdealRules.bf16_pack.Statement Cert.LnQuantIdeal.S8x128

def algebraic_LnQuantIdeal_LnReferenceIdeal_pre_weights_below_inf [hLnQuantIdeal : Cert.LnQuantIdeal.Facts] [hLnReferenceIdeal : Cert.LnReferenceIdeal.Facts] [hPre_weights_below_inf : Cert.Pre_weights_below_inf.Facts] : Prop :=
  ∀ (m : (ℓ : Loc Cert.LnQuantIdeal.nD Cert.LnQuantIdeal.τ Cert.LnQuantIdeal.sig) → Buf (Elt Ideal) ℓ) (g : Dev Cert.LnQuantIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnQuantIdeal_weights_below_inf m →
    (∀ c : Dev Cert.LnQuantIdeal.nD,
      m' ((c.tc : Thread Cert.LnReferenceIdeal.nD Cert.LnReferenceIdeal.τ).loc Cert.LnReferenceIdeal.main_arg0) = m ((c.tc : Thread Cert.LnQuantIdeal.nD Cert.LnQuantIdeal.τ).loc Cert.LnQuantIdeal.main_arg0)
      ∧ m' ((c.tc : Thread Cert.LnReferenceIdeal.nD Cert.LnReferenceIdeal.τ).loc Cert.LnReferenceIdeal.main_arg1) = m ((c.tc : Thread Cert.LnQuantIdeal.nD Cert.LnQuantIdeal.τ).loc Cert.LnQuantIdeal.main_arg1)
      ∧ m' ((c.tc : Thread Cert.LnReferenceIdeal.nD Cert.LnReferenceIdeal.τ).loc Cert.LnReferenceIdeal.main_arg2) = m ((c.tc : Thread Cert.LnQuantIdeal.nD Cert.LnQuantIdeal.τ).loc Cert.LnQuantIdeal.main_arg2)
      ∧ m' ((c.tc : Thread Cert.LnReferenceIdeal.nD Cert.LnReferenceIdeal.τ).loc Cert.LnReferenceIdeal.main_arg3) = m ((c.tc : Thread Cert.LnQuantIdeal.nD Cert.LnQuantIdeal.τ).loc Cert.LnQuantIdeal.main_arg3)) →
    ∃ (v0 : (c : Dev Cert.LnQuantIdeal.nD) → Buf (Elt Ideal) ((c.tc : Thread Cert.LnQuantIdeal.nD Cert.LnQuantIdeal.τ).loc Cert.LnQuantIdeal.main_v15_2)) (v1 : (c : Dev Cert.LnQuantIdeal.nD) → Buf (Elt Ideal) ((c.tc : Thread Cert.LnQuantIdeal.nD Cert.LnQuantIdeal.τ).loc Cert.LnQuantIdeal.main_v15_0)) (v2 : (c : Dev Cert.LnQuantIdeal.nD) → Buf (Elt Ideal) ((c.tc : Thread Cert.LnQuantIdeal.nD Cert.LnQuantIdeal.τ).loc Cert.LnQuantIdeal.main_v15_1)),
      θ_run (Cert.LnQuantIdeal.defs (F := Ideal)) (onTc (τ := Cert.LnQuantIdeal.τ) (Cert.LnQuantIdeal.main (F := Ideal))) ⟨m, fun _ => 0, g⟩ (fun r => ∀ c : Dev Cert.LnQuantIdeal.nD,
          r.2.mem ((c.tc : Thread Cert.LnQuantIdeal.nD Cert.LnQuantIdeal.τ).loc Cert.LnQuantIdeal.main_v15_2) = v0 c
          ∧ r.2.mem ((c.tc : Thread Cert.LnQuantIdeal.nD Cert.LnQuantIdeal.τ).loc Cert.LnQuantIdeal.main_v15_0) = v1 c
          ∧ r.2.mem ((c.tc : Thread Cert.LnQuantIdeal.nD Cert.LnQuantIdeal.τ).loc Cert.LnQuantIdeal.main_v15_1) = v2 c
          ∧ r.2.mem ((c.tc : Thread Cert.LnQuantIdeal.nD Cert.LnQuantIdeal.τ).loc Cert.LnQuantIdeal.main_arg0) = m ((c.tc : Thread Cert.LnQuantIdeal.nD Cert.LnQuantIdeal.τ).loc Cert.LnQuantIdeal.main_arg0)
          ∧ r.2.mem ((c.tc : Thread Cert.LnQuantIdeal.nD Cert.LnQuantIdeal.τ).loc Cert.LnQuantIdeal.main_arg1) = m ((c.tc : Thread Cert.LnQuantIdeal.nD Cert.LnQuantIdeal.τ).loc Cert.LnQuantIdeal.main_arg1)
          ∧ r.2.mem ((c.tc : Thread Cert.LnQuantIdeal.nD Cert.LnQuantIdeal.τ).loc Cert.LnQuantIdeal.main_arg2) = m ((c.tc : Thread Cert.LnQuantIdeal.nD Cert.LnQuantIdeal.τ).loc Cert.LnQuantIdeal.main_arg2)
          ∧ r.2.mem ((c.tc : Thread Cert.LnQuantIdeal.nD Cert.LnQuantIdeal.τ).loc Cert.LnQuantIdeal.main_arg3) = m ((c.tc : Thread Cert.LnQuantIdeal.nD Cert.LnQuantIdeal.τ).loc Cert.LnQuantIdeal.main_arg3))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v44) = v0 c
          ∧ r.2.mem ((c.tc : Thread Cert.LnReferenceIdeal.nD Cert.LnReferenceIdeal.τ).loc Cert.LnReferenceIdeal.main_v36) = v1 c
          ∧ r.2.mem ((c.tc : Thread Cert.LnReferenceIdeal.nD Cert.LnReferenceIdeal.τ).loc Cert.LnReferenceIdeal.main_v37) = v2 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2)
          ∧ r.2.mem ((c.tc : Thread Cert.LnReferenceIdeal.nD Cert.LnReferenceIdeal.τ).loc Cert.LnReferenceIdeal.main_arg3) = m' ((c.tc : Thread Cert.LnReferenceIdeal.nD Cert.LnReferenceIdeal.τ).loc Cert.LnReferenceIdeal.main_arg3))

def Claim : Prop :=
  ∃ (hKernel : Cert.Kernel.Facts) (hKernelIdeal : Cert.KernelIdeal.Facts) (hReferenceIdeal : Cert.ReferenceIdeal.Facts) (hLnQuant : Cert.LnQuant.Facts) (hLnQuantIdeal : Cert.LnQuantIdeal.Facts) (hLnReferenceIdeal : Cert.LnReferenceIdeal.Facts) (hPre_scales_tame : Cert.Pre_scales_tame.Facts) (hPre_weights_below_inf : Cert.Pre_weights_below_inf.Facts),
    quiescent_Kernel (hKernel := hKernel)
    ∧ quiescent_KernelIdeal (hKernelIdeal := hKernelIdeal)
    ∧ quiescent_KernelIdeal_pre_scales_tame (hKernelIdeal := hKernelIdeal) (hPre_scales_tame := hPre_scales_tame)
    ∧ quiescent_ReferenceIdeal (hReferenceIdeal := hReferenceIdeal)
    ∧ quiescent_ReferenceIdeal_pre_scales_tame (hReferenceIdeal := hReferenceIdeal) (hPre_scales_tame := hPre_scales_tame)
    ∧ quiescent_LnQuant (hLnQuant := hLnQuant)
    ∧ quiescent_LnQuantIdeal (hLnQuantIdeal := hLnQuantIdeal)
    ∧ quiescent_LnQuantIdeal_pre_weights_below_inf (hLnQuantIdeal := hLnQuantIdeal) (hPre_weights_below_inf := hPre_weights_below_inf)
    ∧ quiescent_LnReferenceIdeal (hLnReferenceIdeal := hLnReferenceIdeal)
    ∧ quiescent_LnReferenceIdeal_pre_weights_below_inf (hLnReferenceIdeal := hLnReferenceIdeal) (hPre_weights_below_inf := hPre_weights_below_inf)
    ∧ preserves_Kernel_KernelIdeal
    ∧ algebraic_KernelIdeal_ReferenceIdeal_pre_scales_tame (hKernelIdeal := hKernelIdeal) (hReferenceIdeal := hReferenceIdeal) (hPre_scales_tame := hPre_scales_tame)
    ∧ preserves_LnQuant_LnQuantIdeal
    ∧ algebraic_LnQuantIdeal_LnReferenceIdeal_pre_weights_below_inf (hLnQuantIdeal := hLnQuantIdeal) (hLnReferenceIdeal := hLnReferenceIdeal) (hPre_weights_below_inf := hPre_weights_below_inf)
-- ==== Pre_scales_tame.lean ====
abbrev S5x256x256x128 : Shape := ⟨4, ![5, 256, 256, 128]⟩
abbrev S5x256x256 : Shape := ⟨3, ![5, 256, 256]⟩
abbrev S5x4x256x256 : Shape := ⟨4, ![5, 4, 256, 256]⟩
abbrev S128x4x32 : Shape := ⟨3, ![128, 4, 32]⟩
abbrev S4x32 : Shape := ⟨2, ![4, 32]⟩
abbrev S4x32x128 : Shape := ⟨3, ![4, 32, 128]⟩
abbrev S128 : Shape := ⟨1, ![128]⟩
abbrev S5x1x256x1x256 : Shape := ⟨5, ![5, 1, 256, 1, 256]⟩
abbrev S5x4x1x256x256 : Shape := ⟨5, ![5, 4, 1, 256, 256]⟩
abbrev S_ : Shape := ⟨0, ![]⟩
abbrev S5x4x256x256x256 : Shape := ⟨5, ![5, 4, 256, 256, 256]⟩

class Facts : Prop where
  bcast_S5x256x256_S5x1x256x1x256_0_2_4 : S5x256x256.BroadcastsInDim S5x1x256x1x256 (![0, 2, 4] : Fin 3 → Fin S5x1x256x1x256.rank)
  bcast_S5x4x256x256_S5x4x1x256x256_0_1_3_4 : S5x4x256x256.BroadcastsInDim S5x4x1x256x256 (![0, 1, 3, 4] : Fin 4 → Fin S5x4x1x256x256.rank)
  bcast_S_S5x256x256 : S_.BroadcastsInDim S5x256x256 (![] : Fin 0 → Fin S5x256x256.rank)
  reducesTo_S5x256x256_S_d0_1_2 : S5x256x256.ReducesTo [0, 1, 2] S_
  h_S_ : 0 < S_.numel
  bcast_S_S4x32 : S_.BroadcastsInDim S4x32 (![] : Fin 0 → Fin S4x32.rank)
  reducesTo_S4x32_S_d0_1 : S4x32.ReducesTo [0, 1] S_
  bcast_S_S5x1x256x1x256 : S_.BroadcastsInDim S5x1x256x1x256 (![] : Fin 0 → Fin S5x1x256x1x256.rank)
  bcast_S_S5x4x1x256x256 : S_.BroadcastsInDim S5x4x1x256x256 (![] : Fin 0 → Fin S5x4x1x256x256.rank)
  bcast_S5x1x256x1x256_S5x4x256x256x256_0_1_2_3_4 : S5x1x256x1x256.BroadcastsInDim S5x4x256x256x256 (![0, 1, 2, 3, 4] : Fin 5 → Fin S5x4x256x256x256.rank)
  bcast_S5x4x1x256x256_S5x4x256x256x256_0_1_2_3_4 : S5x4x1x256x256.BroadcastsInDim S5x4x256x256x256 (![0, 1, 2, 3, 4] : Fin 5 → Fin S5x4x256x256x256.rank)
  reducesTo_S5x4x256x256x256_S_d0_1_2_3_4 : S5x4x256x256x256.ReducesTo [0, 1, 2, 3, 4] S_
  reducesTo_S5x4x256x256x256_S5x4x256x256_d4 : S5x4x256x256x256.ReducesTo [4] S5x4x256x256
  reducesTo_S5x4x256x256_S_d0_1_2_3 : S5x4x256x256.ReducesTo [0, 1, 2, 3] S_

variable [Facts]

def fn_part1 {F : FTy → Type} [FloatOps F] (main_v0 : IVec S5x1x256x1x256 8) (main_v1 : FVec F S5x4x1x256x256 .f32) (main_v12 : IVec S_ 1) (main_v14 : IVec S5x1x256x1x256 1) (main_v16 : IVec S5x4x1x256x256 1) : IVec S_ 1 :=
  let main_v17 : IVec S5x4x256x256x256 1 := broadcastInDim S5x4x256x256x256 ![0, 1, 2, 3, 4] bcast_S5x1x256x1x256_S5x4x256x256x256_0_1_2_3_4 main_v14
  let main_v18 : IVec S5x4x256x256x256 1 := broadcastInDim S5x4x256x256x256 ![0, 1, 2, 3, 4] bcast_S5x4x1x256x256_S5x4x256x256x256_0_1_2_3_4 main_v16
  let main_v19 : IVec S5x4x256x256x256 1 := ori main_v17 main_v18
  let main_c_5 : IVec S_ 1 := constantI S_ 1 1#1
  let main_v20 : IVec S_ 1 := (fun x v => Host.reduce IntOp.andi x v reducesTo_S5x4x256x256x256_S_d0_1_2_3_4 h_S_) main_v19 main_c_5
  let main_v21 : IVec S_ 1 := andi main_v12 main_v20
  let main_c_6 : IVec S_ 8 := constantI S_ 8 0#8
  let main_v22 : IVec S5x1x256x1x256 8 := broadcastInDim S5x1x256x1x256 ![] bcast_S_S5x1x256x1x256 main_c_6
  let main_v23 : IVec S5x1x256x1x256 1 := cmpi .ne main_v0 main_v22
  let main_cst_7 : FVec F S_ .f32 := constant S_ .f32 0xFF800000#32
  let main_v24 : FVec F S5x4x1x256x256 .f32 := broadcastInDim S5x4x1x256x256 ![] bcast_S_S5x4x1x256x256 main_cst_7
  let main_v25 : IVec S5x4x1x256x256 1 := cmpf .ogt main_v1 main_v24
  let main_v26 : IVec S5x4x256x256x256 1 := broadcastInDim S5x4x256x256x256 ![0, 1, 2, 3, 4] bcast_S5x1x256x1x256_S5x4x256x256x256_0_1_2_3_4 main_v23
  let main_v27 : IVec S5x4x256x256x256 1 := broadcastInDim S5x4x256x256x256 ![0, 1, 2, 3, 4] bcast_S5x4x1x256x256_S5x4x256x256x256_0_1_2_3_4 main_v25
  let main_v28 : IVec S5x4x256x256x256 1 := andi main_v26 main_v27
  let main_c_8 : IVec S_ 1 := constantI S_ 1 0#1
  let main_v29 : IVec S5x4x256x256 1 := (fun x v => Host.reduce IntOp.ori x v reducesTo_S5x4x256x256x256_S5x4x256x256_d4 h_S_) main_v28 main_c_8
  let main_c_9 : IVec S_ 1 := constantI S_ 1 1#1
  let main_v30 : IVec S_ 1 := (fun x v => Host.reduce IntOp.andi x v reducesTo_S5x4x256x256_S_d0_1_2_3 h_S_) main_v29 main_c_9
  let main_v31 : IVec S_ 1 := andi main_v21 main_v30
  main_v31

def fn {F : FTy → Type} [FloatOps F] (main_arg0 : FVec F S5x256x256x128 .bf16) (main_arg1 : IVec S5x256x256x128 8) (main_arg2 : FVec F S5x256x256 .f32) (main_arg3 : IVec S5x256x256 8) (main_arg4 : FVec F S5x4x256x256 .f32) (main_arg5 : IVec S128x4x32 8) (main_arg6 : FVec F S4x32 .f32) (main_arg7 : IVec S128x4x32 8) (main_arg8 : FVec F S4x32 .f32) (main_arg9 : IVec S128x4x32 8) (main_arg10 : FVec F S4x32 .f32) (main_arg11 : IVec S128x4x32 8) (main_arg12 : FVec F S4x32 .f32) (main_arg13 : FVec F S4x32 .f32) (main_arg14 : IVec S4x32x128 8) (main_arg15 : FVec F S128 .f32) (main_arg16 : FVec F S128 .f32) : IVec S_ 1 :=
  let main_v0 : IVec S5x1x256x1x256 8 := broadcastInDim S5x1x256x1x256 ![0, 2, 4] bcast_S5x256x256_S5x1x256x1x256_0_2_4 main_arg3
  let main_v1 : FVec F S5x4x1x256x256 .f32 := broadcastInDim S5x4x1x256x256 ![0, 1, 3, 4] bcast_S5x4x256x256_S5x4x1x256x256_0_1_3_4 main_arg4
  let main_cst : FVec F S_ .f32 := constant S_ .f32 0x00000000#32
  let main_v2 : FVec F S5x256x256 .f32 := broadcastInDim S5x256x256 ![] bcast_S_S5x256x256 main_cst
  let main_v3 : IVec S5x256x256 1 := cmpf .oge main_arg2 main_v2
  let main_cst_0 : FVec F S_ .f32 := constant S_ .f32 0x7F800000#32
  let main_v4 : FVec F S5x256x256 .f32 := broadcastInDim S5x256x256 ![] bcast_S_S5x256x256 main_cst_0
  let main_v5 : IVec S5x256x256 1 := cmpf .olt main_arg2 main_v4
  let main_v6 : IVec S5x256x256 1 := andi main_v3 main_v5
  let main_c : IVec S_ 1 := constantI S_ 1 1#1
  let main_v7 : IVec S_ 1 := (fun x v => Host.reduce IntOp.andi x v reducesTo_S5x256x256_S_d0_1_2 h_S_) main_v6 main_c
  let main_v8 : FVec F S4x32 .f32 := Host.absf main_arg12
  let main_cst_1 : FVec F S_ .f32 := constant S_ .f32 0x7F800000#32
  let main_v9 : FVec F S4x32 .f32 := broadcastInDim S4x32 ![] bcast_S_S4x32 main_cst_1
  let main_v10 : IVec S4x32 1 := cmpf .olt main_v8 main_v9
  let main_c_2 : IVec S_ 1 := constantI S_ 1 1#1
  let main_v11 : IVec S_ 1 := (fun x v => Host.reduce IntOp.andi x v reducesTo_S4x32_S_d0_1 h_S_) main_v10 main_c_2
  let main_v12 : IVec S_ 1 := andi main_v7 main_v11
  let main_c_3 : IVec S_ 8 := constantI S_ 8 0#8
  let main_v13 : IVec S5x1x256x1x256 8 := broadcastInDim S5x1x256x1x256 ![] bcast_S_S5x1x256x1x256 main_c_3
  let main_v14 : IVec S5x1x256x1x256 1 := cmpi .eq main_v0 main_v13
  let main_cst_4 : FVec F S_ .f32 := constant S_ .f32 0x7F800000#32
  let main_v15 : FVec F S5x4x1x256x256 .f32 := broadcastInDim S5x4x1x256x256 ![] bcast_S_S5x4x1x256x256 main_cst_4
  let main_v16 : IVec S5x4x1x256x256 1 := cmpf .olt main_v1 main_v15
  fn_part1 (F := F) main_v0 main_v1 main_v12 main_v14 main_v16
-- ==== Pre_weights_below_inf.lean ====
abbrev S5x256x256x128 : Shape := ⟨4, ![5, 256, 256, 128]⟩
abbrev S128 : Shape := ⟨1, ![128]⟩
abbrev S128x4 : Shape := ⟨2, ![128, 4]⟩
abbrev S_ : Shape := ⟨0, ![]⟩

class Facts : Prop where
  bcast_S_S128x4 : S_.BroadcastsInDim S128x4 (![] : Fin 0 → Fin S128x4.rank)
  reducesTo_S128x4_S_d0_1 : S128x4.ReducesTo [0, 1] S_
  h_S_ : 0 < S_.numel

variable [Facts]

def fn {F : FTy → Type} [FloatOps F] (main_arg0 : FVec F S5x256x256x128 .bf16) (main_arg1 : FVec F S128 .f32) (main_arg2 : FVec F S128 .f32) (main_arg3 : FVec F S128x4 .f32) : IVec S_ 1 :=
  let main_cst : FVec F S_ .f32 := constant S_ .f32 0x7F800000#32
  let main_v0 : FVec F S128x4 .f32 := broadcastInDim S128x4 ![] bcast_S_S128x4 main_cst
  let main_v1 : IVec S128x4 1 := cmpf .olt main_arg3 main_v0
  let main_c : IVec S_ 1 := constantI S_ 1 1#1
  let main_v2 : IVec S_ 1 := (fun x v => Host.reduce IntOp.andi x v reducesTo_S128x4_S_d0_1 h_S_) main_v1 main_c
  main_v2
-- ==== Kernel.lean ====
abbrev S5x256x256x128 : Shape := ⟨4, ![5, 256, 256, 128]⟩
abbrev S5x256x256 : Shape := ⟨3, ![5, 256, 256]⟩
abbrev S5x4x256x256 : Shape := ⟨4, ![5, 4, 256, 256]⟩
abbrev S128x4x32 : Shape := ⟨3, ![128, 4, 32]⟩
abbrev S4x32 : Shape := ⟨2, ![4, 32]⟩
abbrev S4x32x128 : Shape := ⟨3, ![4, 32, 128]⟩
abbrev S128 : Shape := ⟨1, ![128]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S128x1 : Shape := ⟨2, ![128, 1]⟩
abbrev S128x256 : Shape := ⟨2, ![128, 256]⟩
abbrev S1x128 : Shape := ⟨2, ![1, 128]⟩
abbrev S5x256x128x256 : Shape := ⟨4, ![5, 256, 128, 256]⟩
abbrev S5x256x4x256 : Shape := ⟨4, ![5, 256, 4, 256]⟩
abbrev S5x128x256 : Shape := ⟨3, ![5, 128, 256]⟩
abbrev S1x32x256x128 : Shape := ⟨4, ![1, 32, 256, 128]⟩
abbrev S1x32x256 : Shape := ⟨3, ![1, 32, 256]⟩
abbrev S1x4x256x256 : Shape := ⟨4, ![1, 4, 256, 256]⟩
abbrev S1x32x128x256 : Shape := ⟨4, ![1, 32, 128, 256]⟩
abbrev S1x32x4x256 : Shape := ⟨4, ![1, 32, 4, 256]⟩
abbrev S1x128x256 : Shape := ⟨3, ![1, 128, 256]⟩
abbrev S4x256x256 : Shape := ⟨3, ![4, 256, 256]⟩
abbrev S32x256 : Shape := ⟨2, ![32, 256]⟩
abbrev S1x1x256x256 : Shape := ⟨4, ![1, 1, 256, 256]⟩
abbrev S256x256 : Shape := ⟨2, ![256, 256]⟩
abbrev S1x256x256 : Shape := ⟨3, ![1, 256, 256]⟩
abbrev S1x1x256x128 : Shape := ⟨4, ![1, 1, 256, 128]⟩
abbrev S256x128 : Shape := ⟨2, ![256, 128]⟩
abbrev S1x1x256 : Shape := ⟨3, ![1, 1, 256]⟩
abbrev S1x256 : Shape := ⟨2, ![1, 256]⟩
abbrev S4x32x256 : Shape := ⟨3, ![4, 32, 256]⟩
abbrev S4x256 : Shape := ⟨2, ![4, 256]⟩
abbrev S4x1x256 : Shape := ⟨3, ![4, 1, 256]⟩
abbrev S1x1x128x256 : Shape := ⟨4, ![1, 1, 128, 256]⟩
abbrev S1x1x4x256 : Shape := ⟨4, ![1, 1, 4, 256]⟩
abbrev S256 : Shape := ⟨1, ![256]⟩
abbrev S32x1 : Shape := ⟨2, ![32, 1]⟩
abbrev S8x256 : Shape := ⟨2, ![8, 256]⟩
abbrev S256x8 : Shape := ⟨2, ![256, 8]⟩
abbrev S256x1 : Shape := ⟨2, ![256, 1]⟩

abbrev nBuf : Space → Nat
  | .hbm => 48
  | .vmem => 36
  | .smem => 0
  | _ => 0

abbrev bufTy : (tb : Table) → Fin (tcTables nBuf tb) → BufTy
  | .hbm, ⟨0, _⟩ => ⟨S5x256x256x128, .bf16⟩
  | .hbm, ⟨1, _⟩ => ⟨S5x256x256x128, .i8⟩
  | .hbm, ⟨2, _⟩ => ⟨S5x256x256, .f32⟩
  | .hbm, ⟨3, _⟩ => ⟨S5x256x256, .i8⟩
  | .hbm, ⟨4, _⟩ => ⟨S5x4x256x256, .f32⟩
  | .hbm, ⟨5, _⟩ => ⟨S128x4x32, .i8⟩
  | .hbm, ⟨6, _⟩ => ⟨S4x32, .f32⟩
  | .hbm, ⟨7, _⟩ => ⟨S128x4x32, .i8⟩
  | .hbm, ⟨8, _⟩ => ⟨S4x32, .f32⟩
  | .hbm, ⟨9, _⟩ => ⟨S128x4x32, .i8⟩
  | .hbm, ⟨10, _⟩ => ⟨S4x32, .f32⟩
  | .hbm, ⟨11, _⟩ => ⟨S128x4x32, .i8⟩
  | .hbm, ⟨12, _⟩ => ⟨S4x32, .f32⟩
  | .hbm, ⟨13, _⟩ => ⟨S4x32, .f32⟩
  | .hbm, ⟨14, _⟩ => ⟨S4x32x128, .i8⟩
  | .hbm, ⟨15, _⟩ => ⟨S128, .f32⟩
  | .hbm, ⟨16, _⟩ => ⟨S128, .f32⟩
  | .hbm, ⟨17, _⟩ => ⟨S128x128, .i8⟩
  | .hbm, ⟨18, _⟩ => ⟨S128x128, .i8⟩
  | .hbm, ⟨19, _⟩ => ⟨S128x128, .i8⟩
  | .hbm, ⟨20, _⟩ => ⟨S128x128, .i8⟩
  | .hbm, ⟨21, _⟩ => ⟨S128x128, .i8⟩
  | .hbm, ⟨22, _⟩ => ⟨S128x128, .i8⟩
  | .hbm, ⟨23, _⟩ => ⟨S128x128, .i8⟩
  | .hbm, ⟨24, _⟩ => ⟨S128x128, .i8⟩
  | .hbm, ⟨25, _⟩ => ⟨S512x128, .i8⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S512, .f32⟩
  | .hbm, ⟨31, _⟩ => ⟨S512x1, .f32⟩
  | .hbm, ⟨32, _⟩ => ⟨S512x256, .f32⟩
  | .hbm, ⟨33, _⟩ => ⟨S128, .f32⟩
  | .hbm, ⟨34, _⟩ => ⟨S128x1, .f32⟩
  | .hbm, ⟨35, _⟩ => ⟨S128x256, .f32⟩
  | .hbm, ⟨36, _⟩ => ⟨S128x128, .i8⟩
  | .hbm, ⟨37, _⟩ => ⟨S1x128, .f32⟩
  | .hbm, ⟨38, _⟩ => ⟨S1x128, .f32⟩
  | .hbm, ⟨39, _⟩ => ⟨S5x256x256x128, .bf16⟩
  | .hbm, ⟨40, _⟩ => ⟨S5x256x128x256, .i8⟩
  | .hbm, ⟨41, _⟩ => ⟨S5x256x4x256, .f32⟩
  | .hbm, ⟨42, _⟩ => ⟨S5x256x128x256, .i8⟩
  | .hbm, ⟨43, _⟩ => ⟨S5x256x4x256, .f32⟩
  | .hbm, ⟨44, _⟩ => ⟨S5x256x128x256, .i8⟩
  | .hbm, ⟨45, _⟩ => ⟨S5x128x256, .f32⟩
  | .hbm, ⟨46, _⟩ => ⟨S5x256x256x128, .i8⟩
  | .hbm, ⟨47, _⟩ => ⟨S5x256x256, .f32⟩
  | .local _ .vmem, ⟨0, _⟩ => ⟨S1x32x256x128, .bf16⟩
  | .local _ .vmem, ⟨1, _⟩ => ⟨S1x32x256x128, .bf16⟩
  | .local _ .vmem, ⟨2, _⟩ => ⟨S1x32x256x128, .i8⟩
  | .local _ .vmem, ⟨3, _⟩ => ⟨S1x32x256x128, .i8⟩
  | .local _ .vmem, ⟨4, _⟩ => ⟨S1x32x256, .f32⟩
  | .local _ .vmem, ⟨5, _⟩ => ⟨S1x32x256, .f32⟩
  | .local _ .vmem, ⟨6, _⟩ => ⟨S1x32x256, .i8⟩
  | .local _ .vmem, ⟨7, _⟩ => ⟨S1x32x256, .i8⟩
  | .local _ .vmem, ⟨8, _⟩ => ⟨S1x4x256x256, .f32⟩
  | .local _ .vmem, ⟨9, _⟩ => ⟨S1x4x256x256, .f32⟩
  | .local _ .vmem, ⟨10, _⟩ => ⟨S512x128, .i8⟩
  | .local _ .vmem, ⟨11, _⟩ => ⟨S512x256, .f32⟩
  | .local _ .vmem, ⟨12, _⟩ => ⟨S128x256, .f32⟩
  | .local _ .vmem, ⟨13, _⟩ => ⟨S128x128, .i8⟩
  | .local _ .vmem, ⟨14, _⟩ => ⟨S1x128, .f32⟩
  | .local _ .vmem, ⟨15, _⟩ => ⟨S1x128, .f32⟩
  | .local _ .vmem, ⟨16, _⟩ => ⟨S1x32x256x128, .bf16⟩
  | .local _ .vmem, ⟨17, _⟩ => ⟨S1x32x256x128, .bf16⟩
  | .local _ .vmem, ⟨18, _⟩ => ⟨S1x32x128x256, .i8⟩
  | .local _ .vmem, ⟨19, _⟩ => ⟨S1x32x128x256, .i8⟩
  | .local _ .vmem, ⟨20, _⟩ => ⟨S1x32x4x256, .f32⟩
  | .local _ .vmem, ⟨21, _⟩ => ⟨S1x32x4x256, .f32⟩
  | .local _ .vmem, ⟨22, _⟩ => ⟨S1x32x128x256, .i8⟩
  | .local _ .vmem, ⟨23, _⟩ => ⟨S1x32x128x256, .i8⟩
  | .local _ .vmem, ⟨24, _⟩ => ⟨S1x32x4x256, .f32⟩
  | .local _ .vmem, ⟨25, _⟩ => ⟨S1x32x4x256, .f32⟩
  | .local _ .vmem, ⟨26, _⟩ => ⟨S1x32x128x256, .i8⟩
  | .local _ .vmem, ⟨27, _⟩ => ⟨S1x32x128x256, .i8⟩
  | .local _ .vmem, ⟨28, _⟩ => ⟨S1x128x256, .f32⟩
  | .local _ .vmem, ⟨29, _⟩ => ⟨S1x128x256, .f32⟩
  | .local _ .vmem, ⟨30, _⟩ => ⟨S1x32x256x128, .i8⟩
  | .local _ .vmem, ⟨31, _⟩ => ⟨S1x32x256x128, .i8⟩
  | .local _ .vmem, ⟨32, _⟩ => ⟨S1x32x256, .f32⟩
  | .local _ .vmem, ⟨33, _⟩ => ⟨S1x32x256, .f32⟩
  | .local _ .vmem, ⟨34, _⟩ => ⟨S4x256x256, .f32⟩
  | .local _ .vmem, ⟨35, _⟩ => ⟨S32x256, .f32⟩
  | _, _ => ⟨S5x256x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev main_v22_3 : Ref sig .tc := ⟨.hbm, 42, rfl⟩
abbrev main_v22_4 : Ref sig .tc := ⟨.hbm, 43, rfl⟩
abbrev main_v22_5 : Ref sig .tc := ⟨.hbm, 44, rfl⟩
abbrev main_v22_6 : Ref sig .tc := ⟨.hbm, 45, rfl⟩
abbrev main_v22_7 : Ref sig .tc := ⟨.hbm, 46, rfl⟩
abbrev main_v22_8 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [BitOps F]

abbrev grid0 : Pipeline.Grid := ⟨2, ![5, 8], ![false, false]⟩

@[reducible] def k0_t1_loop : Scf.Loop 32 :=
  let c0_i32_10 : BitVec 32 := 0#32
  let c32_i32 : BitVec 32 := 32#32
  let v22 : BitVec 32 := Scalar.addi c0_i32_10 c32_i32
  let c1_i32 : BitVec 32 := 1#32
  ⟨c0_i32_10, v22, c1_i32⟩
def k0_off1 (k0_t1 : Fin k0_t1_loop.trips) : Fin 4 → Nat :=
  let c0_12 : Index := 0#32
  let c0_i32_10 : BitVec 32 := 0#32
  let c1_i32 : BitVec 32 := 1#32
  let arg24 : BitVec 32 := Scf.iv c0_i32_10 c1_i32 k0_t1
  let v23 : Index := Scalar.indexCast arg24
  let c0_13 : Index := 0#32
  let c0_14 : Index := 0#32
  ![0, v23.toNat, 0, 0]
def k0_off2 (k0_t1 : Fin k0_t1_loop.trips) : Fin 3 → Nat :=
  let c0_15 : Index := 0#32
  let c0_i32_10 : BitVec 32 := 0#32
  let c1_i32 : BitVec 32 := 1#32
  let arg24 : BitVec 32 := Scf.iv c0_i32_10 c1_i32 k0_t1
  let v28 : Index := Scalar.indexCast arg24
  let c0_16 : Index := 0#32
  ![0, v28.toNat, 0]
def k0_off3 (k0_t1 : Fin k0_t1_loop.trips) : Fin 4 → Nat :=
  let c0_38 : Index := 0#32
  let c0_i32_10 : BitVec 32 := 0#32
  let c1_i32 : BitVec 32 := 1#32
  let arg24 : BitVec 32 := Scf.iv c0_i32_10 c1_i32 k0_t1
  let v89 : Index := Scalar.indexCast arg24
  let c0_39 : Index := 0#32
  let c0_40 : Index := 0#32
  ![0, v89.toNat, 0, 0]
def k0_off4 (k0_t1 : Fin k0_t1_loop.trips) : Fin 4 → Nat :=
  let c0_44 : Index := 0#32
  let c0_i32_10 : BitVec 32 := 0#32
  let c1_i32 : BitVec 32 := 1#32
  let arg24 : BitVec 32 := Scf.iv c0_i32_10 c1_i32 k0_t1
  let v99 : Index := Scalar.indexCast arg24
  let c0_45 : Index := 0#32
  let c0_46 : Index := 0#32
  ![0, v99.toNat, 0, 0]
def k0_off5 (k0_t1 : Fin k0_t1_loop.trips) : Fin 2 → Nat :=
  let c0_i32_10 : BitVec 32 := 0#32
  let c1_i32 : BitVec 32 := 1#32
  let arg24 : BitVec 32 := Scf.iv c0_i32_10 c1_i32 k0_t1
  let v175 : Index := Scalar.indexCast arg24
  let c0_81 : Index := 0#32
  ![v175.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x32x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x128x256 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x4x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x128x256 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x32x4x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x32x128x256 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x32x256x128 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x32x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | "rsqrt_d_log2e" => some (((Real.sqrt 32)⁻¹ * (Real.log 2)⁻¹ : ℝ) : EReal)
  | _ => none
-- ==== ReferenceIdeal.lean ====
abbrev S5x256x256x128 : Shape := ⟨4, ![5, 256, 256, 128]⟩
abbrev S5x256x256 : Shape := ⟨3, ![5, 256, 256]⟩
abbrev S5x4x256x256 : Shape := ⟨4, ![5, 4, 256, 256]⟩
abbrev S128x4x32 : Shape := ⟨3, ![128, 4, 32]⟩
abbrev S4x32 : Shape := ⟨2, ![4, 32]⟩
abbrev S4x32x128 : Shape := ⟨3, ![4, 32, 128]⟩
abbrev S128 : Shape := ⟨1, ![128]⟩
abbrev S5x256x256x4x32 : Shape := ⟨5, ![5, 256, 256, 4, 32]⟩
abbrev S5x256x256x1x1 : Shape := ⟨5, ![5, 256, 256, 1, 1]⟩
abbrev S1x1x1x4x32 : Shape := ⟨5, ![1, 1, 1, 4, 32]⟩
abbrev S_ : Shape := ⟨0, ![]⟩
abbrev S5x256x256x4 : Shape := ⟨4, ![5, 256, 256, 4]⟩
abbrev S5x256x256x4x1 : Shape := ⟨5, ![5, 256, 256, 4, 1]⟩
abbrev S5x256x4x32 : Shape := ⟨4, ![5, 256, 4, 32]⟩
abbrev S5x256x1x4x32 : Shape := ⟨5, ![5, 256, 1, 4, 32]⟩
abbrev S5x256x4x256x256 : Shape := ⟨5, ![5, 256, 4, 256, 256]⟩
abbrev S5x256x4x256 : Shape := ⟨4, ![5, 256, 4, 256]⟩
abbrev S5x256x4x256x1 : Shape := ⟨5, ![5, 256, 4, 256, 1]⟩
abbrev S5x256x4x1x256 : Shape := ⟨5, ![5, 256, 4, 1, 256]⟩
abbrev S5x1x4x256x256 : Shape := ⟨5, ![5, 1, 4, 256, 256]⟩
abbrev S5x256x1x1x256 : Shape := ⟨5, ![5, 256, 1, 1, 256]⟩
abbrev S5x256x4x32x256 : Shape := ⟨5, ![5, 256, 4, 32, 256]⟩
abbrev S5x256x256x1 : Shape := ⟨4, ![5, 256, 256, 1]⟩
abbrev S1x1x1x128 : Shape := ⟨4, ![1, 1, 1, 128]⟩
abbrev S5x256x128x256 : Shape := ⟨4, ![5, 256, 128, 256]⟩
abbrev S5x4x32x256 : Shape := ⟨4, ![5, 4, 32, 256]⟩
abbrev S5x128x256 : Shape := ⟨3, ![5, 128, 256]⟩

abbrev nBuf : Space → Nat
  | .hbm => 276
  | .vmem => 0
  | .smem => 0
  | _ => 0

abbrev hbmTy0_0 (i : Nat) : BufTy := match i % 128 with
  | 0 => ⟨S5x256x256x128, .bf16⟩
  | 1 => ⟨S5x256x256x128, .i8⟩
  | 2 => ⟨S5x256x256, .f32⟩
  | 3 => ⟨S5x256x256, .i8⟩
  | 4 => ⟨S5x4x256x256, .f32⟩
  | 5 => ⟨S128x4x32, .i8⟩
  | 6 => ⟨S4x32, .f32⟩
  | 7 => ⟨S128x4x32, .i8⟩
  | 8 => ⟨S4x32, .f32⟩
  | 9 => ⟨S128x4x32, .i8⟩
  | 10 => ⟨S4x32, .f32⟩
  | 11 => ⟨S128x4x32, .i8⟩
  | 12 => ⟨S4x32, .f32⟩
  | 13 => ⟨S4x32, .f32⟩
  | 14 => ⟨S4x32x128, .i8⟩
  | 15 => ⟨S128, .f32⟩
  | 16 => ⟨S128, .f32⟩
  | 17 => ⟨S5x256x256x128, .f32⟩
  | 18 => ⟨S5x256x256x128, .i32⟩
  | 19 => ⟨S5x256x256x128, .f32⟩
  | 20 => ⟨S5x256x256x128, .bf16⟩
  | 21 => ⟨S128x4x32, .i32⟩
  | 22 => ⟨S128x4x32, .f32⟩
  | 23 => ⟨S128x4x32, .bf16⟩
  | 24 => ⟨S5x256x256x4x32, .f32⟩
  | 25 => ⟨S5x256x256x1x1, .f32⟩
  | 26 => ⟨S5x256x256x4x32, .f32⟩
  | 27 => ⟨S5x256x256x4x32, .f32⟩
  | 28 => ⟨S1x1x1x4x32, .f32⟩
  | 29 => ⟨S5x256x256x4x32, .f32⟩
  | 30 => ⟨S5x256x256x4x32, .f32⟩
  | 31 => ⟨S128x4x32, .i32⟩
  | 32 => ⟨S128x4x32, .f32⟩
  | 33 => ⟨S128x4x32, .bf16⟩
  | 34 => ⟨S5x256x256x4x32, .f32⟩
  | 35 => ⟨S5x256x256x1x1, .f32⟩
  | 36 => ⟨S5x256x256x4x32, .f32⟩
  | 37 => ⟨S5x256x256x4x32, .f32⟩
  | 38 => ⟨S1x1x1x4x32, .f32⟩
  | 39 => ⟨S5x256x256x4x32, .f32⟩
  | 40 => ⟨S5x256x256x4x32, .f32⟩
  | 41 => ⟨S128x4x32, .i32⟩
  | 42 => ⟨S128x4x32, .f32⟩
  | 43 => ⟨S128x4x32, .bf16⟩
  | 44 => ⟨S5x256x256x4x32, .f32⟩
  | 45 => ⟨S5x256x256x1x1, .f32⟩
  | 46 => ⟨S5x256x256x4x32, .f32⟩
  | 47 => ⟨S5x256x256x4x32, .f32⟩
  | 48 => ⟨S1x1x1x4x32, .f32⟩
  | 49 => ⟨S5x256x256x4x32, .f32⟩
  | 50 => ⟨S5x256x256x4x32, .f32⟩
  | 51 => ⟨S128x4x32, .i32⟩
  | 52 => ⟨S128x4x32, .f32⟩
  | 53 => ⟨S128x4x32, .bf16⟩
  | 54 => ⟨S5x256x256x4x32, .f32⟩
  | 55 => ⟨S5x256x256x1x1, .f32⟩
  | 56 => ⟨S5x256x256x4x32, .f32⟩
  | 57 => ⟨S5x256x256x4x32, .f32⟩
  | 58 => ⟨S1x1x1x4x32, .f32⟩
  | 59 => ⟨S5x256x256x4x32, .f32⟩
  | 60 => ⟨S5x256x256x4x32, .f32⟩
  | 61 => ⟨S1x1x1x4x32, .f32⟩
  | 62 => ⟨S5x256x256x4x32, .f32⟩
  | 63 => ⟨S5x256x256x4x32, .f32⟩
  | 64 => ⟨S5x256x256x4x32, .f32⟩
  | 65 => ⟨S5x256x256x4x32, .f32⟩
  | 66 => ⟨S_, .f32⟩
  | 67 => ⟨S5x256x256x4x32, .f32⟩
  | 68 => ⟨S5x256x256x4x32, .f32⟩
  | 69 => ⟨S_, .f32⟩
  | 70 => ⟨S5x256x256x4x32, .f32⟩
  | 71 => ⟨S5x256x256x4x32, .f32⟩
  | 72 => ⟨S5x256x256x4x32, .f32⟩
  | 73 => ⟨S_, .f32⟩
  | 74 => ⟨S5x256x256x4, .f32⟩
  | 75 => ⟨S5x256x256x4x1, .f32⟩
  | 76 => ⟨S_, .f32⟩
  | 77 => ⟨S5x256x256x4x1, .f32⟩
  | 78 => ⟨S5x256x256x4x1, .i1⟩
  | 79 => ⟨S_, .f32⟩
  | 80 => ⟨S5x256x256x4x1, .f32⟩
  | 81 => ⟨S5x256x256x4x1, .f32⟩
  | 82 => ⟨S_, .f32⟩
  | 83 => ⟨S_, .f32⟩
  | 84 => ⟨S5x256x256x4x1, .f32⟩
  | 85 => ⟨S5x256x256x4x1, .f32⟩
  | 86 => ⟨S5x256x256x4x32, .f32⟩
  | 87 => ⟨S5x256x256x4x32, .f32⟩
  | 88 => ⟨S5x256x256x4x32, .f32⟩
  | 89 => ⟨S_, .f32⟩
  | 90 => ⟨S_, .f32⟩
  | 91 => ⟨S_, .f32⟩
  | 92 => ⟨S5x256x256x4x32, .f32⟩
  | 93 => ⟨S5x256x256x4x32, .f32⟩
  | 94 => ⟨S_, .f32⟩
  | 95 => ⟨S5x256x256x4x32, .f32⟩
  | 96 => ⟨S5x256x256x4x32, .f32⟩
  | 97 => ⟨S5x256x256x4x32, .i32⟩
  | 98 => ⟨S5x256x256x4x32, .i8⟩
  | 99 => ⟨S5x256x256x4, .f32⟩
  | 100 => ⟨S5x256x256x4x32, .f32⟩
  | 101 => ⟨S_, .f32⟩
  | 102 => ⟨S5x256x256x4, .f32⟩
  | 103 => ⟨S5x256x256x4x1, .f32⟩
  | 104 => ⟨S_, .f32⟩
  | 105 => ⟨S5x256x256x4x1, .f32⟩
  | 106 => ⟨S5x256x256x4x1, .i1⟩
  | 107 => ⟨S_, .f32⟩
  | 108 => ⟨S5x256x256x4x1, .f32⟩
  | 109 => ⟨S5x256x256x4x1, .f32⟩
  | 110 => ⟨S_, .f32⟩
  | 111 => ⟨S_, .f32⟩
  | 112 => ⟨S5x256x256x4x1, .f32⟩
  | 113 => ⟨S5x256x256x4x1, .f32⟩
  | 114 => ⟨S5x256x256x4x32, .f32⟩
  | 115 => ⟨S5x256x256x4x32, .f32⟩
  | 116 => ⟨S5x256x256x4x32, .f32⟩
  | 117 => ⟨S_, .f32⟩
  | 118 => ⟨S_, .f32⟩
  | 119 => ⟨S_, .f32⟩
  | 120 => ⟨S5x256x256x4x32, .f32⟩
  | 121 => ⟨S5x256x256x4x32, .f32⟩
  | 122 => ⟨S_, .f32⟩
  | 123 => ⟨S5x256x256x4x32, .f32⟩
  | 124 => ⟨S5x256x256x4x32, .f32⟩
  | 125 => ⟨S5x256x256x4x32, .i32⟩
  | 126 => ⟨S5x256x256x4x32, .i8⟩
  | 127 => ⟨S5x256x256x4, .f32⟩
  | _ => ⟨S5x256x256x128, .bf16⟩

abbrev hbmTy0_1 (i : Nat) : BufTy := match i % 128 with
  | 0 => ⟨S5x256x256x4x32, .f32⟩
  | 1 => ⟨S_, .f32⟩
  | 2 => ⟨S5x256x4x32, .f32⟩
  | 3 => ⟨S5x256x1x4x32, .f32⟩
  | 4 => ⟨S_, .f32⟩
  | 5 => ⟨S5x256x1x4x32, .f32⟩
  | 6 => ⟨S5x256x1x4x32, .i1⟩
  | 7 => ⟨S_, .f32⟩
  | 8 => ⟨S5x256x1x4x32, .f32⟩
  | 9 => ⟨S5x256x1x4x32, .f32⟩
  | 10 => ⟨S_, .f32⟩
  | 11 => ⟨S_, .f32⟩
  | 12 => ⟨S5x256x1x4x32, .f32⟩
  | 13 => ⟨S5x256x1x4x32, .f32⟩
  | 14 => ⟨S5x256x256x4x32, .f32⟩
  | 15 => ⟨S5x256x256x4x32, .f32⟩
  | 16 => ⟨S5x256x256x4x32, .f32⟩
  | 17 => ⟨S_, .f32⟩
  | 18 => ⟨S_, .f32⟩
  | 19 => ⟨S_, .f32⟩
  | 20 => ⟨S5x256x256x4x32, .f32⟩
  | 21 => ⟨S5x256x256x4x32, .f32⟩
  | 22 => ⟨S_, .f32⟩
  | 23 => ⟨S5x256x256x4x32, .f32⟩
  | 24 => ⟨S5x256x256x4x32, .f32⟩
  | 25 => ⟨S5x256x256x4x32, .i32⟩
  | 26 => ⟨S5x256x256x4x32, .i8⟩
  | 27 => ⟨S5x256x4x32, .f32⟩
  | 28 => ⟨S5x256x256x4x32, .i32⟩
  | 29 => ⟨S5x256x256x4x32, .f32⟩
  | 30 => ⟨S5x256x256x4x32, .bf16⟩
  | 31 => ⟨S5x256x256x4x32, .i32⟩
  | 32 => ⟨S5x256x256x4x32, .f32⟩
  | 33 => ⟨S5x256x256x4x32, .bf16⟩
  | 34 => ⟨S5x256x4x256x256, .f32⟩
  | 35 => ⟨S5x256x4x256, .f32⟩
  | 36 => ⟨S5x256x4x256x1, .f32⟩
  | 37 => ⟨S5x256x4x256x256, .f32⟩
  | 38 => ⟨S5x256x4x256x256, .f32⟩
  | 39 => ⟨S5x256x4x256, .f32⟩
  | 40 => ⟨S5x256x4x1x256, .f32⟩
  | 41 => ⟨S5x256x4x256x256, .f32⟩
  | 42 => ⟨S5x256x4x256x256, .f32⟩
  | 43 => ⟨S_, .f32⟩
  | 44 => ⟨S_, .f32⟩
  | 45 => ⟨S5x256x4x256x256, .f32⟩
  | 46 => ⟨S5x256x4x256x256, .f32⟩
  | 47 => ⟨S5x1x4x256x256, .f32⟩
  | 48 => ⟨S5x256x4x256x256, .f32⟩
  | 49 => ⟨S5x256x4x256x256, .f32⟩
  | 50 => ⟨S5x256x1x1x256, .i8⟩
  | 51 => ⟨S_, .i8⟩
  | 52 => ⟨S5x256x1x1x256, .i8⟩
  | 53 => ⟨S5x256x1x1x256, .i1⟩
  | 54 => ⟨S_, .f32⟩
  | 55 => ⟨S_, .f32⟩
  | 56 => ⟨S5x256x4x256x256, .f32⟩
  | 57 => ⟨S5x256x4x256x256, .f32⟩
  | 58 => ⟨S_, .f32⟩
  | 59 => ⟨S_, .f32⟩
  | 60 => ⟨S5x256x4x256x256, .i1⟩
  | 61 => ⟨S5x256x4x256x256, .f32⟩
  | 62 => ⟨S5x256x4x256x256, .f32⟩
  | 63 => ⟨S_, .f32⟩
  | 64 => ⟨S5x256x4x256, .f32⟩
  | 65 => ⟨S5x256x4x256x1, .f32⟩
  | 66 => ⟨S5x256x4x256x1, .f32⟩
  | 67 => ⟨S5x256x4x256x256, .f32⟩
  | 68 => ⟨S5x256x4x256x256, .f32⟩
  | 69 => ⟨S_, .f32⟩
  | 70 => ⟨S_, .f32⟩
  | 71 => ⟨S5x256x4x256x256, .f32⟩
  | 72 => ⟨S5x256x4x256x256, .f32⟩
  | 73 => ⟨S5x256x4x256x256, .f32⟩
  | 74 => ⟨S_, .f32⟩
  | 75 => ⟨S5x256x4x256, .f32⟩
  | 76 => ⟨S5x256x4x256x256, .bf16⟩
  | 77 => ⟨S5x256x256x4x32, .i32⟩
  | 78 => ⟨S5x256x256x4x32, .f32⟩
  | 79 => ⟨S5x256x256x4x32, .bf16⟩
  | 80 => ⟨S5x256x4x32x256, .f32⟩
  | 81 => ⟨S5x256x256x4x32, .f32⟩
  | 82 => ⟨S5x256x1x4x32, .f32⟩
  | 83 => ⟨S5x256x256x4x32, .f32⟩
  | 84 => ⟨S5x256x256x4x32, .f32⟩
  | 85 => ⟨S5x256x256x4, .f32⟩
  | 86 => ⟨S5x256x256x4x1, .f32⟩
  | 87 => ⟨S5x256x256x4x32, .f32⟩
  | 88 => ⟨S5x256x256x4x32, .f32⟩
  | 89 => ⟨S5x256x256x4x32, .f32⟩
  | 90 => ⟨S5x256x256x128, .f32⟩
  | 91 => ⟨S5x256x256x128, .f32⟩
  | 92 => ⟨S_, .f32⟩
  | 93 => ⟨S5x256x256, .f32⟩
  | 94 => ⟨S5x256x256x1, .f32⟩
  | 95 => ⟨S_, .f32⟩
  | 96 => ⟨S5x256x256x1, .f32⟩
  | 97 => ⟨S5x256x256x1, .i1⟩
  | 98 => ⟨S_, .f32⟩
  | 99 => ⟨S5x256x256x1, .f32⟩
  | 100 => ⟨S5x256x256x1, .f32⟩
  | 101 => ⟨S_, .f32⟩
  | 102 => ⟨S_, .f32⟩
  | 103 => ⟨S5x256x256x1, .f32⟩
  | 104 => ⟨S5x256x256x1, .f32⟩
  | 105 => ⟨S5x256x256x128, .f32⟩
  | 106 => ⟨S5x256x256x128, .f32⟩
  | 107 => ⟨S5x256x256x128, .f32⟩
  | 108 => ⟨S_, .f32⟩
  | 109 => ⟨S_, .f32⟩
  | 110 => ⟨S_, .f32⟩
  | 111 => ⟨S5x256x256x128, .f32⟩
  | 112 => ⟨S5x256x256x128, .f32⟩
  | 113 => ⟨S_, .f32⟩
  | 114 => ⟨S5x256x256x128, .f32⟩
  | 115 => ⟨S5x256x256x128, .f32⟩
  | 116 => ⟨S5x256x256x128, .i32⟩
  | 117 => ⟨S5x256x256x128, .i8⟩
  | 118 => ⟨S5x256x256, .f32⟩
  | 119 => ⟨S5x256x256x128, .i32⟩
  | 120 => ⟨S5x256x256x128, .f32⟩
  | 121 => ⟨S5x256x256x128, .bf16⟩
  | 122 => ⟨S5x256x256x4x32, .bf16⟩
  | 123 => ⟨S4x32x128, .i32⟩
  | 124 => ⟨S4x32x128, .f32⟩
  | 125 => ⟨S4x32x128, .bf16⟩
  | 126 => ⟨S5x256x256x128, .f32⟩
  | 127 => ⟨S5x256x256x1, .f32⟩
  | _ => ⟨S5x256x256x128, .bf16⟩

abbrev hbmTy0_2 (i : Nat) : BufTy := match i % 128 with
  | 0 => ⟨S5x256x256x128, .f32⟩
  | 1 => ⟨S5x256x256x128, .f32⟩
  | 2 => ⟨S1x1x1x128, .f32⟩
  | 3 => ⟨S5x256x256x128, .f32⟩
  | 4 => ⟨S5x256x256x128, .f32⟩
  | 5 => ⟨S1x1x1x128, .f32⟩
  | 6 => ⟨S5x256x256x128, .f32⟩
  | 7 => ⟨S5x256x256x128, .f32⟩
  | 8 => ⟨S5x256x256x128, .f32⟩
  | 9 => ⟨S5x256x256x128, .bf16⟩
  | 10 => ⟨S5x256x4x32x256, .i8⟩
  | 11 => ⟨S5x256x128x256, .i8⟩
  | 12 => ⟨S5x256x4x256, .f32⟩
  | 13 => ⟨S5x256x4x32x256, .i8⟩
  | 14 => ⟨S5x256x128x256, .i8⟩
  | 15 => ⟨S5x256x4x256, .f32⟩
  | 16 => ⟨S5x256x4x32x256, .i8⟩
  | 17 => ⟨S5x256x128x256, .i8⟩
  | 18 => ⟨S5x4x32x256, .f32⟩
  | 19 => ⟨S5x128x256, .f32⟩
  | _ => ⟨S5x256x256x128, .bf16⟩

abbrev hbmTy (i : Nat) : BufTy := match i / 128 with
  | 0 => hbmTy0_0 i
  | 1 => hbmTy0_1 i
  | 2 => hbmTy0_2 i
  | _ => ⟨S5x256x256x128, .bf16⟩

abbrev bufTy : (tb : Table) → Fin (tcTables nBuf tb) → BufTy
  | .hbm, ⟨i, _⟩ => hbmTy i
  | _, _ => ⟨S5x256x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst : Ref sig .tc := ⟨.hbm, 66, rfl⟩
abbrev main_v49 : Ref sig .tc := ⟨.hbm, 67, rfl⟩
abbrev main_v50 : Ref sig .tc := ⟨.hbm, 68, rfl⟩
abbrev main_cst_0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_1 : Ref sig .tc := ⟨.hbm, 73, rfl⟩
abbrev main_v54 : Ref sig .tc := ⟨.hbm, 74, rfl⟩
abbrev main_v55 : Ref sig .tc := ⟨.hbm, 75, rfl⟩
abbrev main_cst_2 : Ref sig .tc := ⟨.hbm, 76, rfl⟩
abbrev main_v56 : Ref sig .tc := ⟨.hbm, 77, rfl⟩
abbrev main_v57 : Ref sig .tc := ⟨.hbm, 78, rfl⟩
abbrev main_cst_3 : Ref sig .tc := ⟨.hbm, 79, rfl⟩
abbrev main_v58 : Ref sig .tc := ⟨.hbm, 80, rfl⟩
abbrev main_v59 : Ref sig .tc := ⟨.hbm, 81, rfl⟩
abbrev main_cst_4 : Ref sig .tc := ⟨.hbm, 82, rfl⟩
abbrev main_call0_v0 : Ref sig .tc := ⟨.hbm, 83, rfl⟩
abbrev main_call0_v1 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_5 : Ref sig .tc := ⟨.hbm, 89, rfl⟩
abbrev main_cst_6 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_7 : Ref sig .tc := ⟨.hbm, 101, rfl⟩
abbrev main_v69 : Ref sig .tc := ⟨.hbm, 102, rfl⟩
abbrev main_v70 : Ref sig .tc := ⟨.hbm, 103, rfl⟩
abbrev main_cst_8 : Ref sig .tc := ⟨.hbm, 104, rfl⟩
abbrev main_v71 : Ref sig .tc := ⟨.hbm, 105, rfl⟩
abbrev main_v72 : Ref sig .tc := ⟨.hbm, 106, rfl⟩
abbrev main_cst_9 : Ref sig .tc := ⟨.hbm, 107, rfl⟩
abbrev main_v73 : Ref sig .tc := ⟨.hbm, 108, rfl⟩
abbrev main_v74 : Ref sig .tc := ⟨.hbm, 109, rfl⟩
abbrev main_cst_10 : Ref sig .tc := ⟨.hbm, 110, rfl⟩
abbrev main_call3_v0 : Ref sig .tc := ⟨.hbm, 111, rfl⟩
abbrev main_call3_v1 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_11 : Ref sig .tc := ⟨.hbm, 117, rfl⟩
abbrev main_cst_12 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_13 : Ref sig .tc := ⟨.hbm, 129, rfl⟩
abbrev main_v84 : Ref sig .tc := ⟨.hbm, 130, rfl⟩
abbrev main_v85 : Ref sig .tc := ⟨.hbm, 131, rfl⟩
abbrev main_cst_14 : Ref sig .tc := ⟨.hbm, 132, rfl⟩
abbrev main_v86 : Ref sig .tc := ⟨.hbm, 133, rfl⟩
abbrev main_v87 : Ref sig .tc := ⟨.hbm, 134, rfl⟩
abbrev main_cst_15 : Ref sig .tc := ⟨.hbm, 135, rfl⟩
abbrev main_v88 : Ref sig .tc := ⟨.hbm, 136, rfl⟩
abbrev main_v89 : Ref sig .tc := ⟨.hbm, 137, rfl⟩
abbrev main_cst_16 : Ref sig .tc := ⟨.hbm, 138, rfl⟩
abbrev main_call6_v0 : Ref sig .tc := ⟨.hbm, 139, rfl⟩
abbrev main_call6_v1 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_17 : Ref sig .tc := ⟨.hbm, 145, rfl⟩
abbrev main_cst_18 : Ref sig .tc := ⟨.hbm, 146, rfl⟩
abbrev main_call8_v0 : Ref sig .tc := ⟨.hbm, 147, rfl⟩
abbrev main_call8_v1 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_cst_19 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_c : Ref sig .tc := ⟨.hbm, 179, rfl⟩
abbrev main_v120 : Ref sig .tc := ⟨.hbm, 180, rfl⟩
abbrev main_v121 : Ref sig .tc := ⟨.hbm, 181, rfl⟩
abbrev main_cst_20 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_21 : Ref sig .tc := ⟨.hbm, 186, rfl⟩
abbrev main_call9_v0 : Ref sig .tc := ⟨.hbm, 187, rfl⟩
abbrev main_call9_v1 : Ref sig .tc := ⟨.hbm, 188, rfl⟩
abbrev main_call9_v2 : Ref sig .tc := ⟨.hbm, 189, rfl⟩
abbrev main_v125 : Ref sig .tc := ⟨.hbm, 190, rfl⟩
abbrev main_cst_22 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_cst_23 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_cst_24 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_cst_25 : Ref sig .tc := ⟨.hbm, 220, rfl⟩
abbrev main_v152 : Ref sig .tc := ⟨.hbm, 221, rfl⟩
abbrev main_v153 : Ref sig .tc := ⟨.hbm, 222, rfl⟩
abbrev main_cst_26 : Ref sig .tc := ⟨.hbm, 223, rfl⟩
abbrev main_v154 : Ref sig .tc := ⟨.hbm, 224, rfl⟩
abbrev main_v155 : Ref sig .tc := ⟨.hbm, 225, rfl⟩
abbrev main_cst_27 : Ref sig .tc := ⟨.hbm, 226, rfl⟩
abbrev main_v156 : Ref sig .tc := ⟨.hbm, 227, rfl⟩
abbrev main_v157 : Ref sig .tc := ⟨.hbm, 228, rfl⟩
abbrev main_cst_28 : Ref sig .tc := ⟨.hbm, 229, rfl⟩
abbrev main_call10_v0 : Ref sig .tc := ⟨.hbm, 230, rfl⟩
abbrev main_call10_v1 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_cst_29 : Ref sig .tc := ⟨.hbm, 236, rfl⟩
abbrev main_cst_30 : Ref sig .tc := ⟨.hbm, 237, rfl⟩
abbrev main_call12_v0 : Ref sig .tc := ⟨.hbm, 238, rfl⟩
abbrev main_call12_v1 : Ref sig .tc := ⟨.hbm, 239, rfl⟩
abbrev main_call12_v2 : Ref sig .tc := ⟨.hbm, 240, rfl⟩
abbrev main_call12_v3 : Ref sig .tc := ⟨.hbm, 241, rfl⟩
abbrev main_call12_v4 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩

abbrev nD : Nat := 1
abbrev τ : Topo := Topo.v7x

variable {F : FTy → Type} [FloatOps F]
-- ==== LnQuant.lean ====
abbrev S5x256x256x128 : Shape := ⟨4, ![5, 256, 256, 128]⟩
abbrev S128 : Shape := ⟨1, ![128]⟩
abbrev S128x4 : Shape := ⟨2, ![128, 4]⟩
abbrev S128x128 : Shape := ⟨2, ![128, 128]⟩
abbrev S_ : Shape := ⟨0, ![]⟩
abbrev S4x128 : Shape := ⟨2, ![4, 128]⟩
abbrev S8x128 : Shape := ⟨2, ![8, 128]⟩
abbrev S128x1 : Shape := ⟨2, ![128, 1]⟩
abbrev S128x256 : Shape := ⟨2, ![128, 256]⟩
abbrev S5x256x256 : Shape := ⟨3, ![5, 256, 256]⟩
abbrev S5x4x256x256 : Shape := ⟨4, ![5, 4, 256, 256]⟩
abbrev S1x8x256x128 : Shape := ⟨4, ![1, 8, 256, 128]⟩
abbrev S1x8x256 : Shape := ⟨3, ![1, 8, 256]⟩
abbrev S1x4x8x256 : Shape := ⟨4, ![1, 4, 8, 256]⟩
abbrev S1x1x256x128 : Shape := ⟨4, ![1, 1, 256, 128]⟩
abbrev S256x128 : Shape := ⟨2, ![256, 128]⟩
abbrev S256 : Shape := ⟨1, ![256]⟩
abbrev S1x256 : Shape := ⟨2, ![1, 256]⟩
abbrev S1x1x256 : Shape := ⟨3, ![1, 1, 256]⟩
abbrev S24x128 : Shape := ⟨2, ![24, 128]⟩
abbrev S24x256 : Shape := ⟨2, ![24, 256]⟩
abbrev S8x256 : Shape := ⟨2, ![8, 256]⟩
abbrev S4x256 : Shape := ⟨2, ![4, 256]⟩
abbrev S1x4x1x256 : Shape := ⟨4, ![1, 4, 1, 256]⟩

abbrev nBuf : Space → Nat
  | .hbm => 26
  | .vmem => 12
  | .smem => 0
  | _ => 0

abbrev bufTy : (tb : Table) → Fin (tcTables nBuf tb) → BufTy
  | .hbm, ⟨0, _⟩ => ⟨S5x256x256x128, .bf16⟩
  | .hbm, ⟨1, _⟩ => ⟨S128, .f32⟩
  | .hbm, ⟨2, _⟩ => ⟨S128, .f32⟩
  | .hbm, ⟨3, _⟩ => ⟨S128x4, .f32⟩
  | .hbm, ⟨4, _⟩ => ⟨S128x128, .i32⟩
  | .hbm, ⟨5, _⟩ => ⟨S128x128, .i32⟩
  | .hbm, ⟨6, _⟩ => ⟨S_, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S128x128, .f32⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S128x128, .bf16⟩
  | .hbm, ⟨15, _⟩ => ⟨S4x128, .f32⟩
  | .hbm, ⟨16, _⟩ => ⟨S_, .i32⟩
  | .hbm, ⟨17, _⟩ => ⟨S_, .f32⟩
  | .hbm, ⟨18, _⟩ => ⟨S8x128, .f32⟩
  | .hbm, ⟨19, _⟩ => ⟨S128x1, .f32⟩
  | .hbm, ⟨20, _⟩ => ⟨S128x256, .f32⟩
  | .hbm, ⟨21, _⟩ => ⟨S128x1, .f32⟩
  | .hbm, ⟨22, _⟩ => ⟨S128x256, .f32⟩
  | .hbm, ⟨23, _⟩ => ⟨S5x256x256x128, .i8⟩
  | .hbm, ⟨24, _⟩ => ⟨S5x256x256, .f32⟩
  | .hbm, ⟨25, _⟩ => ⟨S5x4x256x256, .f32⟩
  | .local _ .vmem, ⟨0, _⟩ => ⟨S1x8x256x128, .bf16⟩
  | .local _ .vmem, ⟨1, _⟩ => ⟨S1x8x256x128, .bf16⟩
  | .local _ .vmem, ⟨2, _⟩ => ⟨S128x128, .bf16⟩
  | .local _ .vmem, ⟨3, _⟩ => ⟨S128x256, .f32⟩
  | .local _ .vmem, ⟨4, _⟩ => ⟨S128x256, .f32⟩
  | .local _ .vmem, ⟨5, _⟩ => ⟨S8x128, .f32⟩
  | .local _ .vmem, ⟨6, _⟩ => ⟨S1x8x256x128, .i8⟩
  | .local _ .vmem, ⟨7, _⟩ => ⟨S1x8x256x128, .i8⟩
  | .local _ .vmem, ⟨8, _⟩ => ⟨S1x8x256, .f32⟩
  | .local _ .vmem, ⟨9, _⟩ => ⟨S1x8x256, .f32⟩
  | .local _ .vmem, ⟨10, _⟩ => ⟨S1x4x8x256, .f32⟩
  | .local _ .vmem, ⟨11, _⟩ => ⟨S1x4x8x256, .f32⟩
  | _, _ => ⟨S5x256x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [BitOps F]

abbrev grid0 : Pipeline.Grid := ⟨2, ![5, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x256x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== LnQuantIdeal.lean ====
variable {F : FTy → Type} [FloatOps F]
-- ==== LnReferenceIdeal.lean ====
abbrev S5x256x256x128 : Shape := ⟨4, ![5, 256, 256, 128]⟩
abbrev S128 : Shape := ⟨1, ![128]⟩
abbrev S128x4 : Shape := ⟨2, ![128, 4]⟩
abbrev S_ : Shape := ⟨0, ![]⟩
abbrev S5x256x256 : Shape := ⟨3, ![5, 256, 256]⟩
abbrev S5x256x256x1 : Shape := ⟨4, ![5, 256, 256, 1]⟩
abbrev S1x1x1x128 : Shape := ⟨4, ![1, 1, 1, 128]⟩
abbrev S4x5x256x256 : Shape := ⟨4, ![4, 5, 256, 256]⟩
abbrev S5x4x256x256 : Shape := ⟨4, ![5, 4, 256, 256]⟩
abbrev S5x1x256x256 : Shape := ⟨4, ![5, 1, 256, 256]⟩

abbrev nBuf : Space → Nat
  | .hbm => 67
  | .vmem => 0
  | .smem => 0
  | _ => 0

abbrev bufTy : (tb : Table) → Fin (tcTables nBuf tb) → BufTy
  | .hbm, ⟨0, _⟩ => ⟨S5x256x256x128, .bf16⟩
  | .hbm, ⟨1, _⟩ => ⟨S128, .f32⟩
  | .hbm, ⟨2, _⟩ => ⟨S128, .f32⟩
  | .hbm, ⟨3, _⟩ => ⟨S128x4, .f32⟩
  | .hbm, ⟨4, _⟩ => ⟨S5x256x256x128, .f32⟩
  | .hbm, ⟨5, _⟩ => ⟨S_, .f32⟩
  | .hbm, ⟨6, _⟩ => ⟨S5x256x256, .f32⟩
  | .hbm, ⟨7, _⟩ => ⟨S5x256x256x1, .f32⟩
  | .hbm, ⟨8, _⟩ => ⟨S_, .f32⟩
  | .hbm, ⟨9, _⟩ => ⟨S5x256x256x1, .f32⟩
  | .hbm, ⟨10, _⟩ => ⟨S5x256x256x1, .f32⟩
  | .hbm, ⟨11, _⟩ => ⟨S5x256x256x128, .f32⟩
  | .hbm, ⟨12, _⟩ => ⟨S5x256x256x128, .f32⟩
  | .hbm, ⟨13, _⟩ => ⟨S5x256x256x128, .f32⟩
  | .hbm, ⟨14, _⟩ => ⟨S_, .f32⟩
  | .hbm, ⟨15, _⟩ => ⟨S5x256x256, .f32⟩
  | .hbm, ⟨16, _⟩ => ⟨S5x256x256x1, .f32⟩
  | .hbm, ⟨17, _⟩ => ⟨S_, .f32⟩
  | .hbm, ⟨18, _⟩ => ⟨S5x256x256x1, .f32⟩
  | .hbm, ⟨19, _⟩ => ⟨S5x256x256x1, .f32⟩
  | .hbm, ⟨20, _⟩ => ⟨S_, .f32⟩
  | .hbm, ⟨21, _⟩ => ⟨S5x256x256x1, .f32⟩
  | .hbm, ⟨22, _⟩ => ⟨S5x256x256x1, .f32⟩
  | .hbm, ⟨23, _⟩ => ⟨S5x256x256x1, .f32⟩
  | .hbm, ⟨24, _⟩ => ⟨S5x256x256x128, .f32⟩
  | .hbm, ⟨25, _⟩ => ⟨S5x256x256x128, .f32⟩
  | .hbm, ⟨26, _⟩ => ⟨S1x1x1x128, .f32⟩
  | .hbm, ⟨27, _⟩ => ⟨S5x256x256x128, .f32⟩
  | .hbm, ⟨28, _⟩ => ⟨S5x256x256x128, .f32⟩
  | .hbm, ⟨29, _⟩ => ⟨S1x1x1x128, .f32⟩
  | .hbm, ⟨30, _⟩ => ⟨S5x256x256x128, .f32⟩
  | .hbm, ⟨31, _⟩ => ⟨S5x256x256x128, .f32⟩
  | .hbm, ⟨32, _⟩ => ⟨S5x256x256x128, .f32⟩
  | .hbm, ⟨33, _⟩ => ⟨S_, .f32⟩
  | .hbm, ⟨34, _⟩ => ⟨S5x256x256, .f32⟩
  | .hbm, ⟨35, _⟩ => ⟨S5x256x256x1, .f32⟩
  | .hbm, ⟨36, _⟩ => ⟨S_, .f32⟩
  | .hbm, ⟨37, _⟩ => ⟨S5x256x256x1, .f32⟩
  | .hbm, ⟨38, _⟩ => ⟨S5x256x256x1, .i1⟩
  | .hbm, ⟨39, _⟩ => ⟨S_, .f32⟩
  | .hbm, ⟨40, _⟩ => ⟨S5x256x256x1, .f32⟩
  | .hbm, ⟨41, _⟩ => ⟨S5x256x256x1, .f32⟩
  | .hbm, ⟨42, _⟩ => ⟨S_, .f32⟩
  | .hbm, ⟨43, _⟩ => ⟨S_, .f32⟩
  | .hbm, ⟨44, _⟩ => ⟨S5x256x256x1, .f32⟩
  | .hbm, ⟨45, _⟩ => ⟨S5x256x256x1, .f32⟩
  | .hbm, ⟨46, _⟩ => ⟨S5x256x256x128, .f32⟩
  | .hbm, ⟨47, _⟩ => ⟨S5x256x256x128, .f32⟩
  | .hbm, ⟨48, _⟩ => ⟨S5x256x256x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S5x256x256x128, .f32⟩
  | .hbm, ⟨53, _⟩ => ⟨S5x256x256x128, .f32⟩
  | .hbm, ⟨54, _⟩ => ⟨S_, .f32⟩
  | .hbm, ⟨55, _⟩ => ⟨S5x256x256x128, .f32⟩
  | .hbm, ⟨56, _⟩ => ⟨S5x256x256x128, .f32⟩
  | .hbm, ⟨57, _⟩ => ⟨S5x256x256x128, .i32⟩
  | .hbm, ⟨58, _⟩ => ⟨S5x256x256x128, .i8⟩
  | .hbm, ⟨59, _⟩ => ⟨S5x256x256, .f32⟩
  | .hbm, ⟨60, _⟩ => ⟨S5x256x256x128, .i32⟩
  | .hbm, ⟨61, _⟩ => ⟨S5x256x256x128, .f32⟩
  | .hbm, ⟨62, _⟩ => ⟨S4x5x256x256, .f32⟩
  | .hbm, ⟨63, _⟩ => ⟨S5x4x256x256, .f32⟩
  | .hbm, ⟨64, _⟩ => ⟨S5x1x256x256, .f32⟩
  | .hbm, ⟨65, _⟩ => ⟨S5x4x256x256, .f32⟩
  | .hbm, ⟨66, _⟩ => ⟨S5x4x256x256, .f32⟩
  | _, _ => ⟨S5x256x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_cst_9 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== Proof.KRun.lean ====
/-
  The frame of the attend kernel, run with its outputs forgotten: the body is run once by `sl_exec`, its loop by an
  invariant that keeps what the input windows and the two scratch buffers hold and says nothing of the outputs.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.Exec

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

/-- The loop's invariant: inputs and scratch at the contents the loop found, every output at some contents. -/
@[sl_loop] def loopInv_k0_t1 (c : Dev nD) (i : grid0.Coords) (arg2 : Memref sig .tc .vmem S1x32x256x128 .bf16) (harg2 : arg2.IsWhole) (arg3 : Memref sig .tc .vmem S1x32x256x128 .i8) (harg3 : arg3.IsWhole) (arg4 : Memref sig .tc .vmem S1x32x256 .f32) (harg4 : arg4.IsWhole) (arg5 : Memref sig .tc .vmem S1x32x256 .i8) (harg5 : arg5.IsWhole) (arg6 : Memref sig .tc .vmem S1x4x256x256 .f32) (harg6 : arg6.IsWhole) (arg7 : Memref sig .tc .vmem S512x128 .i8) (harg7 : arg7.IsWhole) (arg8 : Memref sig .tc .vmem S512x256 .f32) (harg8 : arg8.IsWhole) (arg9 : Memref sig .tc .vmem S128x256 .f32) (harg9 : arg9.IsWhole) (arg10 : Memref sig .tc .vmem S128x128 .i8) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32x256x128 .bf16) (harg13 : arg13.IsWhole) (arg14 : Memref sig .tc .vmem S1x32x128x256 .i8) (harg14 : arg14.IsWhole) (arg15 : Memref sig .tc .vmem S1x32x4x256 .f32) (harg15 : arg15.IsWhole) (arg16 : Memref sig .tc .vmem S1x32x128x256 .i8) (harg16 : arg16.IsWhole) (arg17 : Memref sig .tc .vmem S1x32x4x256 .f32) (harg17 : arg17.IsWhole) (arg18 : Memref sig .tc .vmem S1x32x128x256 .i8) (harg18 : arg18.IsWhole) (arg19 : Memref sig .tc .vmem S1x128x256 .f32) (harg19 : arg19.IsWhole) (arg20 : Memref sig .tc .vmem S1x32x256x128 .i8) (harg20 : arg20.IsWhole) (arg21 : Memref sig .tc .vmem S1x32x256 .f32) (harg21 : arg21.IsWhole) (arg22 : Memref sig .tc .vmem S4x256x256 .f32) (harg22 : arg22.IsWhole) (arg23 : Memref sig .tc .vmem S32x256 .f32) (harg23 : arg23.IsWhole) (arg1 : BitVec 32) (v14 : IVec S32x256 32) (v15 : IVec S128x256 32)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f22 : Buf (Elt F) (arg22.view.loc (c : Thread nD τ))) (f23 : Buf (Elt F) (arg23.view.loc (c : Thread nD τ))) :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v14 v15 where
  inv := fun k acc => iprop((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (∃ f, arg13.view.loc (c : Thread nD τ) ↦[arg13.view.set]{fullShare} f)
      ∗ (∃ f, arg14.view.loc (c : Thread nD τ) ↦[arg14.view.set]{fullShare} f)
      ∗ (∃ f, arg15.view.loc (c : Thread nD τ) ↦[arg15.view.set]{fullShare} f)
      ∗ (∃ f, arg16.view.loc (c : Thread nD τ) ↦[arg16.view.set]{fullShare} f)
      ∗ (∃ f, arg17.view.loc (c : Thread nD τ) ↦[arg17.view.set]{fullShare} f)
      ∗ (∃ f, arg18.view.loc (c : Thread nD τ) ↦[arg18.view.set]{fullShare} f)
      ∗ (∃ f, arg19.view.loc (c : Thread nD τ) ↦[arg19.view.set]{fullShare} f)
      ∗ (∃ f, arg20.view.loc (c : Thread nD τ) ↦[arg20.view.set]{fullShare} f)
      ∗ (∃ f, arg21.view.loc (c : Thread nD τ) ↦[arg21.view.set]{fullShare} f)
      ∗ (arg22.view.loc (c : Thread nD τ) ↦[arg22.view.set]{fullShare} f22)
      ∗ (arg23.view.loc (c : Thread nD τ) ↦[arg23.view.set]{fullShare} f23))
  step := fun k acc => by
    unfold k0_t1_body
    iintro ⟨H2, H3, H4, H5, H6, H7, H8, H9, H10, H11, H12, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, H22, H23⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexact H22
    iexact H23

/-- The body's run, for any continuation. -/
theorem kernelRun (c : Dev nD) (i : grid0.Coords) (arg2 : Memref sig .tc .vmem S1x32x256x128 .bf16) (harg2 : arg2.IsWhole) (arg3 : Memref sig .tc .vmem S1x32x256x128 .i8) (harg3 : arg3.IsWhole) (arg4 : Memref sig .tc .vmem S1x32x256 .f32) (harg4 : arg4.IsWhole) (arg5 : Memref sig .tc .vmem S1x32x256 .i8) (harg5 : arg5.IsWhole) (arg6 : Memref sig .tc .vmem S1x4x256x256 .f32) (harg6 : arg6.IsWhole) (arg7 : Memref sig .tc .vmem S512x128 .i8) (harg7 : arg7.IsWhole) (arg8 : Memref sig .tc .vmem S512x256 .f32) (harg8 : arg8.IsWhole) (arg9 : Memref sig .tc .vmem S128x256 .f32) (harg9 : arg9.IsWhole) (arg10 : Memref sig .tc .vmem S128x128 .i8) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32x256x128 .bf16) (harg13 : arg13.IsWhole) (arg14 : Memref sig .tc .vmem S1x32x128x256 .i8) (harg14 : arg14.IsWhole) (arg15 : Memref sig .tc .vmem S1x32x4x256 .f32) (harg15 : arg15.IsWhole) (arg16 : Memref sig .tc .vmem S1x32x128x256 .i8) (harg16 : arg16.IsWhole) (arg17 : Memref sig .tc .vmem S1x32x4x256 .f32) (harg17 : arg17.IsWhole) (arg18 : Memref sig .tc .vmem S1x32x128x256 .i8) (harg18 : arg18.IsWhole) (arg19 : Memref sig .tc .vmem S1x128x256 .f32) (harg19 : arg19.IsWhole) (arg20 : Memref sig .tc .vmem S1x32x256x128 .i8) (harg20 : arg20.IsWhole) (arg21 : Memref sig .tc .vmem S1x32x256 .f32) (harg21 : arg21.IsWhole) (arg22 : Memref sig .tc .vmem S4x256x256 .f32) (harg22 : arg22.IsWhole) (arg23 : Memref sig .tc .vmem S32x256 .f32) (harg23 : arg23.IsWhole)
    (d2 : S1x32x256x128.Idx → Elt F .bf16) (d3 : S1x32x256x128.Idx → Elt F .i8) (d4 : S1x32x256.Idx → Elt F .f32) (d5 : S1x32x256.Idx → Elt F .i8) (d6 : S1x4x256x256.Idx → Elt F .f32) (d7 : S512x128.Idx → Elt F .i8) (d8 : S512x256.Idx → Elt F .f32) (d9 : S128x256.Idx → Elt F .f32) (d10 : S128x128.Idx → Elt F .i8) (d11 : S1x128.Idx → Elt F .f32) (d12 : S1x128.Idx → Elt F .f32) (W : Waits sig Unit) (K : PUnit → sProp 𝕄) :
    iprop(owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare d9
        ∗ owns (c : Thread nD τ) arg10 fullShare d10
        ∗ owns (c : Thread nD τ) arg11 fullShare d11
        ∗ owns (c : Thread nD τ) arg12 fullShare d12
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ owes (c : Thread nD τ) 0 W
        ∗ (iprop(owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare d9
        ∗ owns (c : Thread nD τ) arg10 fullShare d10
        ∗ owns (c : Thread nD τ) arg11 fullShare d11
        ∗ owns (c : Thread nD τ) arg12 fullShare d12
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ owes (c : Thread nD τ) 0 W) -∗ K ⟨⟩))
      ⊢ wp frame (wpE (defs₀ (F := F)) Variants.none c none) Set.univ
          (cc0_attend i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_attend_eq_skeleton]; unfold cc0_attend_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, HW, Hk⟩
  by_cases hb : Scalar.cmpi .ne (Scalar.extui (Scalar.cmpi .eq (BitVec.ofNat 32 (i 1).val) 0#32) : BitVec 32) 0#32 = 1#1
  · sl_exec_parts
    sl_step
    iapply Hk
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H12]
    · iexists _; isplitr; swap; · iexact H12
      ipureintro; exact hf12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexact HW
  · sl_exec_parts
    sl_step
    iapply Hk
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H12]
    · iexists _; isplitr; swap; · iexact H12
      ipureintro; exact hf12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexact HW

/-! ## The proof data and the body obligation -/

variable (m : (ℓ : Loc nD τ sig) → Buf (Elt F) ℓ) (ρ : Dev nD → PrngReg)

abbrev scM0 : Memref sig .tc .vmem S4x256x256 .f32 := Memref.whole cc0_scratch0
abbrev scM1 : Memref sig .tc .vmem S32x256 .f32 := Memref.whole cc0_scratch1

/-- The class invariant, conjunct by conjunct: both scratch buffers at some contents, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d))
          ∗ (∃ r, prngReg c r)) := by
  unfold Pipeline.ΦA
  rw [scopedRest0_eq]; simp only [scM0, scM1, owns_whole]; try rfl

/-- The output windows, FORGOTTEN: nothing here reads what the kernel leaves in them. -/
def forgets0 : Fin 20 → Bool := fun w => decide (11 ≤ w.val)

/-- The proof data on core `c`: each array as the region finds it, each input's block left in place, the class
    invariant, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨n + 11, h⟩ => Pipeline.Dat.unnamed (cfg := cfg0) ⟨n + 11, h⟩ t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d))

set_option maxHeartbeats 4000000 in
/-- The body at a point: the invariant opened, every input at its block, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA0_eq]
  unfold Dat.owesAt Pipeline.owesWithin
  rw [show (dats m 0 c).owed t.castSucc = 0 from rfl]
  have hb0 : ∀ d, (dats m 0 c).before 0 t d = iblk m c 0 t := fun d => before0_0_of m (dats m 0 c) rfl (fun _ => rfl) t d
  have hb1 : ∀ d, (dats m 0 c).before 1 t d = iblk m c 1 t := fun d => before0_1_of m (dats m 0 c) rfl (fun _ => rfl) t d
  have hb2 : ∀ d, (dats m 0 c).before 2 t d = iblk m c 2 t := fun d => before0_2_of m (dats m 0 c) rfl (fun _ => rfl) t d
  have hb3 : ∀ d, (dats m 0 c).before 3 t d = iblk m c 3 t := fun d => before0_3_of m (dats m 0 c) rfl (fun _ => rfl) t d
  have hb4 : ∀ d, (dats m 0 c).before 4 t d = iblk m c 4 t := fun d => before0_4_of m (dats m 0 c) rfl (fun _ => rfl) t d
  have hb5 : ∀ d, (dats m 0 c).before 5 t d = iblk m c 5 t := fun d => before0_5_of m (dats m 0 c) rfl (fun _ => rfl) t d
  have hb6 : ∀ d, (dats m 0 c).before 6 t d = iblk m c 6 t := fun d => before0_6_of m (dats m 0 c) rfl (fun _ => rfl) t d
  have hb7 : ∀ d, (dats m 0 c).before 7 t d = iblk m c 7 t := fun d => before0_7_of m (dats m 0 c) rfl (fun _ => rfl) t d
  have hb8 : ∀ d, (dats m 0 c).before 8 t d = iblk m c 8 t := fun d => before0_8_of m (dats m 0 c) rfl (fun _ => rfl) t d
  have hb9 : ∀ d, (dats m 0 c).before 9 t d = iblk m c 9 t := fun d => before0_9_of m (dats m 0 c) rfl (fun _ => rfl) t d
  have hb10 : ∀ d, (dats m 0 c).before 10 t d = iblk m c 10 t := fun d => before0_10_of m (dats m 0 c) rfl (fun _ => rfl) t d
  simp only [hb0, hb1, hb2, hb3, hb4, hb5, hb6, hb7, hb8, hb9, hb10]
  iintro ⟨⟨⟨HS0, HS1⟩, Hg⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16, H17, H18, H19⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HO]; · iexact HO
  iintro ⟨H0, H1, H2, H3, H4, H5, H6, H7, H8, H9, H10, H11, H12, H13, H14, H15, H16, H17, H18, H19, HS0, HS1, HO⟩
  isplitl [HS0 HS1 Hg]
  · isplitl [HS0 HS1]
    · isplitl [HS0]; · iexact HS0
      iexact HS1
    iexact Hg
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters every weakly fair execution terminates, every array no output window writes
    keeps its contents, and every semaphore counter ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

set_option maxHeartbeats 1200000 in
/-- The frame claim's post: every argument array at its launch contents and every counter at zero. -/
theorem quiescent :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) ∧ r.2.sem = fun _ => 0) :=
  (θ_run defs _ _).mono (fun _ h => ⟨fun c => ⟨(Pipeline.RDat.FramePost.arr_in h.1 c 0 rfl).trans ((A_eq m c 0).trans (V_main_arg0 m c)), (Pipeline.RDat.FramePost.arr_in h.1 c 1 rfl).trans ((A_eq m c 1).trans (V_main_arg1 m c)), (Pipeline.RDat.FramePost.arr_in h.1 c 2 rfl).trans ((A_eq m c 2).trans (V_main_arg2 m c)), (Pipeline.RDat.FramePost.arr_in h.1 c 3 rfl).trans ((A_eq m c 3).trans (V_main_arg3 m c)), (Pipeline.RDat.FramePost.arr_in h.1 c 4 rfl).trans ((A_eq m c 4).trans (V_main_arg4 m c)), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c), ((h.1 c).2 main_arg9 (Pipeline.mem_restRefs_of main_arg9 (by decide) (by decide))).trans (V_main_arg9 m c), ((h.1 c).2 main_arg10 (Pipeline.mem_restRefs_of main_arg10 (by decide) (by decide))).trans (V_main_arg10 m c), ((h.1 c).2 main_arg11 (Pipeline.mem_restRefs_of main_arg11 (by decide) (by decide))).trans (V_main_arg11 m c), ((h.1 c).2 main_arg12 (Pipeline.mem_restRefs_of main_arg12 (by decide) (by decide))).trans (V_main_arg12 m c), ((h.1 c).2 main_arg13 (Pipeline.mem_restRefs_of main_arg13 (by decide) (by decide))).trans (V_main_arg13 m c), ((h.1 c).2 main_arg14 (Pipeline.mem_restRefs_of main_arg14 (by decide) (by decide))).trans (V_main_arg14 m c), ((h.1 c).2 main_arg15 (Pipeline.mem_restRefs_of main_arg15 (by decide) (by decide))).trans (V_main_arg15 m c), ((h.1 c).2 main_arg16 (Pipeline.mem_restRefs_of main_arg16 (by decide) (by decide))).trans (V_main_arg16 m c)⟩, h.2⟩) (run_main m ρ)

end Cert.Kernel.Hand

end
-- ==== Proof.KIRun.lean ====
/-
  The frame of the attend kernel, run with its outputs forgotten: the body is run once by `sl_exec`, its loop by an
  invariant that keeps what the input windows and the two scratch buffers hold and says nothing of the outputs.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

/-- The loop's invariant: inputs and scratch at the contents the loop found, every output at some contents. -/
@[sl_loop] def loopInv_k0_t1 (c : Dev nD) (i : grid0.Coords) (arg2 : Memref sig .tc .vmem S1x32x256x128 .bf16) (harg2 : arg2.IsWhole) (arg3 : Memref sig .tc .vmem S1x32x256x128 .i8) (harg3 : arg3.IsWhole) (arg4 : Memref sig .tc .vmem S1x32x256 .f32) (harg4 : arg4.IsWhole) (arg5 : Memref sig .tc .vmem S1x32x256 .i8) (harg5 : arg5.IsWhole) (arg6 : Memref sig .tc .vmem S1x4x256x256 .f32) (harg6 : arg6.IsWhole) (arg7 : Memref sig .tc .vmem S512x128 .i8) (harg7 : arg7.IsWhole) (arg8 : Memref sig .tc .vmem S512x256 .f32) (harg8 : arg8.IsWhole) (arg9 : Memref sig .tc .vmem S128x256 .f32) (harg9 : arg9.IsWhole) (arg10 : Memref sig .tc .vmem S128x128 .i8) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32x256x128 .bf16) (harg13 : arg13.IsWhole) (arg14 : Memref sig .tc .vmem S1x32x128x256 .i8) (harg14 : arg14.IsWhole) (arg15 : Memref sig .tc .vmem S1x32x4x256 .f32) (harg15 : arg15.IsWhole) (arg16 : Memref sig .tc .vmem S1x32x128x256 .i8) (harg16 : arg16.IsWhole) (arg17 : Memref sig .tc .vmem S1x32x4x256 .f32) (harg17 : arg17.IsWhole) (arg18 : Memref sig .tc .vmem S1x32x128x256 .i8) (harg18 : arg18.IsWhole) (arg19 : Memref sig .tc .vmem S1x128x256 .f32) (harg19 : arg19.IsWhole) (arg20 : Memref sig .tc .vmem S1x32x256x128 .i8) (harg20 : arg20.IsWhole) (arg21 : Memref sig .tc .vmem S1x32x256 .f32) (harg21 : arg21.IsWhole) (arg22 : Memref sig .tc .vmem S4x256x256 .f32) (harg22 : arg22.IsWhole) (arg23 : Memref sig .tc .vmem S32x256 .f32) (harg23 : arg23.IsWhole) (arg1 : BitVec 32) (v14 : IVec S32x256 32) (v15 : IVec S128x256 32)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f22 : Buf (Elt F) (arg22.view.loc (c : Thread nD τ))) (f23 : Buf (Elt F) (arg23.view.loc (c : Thread nD τ))) :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v14 v15 where
  inv := fun k acc => iprop((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (∃ f, arg13.view.loc (c : Thread nD τ) ↦[arg13.view.set]{fullShare} f)
      ∗ (∃ f, arg14.view.loc (c : Thread nD τ) ↦[arg14.view.set]{fullShare} f)
      ∗ (∃ f, arg15.view.loc (c : Thread nD τ) ↦[arg15.view.set]{fullShare} f)
      ∗ (∃ f, arg16.view.loc (c : Thread nD τ) ↦[arg16.view.set]{fullShare} f)
      ∗ (∃ f, arg17.view.loc (c : Thread nD τ) ↦[arg17.view.set]{fullShare} f)
      ∗ (∃ f, arg18.view.loc (c : Thread nD τ) ↦[arg18.view.set]{fullShare} f)
      ∗ (∃ f, arg19.view.loc (c : Thread nD τ) ↦[arg19.view.set]{fullShare} f)
      ∗ (∃ f, arg20.view.loc (c : Thread nD τ) ↦[arg20.view.set]{fullShare} f)
      ∗ (∃ f, arg21.view.loc (c : Thread nD τ) ↦[arg21.view.set]{fullShare} f)
      ∗ (arg22.view.loc (c : Thread nD τ) ↦[arg22.view.set]{fullShare} f22)
      ∗ (arg23.view.loc (c : Thread nD τ) ↦[arg23.view.set]{fullShare} f23))
  step := fun k acc => by
    unfold k0_t1_body
    iintro ⟨H2, H3, H4, H5, H6, H7, H8, H9, H10, H11, H12, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, H22, H23⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexact H22
    iexact H23

/-- The body's run, for any continuation. -/
theorem kernelRun (c : Dev nD) (i : grid0.Coords) (arg2 : Memref sig .tc .vmem S1x32x256x128 .bf16) (harg2 : arg2.IsWhole) (arg3 : Memref sig .tc .vmem S1x32x256x128 .i8) (harg3 : arg3.IsWhole) (arg4 : Memref sig .tc .vmem S1x32x256 .f32) (harg4 : arg4.IsWhole) (arg5 : Memref sig .tc .vmem S1x32x256 .i8) (harg5 : arg5.IsWhole) (arg6 : Memref sig .tc .vmem S1x4x256x256 .f32) (harg6 : arg6.IsWhole) (arg7 : Memref sig .tc .vmem S512x128 .i8) (harg7 : arg7.IsWhole) (arg8 : Memref sig .tc .vmem S512x256 .f32) (harg8 : arg8.IsWhole) (arg9 : Memref sig .tc .vmem S128x256 .f32) (harg9 : arg9.IsWhole) (arg10 : Memref sig .tc .vmem S128x128 .i8) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32x256x128 .bf16) (harg13 : arg13.IsWhole) (arg14 : Memref sig .tc .vmem S1x32x128x256 .i8) (harg14 : arg14.IsWhole) (arg15 : Memref sig .tc .vmem S1x32x4x256 .f32) (harg15 : arg15.IsWhole) (arg16 : Memref sig .tc .vmem S1x32x128x256 .i8) (harg16 : arg16.IsWhole) (arg17 : Memref sig .tc .vmem S1x32x4x256 .f32) (harg17 : arg17.IsWhole) (arg18 : Memref sig .tc .vmem S1x32x128x256 .i8) (harg18 : arg18.IsWhole) (arg19 : Memref sig .tc .vmem S1x128x256 .f32) (harg19 : arg19.IsWhole) (arg20 : Memref sig .tc .vmem S1x32x256x128 .i8) (harg20 : arg20.IsWhole) (arg21 : Memref sig .tc .vmem S1x32x256 .f32) (harg21 : arg21.IsWhole) (arg22 : Memref sig .tc .vmem S4x256x256 .f32) (harg22 : arg22.IsWhole) (arg23 : Memref sig .tc .vmem S32x256 .f32) (harg23 : arg23.IsWhole)
    (d2 : S1x32x256x128.Idx → Elt F .bf16) (d3 : S1x32x256x128.Idx → Elt F .i8) (d4 : S1x32x256.Idx → Elt F .f32) (d5 : S1x32x256.Idx → Elt F .i8) (d6 : S1x4x256x256.Idx → Elt F .f32) (d7 : S512x128.Idx → Elt F .i8) (d8 : S512x256.Idx → Elt F .f32) (d9 : S128x256.Idx → Elt F .f32) (d10 : S128x128.Idx → Elt F .i8) (d11 : S1x128.Idx → Elt F .f32) (d12 : S1x128.Idx → Elt F .f32) (W : Waits sig Unit) (K : PUnit → sProp 𝕄) :
    iprop(owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare d9
        ∗ owns (c : Thread nD τ) arg10 fullShare d10
        ∗ owns (c : Thread nD τ) arg11 fullShare d11
        ∗ owns (c : Thread nD τ) arg12 fullShare d12
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ owes (c : Thread nD τ) 0 W
        ∗ (iprop(owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare d9
        ∗ owns (c : Thread nD τ) arg10 fullShare d10
        ∗ owns (c : Thread nD τ) arg11 fullShare d11
        ∗ owns (c : Thread nD τ) arg12 fullShare d12
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ owes (c : Thread nD τ) 0 W) -∗ K ⟨⟩))
      ⊢ wp frame (wpE (defs₀ (F := F)) Variants.none c none) Set.univ
          (cc0_attend i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_attend_eq_skeleton]; unfold cc0_attend_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, HW, Hk⟩
  by_cases hb : Scalar.cmpi .ne (Scalar.extui (Scalar.cmpi .eq (BitVec.ofNat 32 (i 1).val) 0#32) : BitVec 32) 0#32 = 1#1
  · sl_exec_parts
    sl_step
    iapply Hk
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H12]
    · iexists _; isplitr; swap; · iexact H12
      ipureintro; exact hf12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexact HW
  · sl_exec_parts
    sl_step
    iapply Hk
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H12]
    · iexists _; isplitr; swap; · iexact H12
      ipureintro; exact hf12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexact HW

/-! ## The proof data and the body obligation -/

variable (m : (ℓ : Loc nD τ sig) → Buf (Elt F) ℓ) (ρ : Dev nD → PrngReg)

abbrev scM0 : Memref sig .tc .vmem S4x256x256 .f32 := Memref.whole cc0_scratch0
abbrev scM1 : Memref sig .tc .vmem S32x256 .f32 := Memref.whole cc0_scratch1

/-- The class invariant, conjunct by conjunct: both scratch buffers at some contents, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d))
          ∗ (∃ r, prngReg c r)) := by
  unfold Pipeline.ΦA
  rw [scopedRest0_eq]; simp only [scM0, scM1, owns_whole]; try rfl

/-- The output windows, FORGOTTEN: nothing here reads what the kernel leaves in them. -/
def forgets0 : Fin 20 → Bool := fun w => decide (11 ≤ w.val)

/-- The proof data on core `c`: each array as the region finds it, each input's block left in place, the class
    invariant, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨n + 11, h⟩ => Pipeline.Dat.unnamed (cfg := cfg0) ⟨n + 11, h⟩ t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d))

set_option maxHeartbeats 4000000 in
/-- The body at a point: the invariant opened, every input at its block, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA0_eq]
  unfold Dat.owesAt Pipeline.owesWithin
  rw [show (dats m 0 c).owed t.castSucc = 0 from rfl]
  have hb0 : ∀ d, (dats m 0 c).before 0 t d = iblk m c 0 t := fun d => before0_0_of m (dats m 0 c) rfl (fun _ => rfl) t d
  have hb1 : ∀ d, (dats m 0 c).before 1 t d = iblk m c 1 t := fun d => before0_1_of m (dats m 0 c) rfl (fun _ => rfl) t d
  have hb2 : ∀ d, (dats m 0 c).before 2 t d = iblk m c 2 t := fun d => before0_2_of m (dats m 0 c) rfl (fun _ => rfl) t d
  have hb3 : ∀ d, (dats m 0 c).before 3 t d = iblk m c 3 t := fun d => before0_3_of m (dats m 0 c) rfl (fun _ => rfl) t d
  have hb4 : ∀ d, (dats m 0 c).before 4 t d = iblk m c 4 t := fun d => before0_4_of m (dats m 0 c) rfl (fun _ => rfl) t d
  have hb5 : ∀ d, (dats m 0 c).before 5 t d = iblk m c 5 t := fun d => before0_5_of m (dats m 0 c) rfl (fun _ => rfl) t d
  have hb6 : ∀ d, (dats m 0 c).before 6 t d = iblk m c 6 t := fun d => before0_6_of m (dats m 0 c) rfl (fun _ => rfl) t d
  have hb7 : ∀ d, (dats m 0 c).before 7 t d = iblk m c 7 t := fun d => before0_7_of m (dats m 0 c) rfl (fun _ => rfl) t d
  have hb8 : ∀ d, (dats m 0 c).before 8 t d = iblk m c 8 t := fun d => before0_8_of m (dats m 0 c) rfl (fun _ => rfl) t d
  have hb9 : ∀ d, (dats m 0 c).before 9 t d = iblk m c 9 t := fun d => before0_9_of m (dats m 0 c) rfl (fun _ => rfl) t d
  have hb10 : ∀ d, (dats m 0 c).before 10 t d = iblk m c 10 t := fun d => before0_10_of m (dats m 0 c) rfl (fun _ => rfl) t d
  simp only [hb0, hb1, hb2, hb3, hb4, hb5, hb6, hb7, hb8, hb9, hb10]
  iintro ⟨⟨⟨HS0, HS1⟩, Hg⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16, H17, H18, H19⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HO]; · iexact HO
  iintro ⟨H0, H1, H2, H3, H4, H5, H6, H7, H8, H9, H10, H11, H12, H13, H14, H15, H16, H17, H18, H19, HS0, HS1, HO⟩
  isplitl [HS0 HS1 Hg]
  · isplitl [HS0 HS1]
    · isplitl [HS0]; · iexact HS0
      iexact HS1
    iexact Hg
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters every weakly fair execution terminates, every array no output window writes
    keeps its contents, and every semaphore counter ends at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

set_option maxHeartbeats 1200000 in
/-- The frame claim's post: every argument array at its launch contents and every counter at zero. -/
theorem quiescent :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) ∧ r.2.sem = fun _ => 0) :=
  (θ_run defs _ _).mono (fun _ h => ⟨fun c => ⟨(Pipeline.RDat.FramePost.arr_in h.1 c 0 rfl).trans ((A_eq m c 0).trans (V_main_arg0 m c)), (Pipeline.RDat.FramePost.arr_in h.1 c 1 rfl).trans ((A_eq m c 1).trans (V_main_arg1 m c)), (Pipeline.RDat.FramePost.arr_in h.1 c 2 rfl).trans ((A_eq m c 2).trans (V_main_arg2 m c)), (Pipeline.RDat.FramePost.arr_in h.1 c 3 rfl).trans ((A_eq m c 3).trans (V_main_arg3 m c)), (Pipeline.RDat.FramePost.arr_in h.1 c 4 rfl).trans ((A_eq m c 4).trans (V_main_arg4 m c)), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c), ((h.1 c).2 main_arg9 (Pipeline.mem_restRefs_of main_arg9 (by decide) (by decide))).trans (V_main_arg9 m c), ((h.1 c).2 main_arg10 (Pipeline.mem_restRefs_of main_arg10 (by decide) (by decide))).trans (V_main_arg10 m c), ((h.1 c).2 main_arg11 (Pipeline.mem_restRefs_of main_arg11 (by decide) (by decide))).trans (V_main_arg11 m c), ((h.1 c).2 main_arg12 (Pipeline.mem_restRefs_of main_arg12 (by decide) (by decide))).trans (V_main_arg12 m c), ((h.1 c).2 main_arg13 (Pipeline.mem_restRefs_of main_arg13 (by decide) (by decide))).trans (V_main_arg13 m c), ((h.1 c).2 main_arg14 (Pipeline.mem_restRefs_of main_arg14 (by decide) (by decide))).trans (V_main_arg14 m c), ((h.1 c).2 main_arg15 (Pipeline.mem_restRefs_of main_arg15 (by decide) (by decide))).trans (V_main_arg15 m c), ((h.1 c).2 main_arg16 (Pipeline.mem_restRefs_of main_arg16 (by decide) (by decide))).trans (V_main_arg16 m c)⟩, h.2⟩) (run_main m ρ)

end Cert.KernelIdeal.Hand

end
-- ==== Proof.KITrip.lean ====
/-
  What one row of the attend kernel computes, as a function of what its windows and its scratch hold: the values the
  body stores in each output, composed of the kernel's own payloads.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.WritesUnit
public import Idealize.ShloMosaic.Lib.Pointwise

@[expose] public section

noncomputable section

namespace Cert.KernelIdeal.Hand

open Cert.KernelIdeal Cert.KernelIdeal.Gen
open Idealize.ShloMosaic Idealize.ShloMosaic.TcCoe

variable {F : FTy → Type} [FloatOps F] [Named F]

/-- What the input windows and the two scratch buffers hold. -/
structure Win (F : FTy → Type) where
  d2 : S1x32x256x128.Idx → Elt F .bf16
  d3 : S1x32x256x128.Idx → Elt F .i8
  d4 : S1x32x256.Idx → Elt F .f32
  d7 : S512x128.Idx → Elt F .i8
  d8 : S512x256.Idx → Elt F .f32
  d9 : S128x256.Idx → Elt F .f32
  d10 : S128x128.Idx → Elt F .i8
  d11 : S1x128.Idx → Elt F .f32
  d12 : S1x128.Idx → Elt F .f32
  d22 : S4x256x256.Idx → Elt F .f32
  d23 : S32x256.Idx → Elt F .f32

abbrev Trip := Fin k0_t1_loop.trips

theorem trips_eq : k0_t1_loop.trips = 32 := by decide +kernel

namespace Win

variable (w : Win F) (k : Trip)

def lX : Vec F S1x1x256x128 .bf16 := View.ld w.d2 (Rect.unit (s := S1x32x256x128) (k0_off1 k) S1x1x256x128.size (k0_off1_inb k))
def lC : Vec F S1x1x256x128 .i8 := View.ld w.d3 (Rect.unit (s := S1x32x256x128) (k0_off1 k) S1x1x256x128.size (k0_off1_inb k))
def lS : Vec F S1x1x256 .f32 := View.ld w.d4 (Rect.unit (s := S1x32x256) (k0_off2 k) S1x1x256.size (k0_off2_inb k))
def lW0 : Vec F S128x128 .i8 := View.ld w.d7 (Rect.unit (s := S512x128) ![0, 0] S128x128.size inb_S512x128_S128x128_0_0)
def lW1 : Vec F S128x128 .i8 := View.ld w.d7 (Rect.unit (s := S512x128) ![128, 0] S128x128.size inb_S512x128_S128x128_128_0)
def lW2 : Vec F S128x128 .i8 := View.ld w.d7 (Rect.unit (s := S512x128) ![256, 0] S128x128.size inb_S512x128_S128x128_256_0)
def lW3 : Vec F S128x128 .i8 := View.ld w.d7 (Rect.unit (s := S512x128) ![384, 0] S128x128.size inb_S512x128_S128x128_384_0)
def lR0 : Vec F S128x256 .f32 := View.ld w.d8 (Rect.unit (s := S512x256) ![0, 0] S128x256.size inb_S512x256_S128x256_0_0)
def lR1 : Vec F S128x256 .f32 := View.ld w.d8 (Rect.unit (s := S512x256) ![128, 0] S128x256.size inb_S512x256_S128x256_128_0)
def lR2 : Vec F S128x1 .f32 := View.ld w.d8 (Rect.unit (s := S512x256) ![256, 0] S128x1.size inb_S512x256_S128x1_256_0)
def lR3 : Vec F S128x256 .f32 := View.ld w.d8 (Rect.unit (s := S512x256) ![384, 0] S128x256.size inb_S512x256_S128x256_384_0)
def lG : Vec F S128x256 .f32 := View.ld w.d9 (Rect.unit (s := S128x256) ![0, 0] S128x256.size inb_S128x256_S128x256_0_0)
def lO : Vec F S128x128 .i8 := View.ld w.d10 (Rect.unit (s := S128x128) ![0, 0] S128x128.size inb_S128x128_S128x128_0_0)
def lSo : Vec F S1x128 .f32 := View.ld w.d11 (Rect.unit (s := S1x128) ![0, 0] S1x128.size inb_S1x128_S1x128_0_0)
def lBo : Vec F S1x128 .f32 := View.ld w.d12 (Rect.unit (s := S1x128) ![0, 0] S1x128.size inb_S1x128_S1x128_0_0)
def lM : Vec F S1x256 .f32 := View.ld w.d23 (Rect.unit (s := S32x256) (k0_off5 k) S1x256.size (k0_off5_inb k))
def lB0 : Vec F S1x256x256 .f32 := View.ld w.d22 (Rect.unit (s := S4x256x256) ![0, 0, 0] S1x256x256.size inb_S4x256x256_S1x256x256_0_0_0)
def lB1 : Vec F S1x256x256 .f32 := View.ld w.d22 (Rect.unit (s := S4x256x256) ![1, 0, 0] S1x256x256.size inb_S4x256x256_S1x256x256_1_0_0)
def lB2 : Vec F S1x256x256 .f32 := View.ld w.d22 (Rect.unit (s := S4x256x256) ![2, 0, 0] S1x256x256.size inb_S4x256x256_S1x256x256_2_0_0)
def lB3 : Vec F S1x256x256 .f32 := View.ld w.d22 (Rect.unit (s := S4x256x256) ![3, 0, 0] S1x256x256.size inb_S4x256x256_S1x256x256_3_0_0)

def v27 : FVec F S256x128 .bf16 := k0_pay9 (w.lC k)
def v30 : FVec F S1x256 .f32 := k0_pay10 (w.lS k)
def qs : FVec F S4x256 .f32 := k0_pay12 (w.lC k) (w.lS k) w.lW0 w.lR0
def qc : FVec F S4x32x256 .f32 := k0_pay13 (w.lC k) (w.lS k) w.lW0 w.lR0
def ka : FVec F S128x256 .f32 := k0_pay14 (w.lC k) w.lW1
def ks : FVec F S4x256 .f32 := k0_pay16 (w.v30 k) (w.ka k) w.lR1
def kc : FVec F S4x32x256 .f32 := k0_pay17 (w.v30 k) (w.ka k) w.lR1
def vs : FVec F S128x1 .f32 := k0_pay24 (w.v27 k) (w.v30 k) w.lW2 w.lR2
def vc : FVec F S128x256 .f32 := k0_pay25 (w.v27 k) (w.v30 k) w.lW2 w.lR2
def vb : FVec F S128x256 .bf16 := k0_pay29 (w.vc k)
def gate : FVec F S128x256 .f32 := k0_pay30 (w.v27 k) (w.v30 k) w.lW3 w.lR3 w.lG
def mrow (v14 : IVec S32x256 32) : FVec F S32x256 .bf16 := k0_pay31 v14 (w.lM k)
def o0 (v14 : IVec S32x256 32) : FVec F S32x256 .f32 :=
  k0_pay32 (k0_pay3 (F := F)) (w.qs k) (w.qc k) (w.ks k) (w.kc k) (w.vs k) (w.vb k) (w.mrow k v14) w.lB0
def o1 (v14 : IVec S32x256 32) : FVec F S32x256 .f32 :=
  k0_pay34 (k0_pay3 (F := F)) (w.qs k) (w.qc k) (w.ks k) (w.vs k) (w.vb k) (w.mrow k v14) (k0_pay33 (w.kc k)) w.lB1
def o2 (v14 : IVec S32x256 32) : FVec F S32x256 .f32 :=
  k0_pay37 (k0_pay3 (F := F)) (w.qs k) (w.qc k) (w.vs k) (w.vb k) (w.mrow k v14) (k0_pay35 (w.kc k)) (k0_pay36 (w.ks k)) w.lB2
def y (v14 : IVec S32x256 32) : FVec F S128x256 .f32 :=
  k0_pay39 (k0_pay3 (F := F)) (w.qs k) (w.qc k) (w.vs k) (w.vb k) (w.gate k) (w.mrow k v14) (w.o0 k v14) (w.o1 k v14) (w.o2 k v14)
    (k0_pay38 (w.ks k) (w.kc k)) w.lB3
def ya (v14 : IVec S32x256 32) : FVec F S1x256 .f32 :=
  k0_pay40 (k0_pay3 (F := F)) (w.qs k) (w.qc k) (w.vs k) (w.vb k) (w.gate k) (w.mrow k v14) (w.o0 k v14) (w.o1 k v14) (w.o2 k v14)
    (k0_pay38 (w.ks k) (w.kc k)) w.lB3
def out (v14 : IVec S32x256 32) : FVec F S256x128 .f32 := k0_pay46 (w.y k v14) (w.ya k v14) (k0_pay41 (F := F)) w.lO w.lSo

/-- The values stored in row `k` of the outputs. -/
def T13 (v14 : IVec S32x256 32) : Vec F S1x1x256x128 .bf16 := k0_pay4 (w.out k v14) w.lBo (w.lX k)
def T14 : Vec F S1x1x128x256 .i8 := k0_pay18 (w.qc k)
def T15 : Vec F S1x1x4x256 .f32 := k0_pay20 (w.qs k)
def T16 : Vec F S1x1x128x256 .i8 := k0_pay19 (w.v30 k) (w.ka k) w.lR1
def T17 : Vec F S1x1x4x256 .f32 := k0_pay21 (w.ks k)
def T18 : Vec F S1x1x128x256 .i8 := k0_pay26 (w.v27 k) (w.v30 k) w.lW2 w.lR2
def T19 (arg1 : BitVec 32) (v15 : IVec S128x256 32) (X : Vec F S1x128x256 .f32) : Vec F S1x128x256 .f32 :=
  k0_pay28 (w.vs k) (k0_pay27 arg1 v15 (Scf.iv 0#32 1#32 k)) X
def T20 (v14 : IVec S32x256 32) : Vec F S1x1x256x128 .i8 := k0_pay44 (w.y k v14) (w.ya k v14) (k0_pay41 (F := F))
def T21 (v14 : IVec S32x256 32) : Vec F S1x1x256 .f32 := k0_pay45 (w.ya k v14) (k0_pay41 (F := F))

end Win

/-- The trip that writes the row of a window's index. -/
def tripOf (n : Fin 32) : Trip := ⟨n.val, by rw [trips_eq]; exact n.isLt⟩

namespace Win

variable (w : Win F) (v14 : IVec S32x256 32)

/-- The outputs' windows, whole. -/
def G13 : S1x32x256x128.Idx → Elt F .bf16 := fun x => w.T13 (tripOf (x 1)) v14 (ix4 0 0 (x 2) (x 3))
def G14 : S1x32x128x256.Idx → Elt F .i8 := fun x => w.T14 (tripOf (x 1)) (ix4 0 0 (x 2) (x 3))
def G15 : S1x32x4x256.Idx → Elt F .f32 := fun x => w.T15 (tripOf (x 1)) (ix4 0 0 (x 2) (x 3))
def G16 : S1x32x128x256.Idx → Elt F .i8 := fun x => w.T16 (tripOf (x 1)) (ix4 0 0 (x 2) (x 3))
def G17 : S1x32x4x256.Idx → Elt F .f32 := fun x => w.T17 (tripOf (x 1)) (ix4 0 0 (x 2) (x 3))
def G18 : S1x32x128x256.Idx → Elt F .i8 := fun x => w.T18 (tripOf (x 1)) (ix4 0 0 (x 2) (x 3))
/-- The window of the scales of `v` after `n` rows: each row writes its lane over what it finds. -/
def G19 (arg1 : BitVec 32) (v15 : IVec S128x256 32) (e : S1x128x256.Idx → Elt F .f32) : ℕ → S1x128x256.Idx → Elt F .f32
  | 0 => e
  | n + 1 => if h : n < 32 then w.T19 (tripOf ⟨n, h⟩) arg1 v15 (G19 arg1 v15 e n) else G19 arg1 v15 e n
def G20 : S1x32x256x128.Idx → Elt F .i8 := fun x => w.T20 (tripOf (x 1)) v14 (ix4 0 0 (x 2) (x 3))
def G21 : S1x32x256.Idx → Elt F .f32 := fun x => w.T21 (tripOf (x 1)) v14 (ix3 0 0 (x 2))

end Win

theorem off1_eq : ∀ k : Trip, k0_off1 k = ![0, k.val, 0, 0] := by decide +kernel
theorem off2_eq : ∀ k : Trip, k0_off2 k = ![0, k.val, 0] := by decide +kernel
theorem off3_eq : ∀ k : Trip, k0_off3 k = ![0, k.val, 0, 0] := by decide +kernel
theorem off4_eq : ∀ k : Trip, k0_off4 k = ![0, k.val, 0, 0] := by decide +kernel
theorem off5_eq : ∀ k : Trip, k0_off5 k = ![k.val, 0] := by decide +kernel

section Rows

variable {sig : RefSig} {κ : Kind} {sp : Space} {e : EltTy} {Val : EltTy → Type}

/-- Row `k` of a window of rows written: what was right of the rows before is right of one row more. -/
theorem rows4 {A B : ℕ} (v : View sig κ sp ⟨4, ![1, 32, A, B]⟩ e) (g : v.ty.Contents Val) (k : Trip)
    (off : Fin 4 → ℕ) (hoff : off = ![0, k.val, 0, 0]) (inb)
    (T : Trip → (⟨4, ![1, 1, A, B]⟩ : Shape).Idx → Val e) (G : (⟨4, ![1, 32, A, B]⟩ : Shape).Idx → Val e)
    (hG : ∀ x, G x = T (tripOf (x 1)) (ix4 (n0 := 1) (n1 := 1) (n2 := A) (n3 := B) 0 0 (x 2) (x 3)))
    (h : ∀ x, (x 1).val < k.val → v.read Val g x = G x) :
    ∀ x, (x 1).val < k.val + 1 →
      v.read Val (v.writes Val g [⟨Rect.unit (s := ⟨4, ![1, 32, A, B]⟩) off ![1, 1, A, B] inb, T k⟩]) x = G x := by
  intro x hx
  by_cases hk : (x 1).val = k.val
  · rw [View.read_writes_cons_unit_of_mem v g inb (T k) [] x
      (ix4 (n0 := 1) (n1 := 1) (n2 := A) (n3 := B) 0 0 (x 2) (x 3)) hoff, hG, show tripOf (x 1) = k from Fin.ext hk]
    intro a
    have h0 : (x 0).val < 1 := (x 0).isLt
    match a with
    | 0 => show (x 0).val = 0 + 0; omega
    | 1 => show (x 1).val = k.val + 0; omega
    | 2 => show (x 2).val = 0 + (x 2).val; omega
    | 3 => show (x 3).val = 0 + (x 3).val; omega
  · rw [View.read_writes_cons_unit_of_not_mem v g inb (T k) [] x hoff 1 (Or.inl (by show (x 1).val < k.val; omega))]
    exact h x (by omega)

/-- The same for a window of rank three. -/
theorem rows3 {B : ℕ} (v : View sig κ sp ⟨3, ![1, 32, B]⟩ e) (g : v.ty.Contents Val) (k : Trip)
    (off : Fin 3 → ℕ) (hoff : off = ![0, k.val, 0]) (inb)
    (T : Trip → (⟨3, ![1, 1, B]⟩ : Shape).Idx → Val e) (G : (⟨3, ![1, 32, B]⟩ : Shape).Idx → Val e)
    (hG : ∀ x, G x = T (tripOf (x 1)) (ix3 (n0 := 1) (n1 := 1) (n2 := B) 0 0 (x 2)))
    (h : ∀ x, (x 1).val < k.val → v.read Val g x = G x) :
    ∀ x, (x 1).val < k.val + 1 →
      v.read Val (v.writes Val g [⟨Rect.unit (s := ⟨3, ![1, 32, B]⟩) off ![1, 1, B] inb, T k⟩]) x = G x := by
  intro x hx
  by_cases hk : (x 1).val = k.val
  · rw [View.read_writes_cons_unit_of_mem v g inb (T k) [] x
      (ix3 (n0 := 1) (n1 := 1) (n2 := B) 0 0 (x 2)) hoff, hG, show tripOf (x 1) = k from Fin.ext hk]
    intro a
    have h0 : (x 0).val < 1 := (x 0).isLt
    match a with
    | 0 => show (x 0).val = 0 + 0; omega
    | 1 => show (x 1).val = k.val + 0; omega
    | 2 => show (x 2).val = 0 + (x 2).val; omega
  · rw [View.read_writes_cons_unit_of_not_mem v g inb (T k) [] x hoff 1 (Or.inl (by show (x 1).val < k.val; omega))]
    exact h x (by omega)

end Rows

end Cert.KernelIdeal.Hand

end
-- ==== Proof.Spec.lean ====
/-
  The attend call's mathematics at an index: what every result holds, as a function of the arguments' elements.
-/
module

public import Idealize.ShloMosaic.Lib.Pointwise
public import Idealize.ShloMosaic.PureOps

@[expose] public section

noncomputable section

namespace Cert.Spec

open Idealize.ShloMosaic

/-- The arguments, element by element. -/
structure Arg where
  x : Fin 5 → Fin 256 → Fin 256 → Fin 128 → EReal
  c : Fin 5 → Fin 256 → Fin 256 → Fin 128 → BitVec 8
  s : Fin 5 → Fin 256 → Fin 256 → EReal
  ma : Fin 5 → Fin 256 → Fin 256 → BitVec 8
  bi : Fin 5 → Fin 4 → Fin 256 → Fin 256 → EReal
  wq : Fin 128 → Fin 4 → Fin 32 → BitVec 8
  sq : Fin 4 → Fin 32 → EReal
  wk : Fin 128 → Fin 4 → Fin 32 → BitVec 8
  sk : Fin 4 → Fin 32 → EReal
  wv : Fin 128 → Fin 4 → Fin 32 → BitVec 8
  sv : Fin 4 → Fin 32 → EReal
  wg : Fin 128 → Fin 4 → Fin 32 → BitVec 8
  sg : Fin 4 → Fin 32 → EReal
  bg : Fin 4 → Fin 32 → EReal
  wo : Fin 4 → Fin 32 → Fin 128 → BitVec 8
  so : Fin 128 → EReal
  bo : Fin 128 → EReal

/-- A code as a number. -/
def num (b : BitVec 8) : EReal := ((b.toInt : ℝ) : EReal)
/-- The magnitude. -/
def mag (v : EReal) : EReal := max v (-v)
/-- The greatest of a family. -/
def top {n : ℕ} (f : Fin n → EReal) : EReal := Finset.univ.fold max ⊥ f
/-- The quantiser's scale for a greatest magnitude. -/
def scale (a : EReal) : EReal := if a = 0 then 1 else Ideal.div a ((127 : ℝ) : EReal)
/-- The quantiser's code, as a number. -/
def code (v : EReal) : EReal :=
  min ((127 : ℝ) : EReal) (max ((-127 : ℝ) : EReal) (Ideal.liftRound Ideal.roundHalfEven v))
/-- A code stored in eight bits. -/
def i8 (v : EReal) : BitVec 8 := BitVec.setWidth 8 (Ideal.fptosi 32 v)

/-- The head and the place in it of a place in a row. -/
def hd (r : Fin 128) : Fin 4 := ⟨r.val / 32, by omega⟩
def pl (r : Fin 128) : Fin 32 := ⟨r.val % 32, by omega⟩

namespace Arg

variable (A : Arg) (b : Fin 5) (i j : Fin 256) (h : Fin 4)

def acc (w : Fin 128 → Fin 4 → Fin 32 → BitVec 8) (d : Fin 32) : EReal := ∑ x, num (A.c b i j x) * num (w x h d)
def proj (w : Fin 128 → Fin 4 → Fin 32 → BitVec 8) (s : Fin 4 → Fin 32 → EReal) (d : Fin 32) : EReal :=
  A.acc b i j h w d * A.s b i j * s h d
def rsc (w : Fin 128 → Fin 4 → Fin 32 → BitVec 8) (s : Fin 4 → Fin 32 → EReal) : EReal :=
  scale (top fun d => mag (A.proj b i j h w s d))
def rco (w : Fin 128 → Fin 4 → Fin 32 → BitVec 8) (s : Fin 4 → Fin 32 → EReal) (d : Fin 32) : EReal :=
  code (Ideal.div (A.proj b i j h w s d) (A.rsc b i j h w s))
def vsc (d : Fin 32) : EReal := scale (top fun j => mag (A.proj b i j h A.wv A.sv d))
def vco (d : Fin 32) : EReal := code (Ideal.div (A.proj b i j h A.wv A.sv d) (A.vsc b i h d))
def s2 (x : Fin 256) : EReal :=
  if A.ma b i x ≠ 0 then
    Ideal.div (Ideal.div ((∑ d, A.rco b i j h A.wq A.sq d * A.rco b i x h A.wk A.sk d) * A.rsc b i j h A.wq A.sq
      * A.rsc b i x h A.wk A.sk) ((Real.sqrt 32 : ℝ) : EReal) + A.bi b h j x) ((Real.log 2 : ℝ) : EReal)
  else ⊥
def p (x : Fin 256) : EReal :=
  Ideal.exp ((A.s2 b i j h x - Ideal.liftRound Int.ceil (top fun y => A.s2 b i j h y)) * ((Real.log 2 : ℝ) : EReal))
def gate (d : Fin 32) : EReal := Ideal.div 1 (1 + Ideal.exp (-(A.proj b i j h A.wg A.sg d + A.bg h d)))
def y (d : Fin 32) : EReal :=
  Ideal.div ((∑ x, A.vco b i x h d * A.p b i j h x) * A.vsc b i h d) (∑ x, A.p b i j h x) * A.gate b i j h d
def ysc : EReal := scale (top fun r => mag (A.y b i j (hd r) (pl r)))
def yco (r : Fin 128) : EReal := code (Ideal.div (A.y b i j (hd r) (pl r)) (A.ysc b i j))
def out (n : Fin 128) : EReal :=
  A.x b i j n + ((∑ r, A.yco b i j r * num (A.wo (hd r) (pl r) n)) * A.ysc b i j * A.so n + A.bo n)

end Arg

end Cert.Spec

end
-- ==== Proof.Row.lean ====
/-
  Extended reals: the constants the two programs print, and the laws of the quantiser and the softmax they differ by.
-/
module

public import proofs.«01_k».proof.Proof.Spec
public import Idealize.ShloMosaic.PureOps.Ideal.Laws

@[expose] public section

noncomputable section

namespace Cert.Spec

open Idealize.ShloMosaic

theorem bits_127 : Ideal.ofBits .f32 1123942400#32 = ((127 : ℝ) : EReal) := by
  simp [Ideal.ofBits, Ideal.ieee]; norm_cast; norm_num
theorem bits_m127 : Ideal.ofBits .f32 3271426048#32 = ((-127 : ℝ) : EReal) := by
  simp [Ideal.ofBits, Ideal.ieee]; norm_cast; norm_num
theorem bits_32 : Ideal.ofBits .f32 1107296256#32 = ((32 : ℝ) : EReal) := by
  simp [Ideal.ofBits, Ideal.ieee]; norm_cast; norm_num
theorem bits_2 : Ideal.ofBits .f32 1073741824#32 = ((2 : ℝ) : EReal) := by
  simp [Ideal.ofBits, Ideal.ieee]; norm_cast; norm_num
theorem bits_bot : Ideal.ofBits .f32 4286578688#32 = ⊥ := by
  simp [Ideal.ofBits, Ideal.ieee]
theorem bits_top : Ideal.ofBits .f32 2139095040#32 = ⊤ := by
  simp [Ideal.ofBits, Ideal.ieee]
theorem bits_1 : Ideal.ofBits .f32 1065353216#32 = 1 := Ideal.ofBits_one_f32
theorem bits_0 : Ideal.ofBits .f32 0#32 = 0 := Ideal.ofBits_zero_f32

theorem sitofp_num (t : FTy) (b : BitVec 8) : FloatOps.sitofp (F := Ideal) t b = num b := rfl
theorem sitofp_ext (t : FTy) (b : BitVec 8) : FloatOps.sitofp (F := Ideal) t (BitVec.signExtend 32 b) = num b := by
  show (((BitVec.signExtend 32 b).toInt : ℝ) : EReal) = _
  rw [BitVec.toInt_signExtend_of_le (by decide)]; rfl

theorem sqrt_32 : Ideal.sqrt ((32 : ℝ) : EReal) = ((Real.sqrt 32 : ℝ) : EReal) := by simp
theorem log_2 : Ideal.log ((2 : ℝ) : EReal) = ((Real.log 2 : ℝ) : EReal) := by simp

theorem sel_ne (a : BitVec 8) (u v w : EReal) (e : v = w := by rfl) :
    Scalar.select (IntOp.cmpi .ne a 0#8) u v = if a ≠ 0 then u else w := by
  subst e
  by_cases h : a = 0#8
  · subst h; rfl
  · rw [if_pos (show a ≠ 0 from h)]
    have : (a != 0#8) = true := by simp [h]
    simp [Scalar.select, IntOp.cmpi, this]

/-- A code is a whole number of at most 127 in magnitude. -/
theorem code_int (v : EReal) : ∃ n : ℤ, -127 ≤ n ∧ n ≤ 127 ∧ code v = ((n : ℝ) : EReal) := by
  unfold code
  induction v using EReal.rec with
  | bot => exact ⟨-127, by decide, by decide, by simp [Ideal.liftRound_bot]; norm_cast⟩
  | top => exact ⟨127, by decide, by decide, by simp [Ideal.liftRound_top]⟩
  | coe r =>
    refine ⟨min 127 (max (-127) (Ideal.roundHalfEven r)), by omega, by omega, ?_⟩
    have mm : Monotone (Real.toEReal) := EReal.coe_strictMono.monotone
    rw [Ideal.liftRound_coe, Int.cast_min, Int.cast_max, mm.map_min, mm.map_max]
    norm_num

theorem toInt_whole (n : ℤ) (h1 : -127 ≤ n) (h2 : n ≤ 127) : (BitVec.setWidth 8 (BitVec.ofInt 32 n)).toInt = n := by
  interval_cases n <;> rfl
theorem ofInt_whole (n : ℤ) (h1 : -127 ≤ n) (h2 : n ≤ 127) : BitVec.ofInt 8 n = BitVec.setWidth 8 (BitVec.ofInt 32 n) := by
  interval_cases n <;> rfl
theorem clamp_whole (n lo hi : ℤ) (h1 : lo ≤ n) (h2 : n ≤ hi) : Ideal.toIntClamped lo hi ((n : ℝ) : EReal) = n := by
  rw [Ideal.toIntClamped_coe, Int.floor_intCast, Int.ceil_intCast, ite_self]; omega

theorem num_i8 (v : EReal) : num (i8 (code v)) = code v := by
  obtain ⟨n, h1, h2, e⟩ := code_int v
  rw [e]
  unfold num i8 Ideal.fptosi
  rw [clamp_whole _ _ _ (by norm_num; omega) (by norm_num; omega), toInt_whole n h1 h2]

/-- A code made in eight bits at once is the one made in thirty-two and cut. -/
theorem fptosi_i8 (v : EReal) : Ideal.fptosi 8 (code v) = i8 (code v) := by
  obtain ⟨n, h1, h2, e⟩ := code_int v
  rw [e]
  unfold i8 Ideal.fptosi
  rw [clamp_whole _ _ _ (by norm_num; omega) (by norm_num; omega), clamp_whole _ _ _ (by norm_num; omega) (by norm_num; omega), ofInt_whole n h1 h2]

theorem Arg.num_rco (A : Arg) (b i j h w s d) : num (i8 (A.rco b i j h w s d)) = A.rco b i j h w s d := num_i8 _
theorem Arg.num_vco (A : Arg) (b i j h d) : num (i8 (A.vco b i j h d)) = A.vco b i j h d := num_i8 _
theorem Arg.num_yco (A : Arg) (b i j r) : num (i8 (A.yco b i j r)) = A.yco b i j r := num_i8 _

theorem hd_mk (k : Fin 4) (e : Fin 32) (h) : hd ⟨k.val * 32 + e.val, h⟩ = k := Fin.ext (by show (k.val * 32 + e.val) / 32 = k.val; omega)
theorem pl_mk (k : Fin 4) (e : Fin 32) (h) : pl ⟨k.val * 32 + e.val, h⟩ = e := Fin.ext (by show (k.val * 32 + e.val) % 32 = e.val; omega)

/-- A sum along a row by heads. -/
theorem sum_rows (f : Fin 128 → EReal) : ∑ r, f r = ∑ e : Fin 32, ∑ k : Fin 4, f ⟨k.val * 32 + e.val, by omega⟩ := by
  rw [Finset.sum_comm, ← Fintype.sum_prod_type' (f := fun (k : Fin 4) (e : Fin 32) => f ⟨k.val * 32 + e.val, by omega⟩)]
  refine (Fintype.sum_equiv (finProdFinEquiv (m := 4) (n := 32)) _ _ fun p => ?_).symm
  congr 1
  exact Fin.ext (by simp [finProdFinEquiv]; omega)

end Cert.Spec

end
-- ==== Proof.RowK.lean ====
/-
  The attend kernel's own way round: its scores, its softmax and its quantiser, equal to the reference's on extended reals.
-/
module

public import proofs.«01_k».proof.Proof.Row

@[expose] public section

noncomputable section

namespace Cert.Spec

open Idealize.ShloMosaic

/-- The constants the idealized kernel names. -/
abbrev L : EReal := (((Real.log 2)⁻¹ : ℝ) : EReal)
abbrev negL : EReal := ((-((Real.log 2)⁻¹) : ℝ) : EReal)
abbrev rsL : EReal := (((Real.sqrt 32)⁻¹ * (Real.log 2)⁻¹ : ℝ) : EReal)

/-- The row of ones over noughts. -/
def first (d : Fin 32) : EReal := if d.val = 0 then 1 else 0

/-- The contraction of a head's scores: the keys in three parts, then the mask's row. -/
def lad (kk q : Fin 32 → EReal) (mr one : Fin 32 → EReal) : EReal :=
  (∑ d, kk d * q d) + (∑ d, (kk d - kk d) * q d) + (∑ d, ((kk d - kk d) - (kk d - kk d)) * q d) + ∑ d, mr d * one d

/-- A head's scores and its weighted mean, of the rows they read. -/
def scoreE (qs : EReal) (qc : Fin 32 → EReal) (ks : Fin 256 → EReal) (kc : Fin 32 → Fin 256 → EReal) (m : Fin 256 → EReal) (B : Fin 256 → EReal) (x : Fin 256) : EReal :=
  lad (fun d => kc d x * ks x) qc (fun d => if d.val = 0 then m x else 0) first * (qs * rsL) + B x
def softE (s : Fin 256 → EReal) (v : Fin 256 → EReal) (vs : EReal) : EReal :=
  (∑ x, v x * Ideal.exp2 (s x - Ideal.liftRound Int.ceil (top s))) * (vs * Ideal.div 1 (∑ x, Ideal.exp2 (s x - Ideal.liftRound Int.ceil (top s))))

theorem mag_coe (r : ℝ) : mag (r : EReal) = ((|r| : ℝ) : EReal) := by
  unfold mag
  rw [← EReal.coe_neg, ← EReal.coe_strictMono.monotone.map_max]; rfl
theorem mag_nonneg (v : EReal) : 0 ≤ mag v := by
  unfold mag
  rcases le_total 0 v with h | h
  · exact le_max_of_le_left h
  · exact le_max_of_le_right (EReal.neg_nonneg.mpr h)

theorem le_top_of {n : ℕ} (f : Fin n → EReal) (i : Fin n) : f i ≤ top f :=
  (Finset.fold_max_le (c := top f)).mp le_rfl |>.2 i (Finset.mem_univ i)
theorem top_le {n : ℕ} (f : Fin n → EReal) (c : EReal) (h : ∀ i, f i ≤ c) : top f ≤ c :=
  (Finset.fold_max_le (c := c)).mpr ⟨bot_le, fun i _ => h i⟩
theorem top_attained {n : ℕ} [NeZero n] (f : Fin n → EReal) : ∃ i, top f = f i := by
  obtain ⟨i, -, h⟩ := Finset.exists_max_image Finset.univ f ⟨0, Finset.mem_univ _⟩
  exact ⟨i, le_antisymm (top_le f _ fun j => h j (Finset.mem_univ j)) (le_top_of f i)⟩
theorem top_map {n : ℕ} [NeZero n] (f : Fin n → EReal) (g : EReal → EReal) (hg : Monotone g) : g (top f) = top fun i => g (f i) := by
  apply le_antisymm
  · obtain ⟨i, e⟩ := top_attained f
    rw [e]; exact le_top_of (fun i => g (f i)) i
  · exact top_le _ _ fun i => hg (le_top_of f i)

/-- A real. -/
def Fin' (v : EReal) : Prop := ∃ r : ℝ, v = r
theorem Fin'.mul {a b : EReal} : Fin' a → Fin' b → Fin' (a * b) := fun ⟨x, e⟩ ⟨y, f⟩ => ⟨x * y, by rw [e, f, EReal.coe_mul]⟩
theorem Fin'.add {a b : EReal} : Fin' a → Fin' b → Fin' (a + b) := fun ⟨x, e⟩ ⟨y, f⟩ => ⟨x + y, by rw [e, f, EReal.coe_add]⟩
theorem Fin'.num (b : BitVec 8) : Fin' (num b) := ⟨_, rfl⟩
theorem Fin'.code (v : EReal) : Fin' (code v) := by obtain ⟨n, -, -, e⟩ := code_int v; exact ⟨n, e⟩
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]
theorem Fin'.sum {n : ℕ} (f : Fin n → EReal) (h : ∀ i, Fin' (f i)) : Fin' (∑ i, f i) := by
  choose g hg using h
  exact ⟨∑ i, g i, by rw [coe_sum]; exact Finset.sum_congr rfl fun i _ => hg i⟩
theorem Fin'.top {n : ℕ} [NeZero n] (f : Fin n → EReal) (h : ∀ i, Fin' (f i)) : Fin' (top f) := by
  obtain ⟨i, e⟩ := top_attained f
  rw [e]; exact h i
theorem Fin'.mag {a : EReal} : Fin' a → Fin' (mag a) := fun ⟨x, e⟩ => ⟨|x|, by rw [e, mag_coe]⟩

theorem scale_coe (r : ℝ) (h : 0 ≤ r) : ∃ c : ℝ, 0 < c ∧ scale (r : EReal) = c := by
  unfold scale
  by_cases e : r = 0
  · subst e; exact ⟨1, one_pos, by simp⟩
  · refine ⟨r * (1 / 127), by positivity, ?_⟩
    rw [if_neg (by exact_mod_cast e), Ideal.div_coe (by norm_num), EReal.coe_mul]
theorem scale_ne (a : EReal) : scale a ≠ 0 := by
  unfold scale
  split_ifs with e
  · exact one_ne_zero
  · rw [Ideal.div_coe (by norm_num)]
    exact mul_ne_zero e (by norm_cast; norm_num)

/-- Division by what is not nought is a product. -/
theorem div_ne (x y : EReal) (h : y ≠ 0) : Ideal.div x y = x * y⁻¹ := by rw [Ideal.div, if_neg h]

/-- A magnitude takes a factor that is not negative inside. -/
theorem mag_mul (v s : EReal) (h0 : 0 ≤ s) : mag v * s = mag (v * s) := by
  have m : Monotone (· * s) := fun u v h => mul_le_mul_of_nonneg_right h h0
  unfold mag
  rw [← EReal.neg_mul]
  exact m.map_max
theorem mag_neg (v : EReal) : mag (-v) = mag v := by unfold mag; rw [neg_neg, max_comm]

theorem row_scale (a S : Fin 32 → EReal) (s : EReal) (h0 : 0 ≤ s) :
    (top fun d => mag (a d * S d)) * s = top fun d => mag (a d * s * S d) := by
  rw [top_map (fun d => mag (a d * S d)) (· * s) fun u v h => mul_le_mul_of_nonneg_right h h0]
  refine congrArg top (funext fun d => ?_)
  rw [mag_mul _ _ h0, mul_right_comm]

theorem col_scale (a : Fin 256 → EReal) (S : EReal) :
    (top fun j => mag (a j)) * mag S = top fun j => mag (a j * S) := by
  rw [top_map (fun j => mag (a j)) (· * mag S) fun u v h => mul_le_mul_of_nonneg_right h (mag_nonneg S)]
  refine congrArg top (funext fun d => ?_)
  rw [mag_mul _ _ (mag_nonneg S)]
  rcases le_total 0 S with h | h
  · rw [show mag S = S from max_eq_left ((EReal.neg_le_neg_iff.mpr h).trans (by simpa using h))]
  · rw [show mag S = -S from max_eq_right (h.trans (EReal.neg_nonneg.mpr h)), mul_comm _ (-S), EReal.neg_mul, mag_neg, mul_comm]

theorem code_zero : code 0 = 0 := by
  have h : ((0 : ℝ) : EReal) = 0 := rfl
  have r : Ideal.roundHalfEven 0 = 0 := by simp [Ideal.roundHalfEven]
  unfold code
  rw [← h, Ideal.liftRound_coe, r]
  norm_num

/-- A scale is a positive real, or the top, and then every code is nought. -/
theorem scale_cases (a : EReal) (h0 : 0 ≤ a) : (∃ c : ℝ, 0 < c ∧ scale a = c) ∨ (scale a = ⊤ ∧ ∀ v, code (Ideal.div v (scale a)) = 0) := by
  induction a using EReal.rec with
  | bot => exact absurd h0 (by simp)
  | coe r => exact Or.inl (scale_coe r (by exact_mod_cast h0))
  | top =>
    right
    have e : scale ⊤ = ⊤ := by
      unfold scale
      rw [if_neg (by simp), Ideal.div_coe (by norm_num), EReal.top_mul_coe_of_pos (by norm_num)]
    refine ⟨e, fun v => ?_⟩
    rw [e, div_ne _ _ (by simp), EReal.inv_top, mul_zero]
    exact code_zero

theorem row_code (a S s c : EReal) (h : c ≠ 0) : code (a * S * Ideal.div s c) = code (Ideal.div (a * s * S) c) := by
  rw [div_ne _ _ h, div_ne _ _ h]
  congr 1
  rw [mul_assoc a, mul_assoc a, mul_assoc a, ← mul_assoc S, mul_comm S s, mul_assoc s]
theorem col_code (a S c : EReal) (h : c ≠ 0) : code (a * Ideal.div S c) = code (Ideal.div (a * S) c) := by
  rw [div_ne _ _ h, div_ne _ _ h, mul_assoc]

theorem exp2_exp (t : EReal) : Ideal.exp2 t = Ideal.exp (t * ((Real.log 2 : ℝ) : EReal)) := by
  have hl : 0 < Real.log 2 := Real.log_pos (by norm_num)
  induction t using EReal.rec with
  | bot => rw [EReal.bot_mul_coe_of_pos hl]; rfl
  | top => rw [EReal.top_mul_coe_of_pos hl]; rfl
  | coe r =>
    rw [← EReal.coe_mul, Ideal.exp2_coe, Ideal.exp_coe]
    congr 1
    show (2 : ℝ) ^ r = _
    rw [Real.rpow_def_of_pos (by norm_num), mul_comm]

theorem gate_eq (P g S : EReal) (hP : Fin' P) (hS : Fin' S) :
    Ideal.exp2 (P * (S * negL) + g * negL) = Ideal.exp (-(P * S + g)) := by
  have hl : 0 < Real.log 2 := Real.log_pos (by norm_num)
  have hn : -((Real.log 2)⁻¹) < 0 := neg_lt_zero.mpr (inv_pos.mpr hl)
  obtain ⟨p, rfl⟩ := hP
  obtain ⟨s, rfl⟩ := hS
  rw [exp2_exp, ← EReal.coe_mul, ← EReal.coe_mul, ← EReal.coe_mul]
  induction g using EReal.rec with
  | bot =>
    rw [EReal.bot_mul_coe_of_neg hn, EReal.coe_add_top, EReal.top_mul_coe_of_pos hl, EReal.add_bot, EReal.neg_bot]
  | top =>
    rw [EReal.top_mul_coe_of_neg hn, EReal.add_bot, EReal.bot_mul_coe_of_pos hl, EReal.coe_add_top, EReal.neg_top]
  | coe g =>
    rw [← EReal.coe_mul, ← EReal.coe_add, ← EReal.coe_mul, ← EReal.coe_add, ← EReal.coe_neg]
    congr 2
    field_simp
    ring

theorem first_sum (m : EReal) : (∑ d : Fin 32, (if d.val = 0 then m else 0) * first d) = m := by
  rw [Finset.sum_eq_single (0 : Fin 32)]
  · simp [first]
  · intro d _ h
    have : d.val ≠ 0 := fun e => h (Fin.ext e)
    rw [if_neg this, zero_mul]
  · simp

/-- A head's scores. -/
theorem score_eq (q k : Fin 32 → EReal) (hq : ∀ d, Fin' (q d)) (hk : ∀ d, Fin' (k d)) (qs ks : ℝ) (h0 : 0 < qs) (bi : EReal) (hb : Fin' bi) (P : Prop) [Decidable P] :
    lad (fun d => k d * (ks : EReal)) q (fun d => if d.val = 0 then (if P then 0 else ⊥) else 0) first * ((qs : EReal) * rsL) + bi * L
      = if P then Ideal.div (Ideal.div ((∑ d, q d * k d) * (qs : EReal) * (ks : EReal)) ((Real.sqrt 32 : ℝ) : EReal) + bi) ((Real.log 2 : ℝ) : EReal) else ⊥ := by
  have hl : 0 < Real.log 2 := Real.log_pos (by norm_num)
  have h3 : 0 < Real.sqrt 32 := Real.sqrt_pos.mpr (by norm_num)
  choose q' hq using hq
  choose k' hk using hk
  obtain ⟨b, rfl⟩ := hb
  obtain rfl : q = fun d => (q' d : EReal) := funext hq
  obtain rfl : k = fun d => (k' d : EReal) := funext hk
  unfold lad
  rw [first_sum]
  have z : ∀ d, ((k' d : EReal) * (ks : EReal)) - ((k' d : EReal) * (ks : EReal)) = 0 := fun d => by
    rw [← EReal.coe_mul, ← EReal.coe_sub, sub_self, EReal.coe_zero]
  simp only [z, sub_zero, zero_mul, Finset.sum_const_zero, add_zero]
  have e1 : (∑ d, (k' d : EReal) * (ks : EReal) * (q' d : EReal)) = ((∑ d, k' d * ks * q' d : ℝ) : EReal) := by
    rw [coe_sum]; simp only [EReal.coe_mul]
  have e2 : (∑ d, (q' d : EReal) * (k' d : EReal)) = ((∑ d, q' d * k' d : ℝ) : EReal) := by
    rw [coe_sum]; simp only [EReal.coe_mul]
  rw [e1, e2]
  split_ifs
  · rw [Ideal.div_coe hl.ne', Ideal.div_coe h3.ne', add_zero]
    norm_cast
    have e3 : ∑ d, k' d * ks * q' d = (∑ d, q' d * k' d) * ks := by
      rw [Finset.sum_mul]; exact Finset.sum_congr rfl fun d _ => by ring
    rw [e3]
    field_simp
  · rw [EReal.add_bot, ← EReal.coe_mul, EReal.bot_mul_coe_of_pos (by positivity), EReal.bot_add]

/-- The same where a scale is the top and its codes are nought. -/
theorem score_top (q k : Fin 32 → EReal) (hq : ∀ d, Fin' (q d)) (hk : ∀ d, Fin' (k d)) (qs ks : EReal)
    (hqs : (∃ c : ℝ, 0 < c ∧ qs = c) ∨ (qs = ⊤ ∧ ∀ d, q d = 0)) (hks : (∃ c : ℝ, 0 < c ∧ ks = c) ∨ (ks = ⊤ ∧ ∀ d, k d = 0))
    (bi : EReal) (hb : Fin' bi) (P : Prop) [Decidable P] :
    lad (fun d => k d * ks) q (fun d => if d.val = 0 then (if P then 0 else ⊥) else 0) first * (qs * rsL) + bi * L
      = if P then Ideal.div (Ideal.div ((∑ d, q d * k d) * qs * ks) ((Real.sqrt 32 : ℝ) : EReal) + bi) ((Real.log 2 : ℝ) : EReal) else ⊥ := by
  have hr : 0 < (Real.sqrt 32)⁻¹ * (Real.log 2)⁻¹ := by
    have hl : 0 < Real.log 2 := Real.log_pos (by norm_num)
    have h3 : 0 < Real.sqrt 32 := Real.sqrt_pos.mpr (by norm_num)
    positivity
  rcases hqs with ⟨x, hx, rfl⟩ | ⟨rfl, q0⟩
  · rcases hks with ⟨y, hy, rfl⟩ | ⟨rfl, k0⟩
    · exact score_eq q k hq hk x y hx bi hb P
    · have e := score_eq q k hq hk x 1 hx bi hb P
      simp only [k0, zero_mul, mul_zero, Finset.sum_const_zero] at e ⊢
      exact e
  · have g : ∀ ks : EReal, lad (fun d => k d * ks) q (fun d => if d.val = 0 then (if P then 0 else ⊥) else 0) first = if P then 0 else ⊥ := fun ks => by
      unfold lad
      rw [first_sum]
      simp only [q0, mul_zero, Finset.sum_const_zero, zero_add]
    have e := score_eq q k hq hk 1 1 one_pos bi hb P
    have t : ((⊤ : EReal) * rsL) = ⊤ := EReal.top_mul_coe_of_pos hr
    have u : (if P then (0 : EReal) else ⊥) * ⊤ = (if P then (0 : EReal) else ⊥) * (((1 : ℝ) : EReal) * rsL) := by
      rw [← EReal.coe_mul]
      split_ifs
      · rw [zero_mul, zero_mul]
      · rw [EReal.bot_mul_coe_of_pos (by rw [one_mul]; exact hr)]; rfl
    rw [g] at e
    rw [g, t, u, e]
    simp only [q0, zero_mul, Finset.sum_const_zero]

/-- The same with any bias under a mask, and any below the top elsewhere. -/
theorem score_any (q k : Fin 32 → EReal) (hq : ∀ d, Fin' (q d)) (hk : ∀ d, Fin' (k d)) (qs ks : EReal)
    (hqs : (∃ c : ℝ, 0 < c ∧ qs = c) ∨ (qs = ⊤ ∧ ∀ d, q d = 0)) (hks : (∃ c : ℝ, 0 < c ∧ ks = c) ∨ (ks = ⊤ ∧ ∀ d, k d = 0))
    (bi : EReal) (P : Prop) [Decidable P] (hb : P → bi ≠ ⊤) :
    lad (fun d => k d * ks) q (fun d => if d.val = 0 then (if P then 0 else ⊥) else 0) first * (qs * rsL) + bi * L
      = if P then Ideal.div (Ideal.div ((∑ d, q d * k d) * qs * ks) ((Real.sqrt 32 : ℝ) : EReal) + bi) ((Real.log 2 : ℝ) : EReal) else ⊥ := by
  have hl : 0 < Real.log 2 := Real.log_pos (by norm_num)
  by_cases p : P
  · induction bi using EReal.rec with
    | top => exact absurd rfl (hb p)
    | coe r => exact score_top q k hq hk qs ks hqs hks r ⟨r, rfl⟩ P
    | bot =>
      rw [EReal.bot_mul_coe_of_pos (inv_pos.mpr hl), EReal.add_bot, EReal.add_bot, if_pos p, Ideal.div_coe hl.ne']
      exact (EReal.bot_mul_coe_of_pos (one_div_pos.mpr hl)).symm
  · have e := score_top q k hq hk qs ks hqs hks 0 ⟨0, rfl⟩ P
    rw [zero_mul, add_zero] at e
    rw [e]
    simp only [p, if_false, EReal.bot_add]

/-- The contraction of codes with its scales is a number. -/
theorem prod_fin (q k : Fin 32 → EReal) (hq : ∀ d, Fin' (q d)) (hk : ∀ d, Fin' (k d)) (qs ks : EReal)
    (hqs : (∃ c : ℝ, 0 < c ∧ qs = c) ∨ (qs = ⊤ ∧ ∀ d, q d = 0)) (hks : (∃ c : ℝ, 0 < c ∧ ks = c) ∨ (ks = ⊤ ∧ ∀ d, k d = 0)) :
    Fin' ((∑ d, q d * k d) * qs * ks) := by
  rcases hqs with ⟨x, -, rfl⟩ | ⟨rfl, q0⟩
  · rcases hks with ⟨y, -, rfl⟩ | ⟨rfl, k0⟩
    · exact ((Fin'.sum _ fun d => (hq d).mul (hk d)).mul ⟨x, rfl⟩).mul ⟨y, rfl⟩
    · simp only [k0, mul_zero, Finset.sum_const_zero, zero_mul]; exact ⟨0, rfl⟩
  · simp only [q0, zero_mul, Finset.sum_const_zero]; exact ⟨0, rfl⟩

theorem exp_nonneg (t : EReal) : 0 ≤ Ideal.exp t := by
  induction t using EReal.rec with
  | bot => exact le_rfl
  | top => exact le_top
  | coe r => rw [Ideal.exp_coe]; exact_mod_cast (Real.exp_pos r).le
theorem exp_pos (t : EReal) (h : t ≠ ⊥) : 0 < Ideal.exp t := by
  induction t using EReal.rec with
  | bot => exact absurd rfl h
  | top => exact EReal.zero_lt_top
  | coe r => rw [Ideal.exp_coe]; exact_mod_cast Real.exp_pos r

/-- A head's weighted mean, its denominator not nought: some key is not masked. -/
theorem soft_eq (s v : Fin 256 → EReal) (vs : EReal) (h1 : ∀ x, s x ≠ ⊤) (x0 : Fin 256) (h2 : s x0 ≠ ⊥) :
    softE s v vs = Ideal.div ((∑ x, v x * Ideal.exp ((s x - Ideal.liftRound Int.ceil (top s)) * ((Real.log 2 : ℝ) : EReal))) * vs)
      (∑ x, Ideal.exp ((s x - Ideal.liftRound Int.ceil (top s)) * ((Real.log 2 : ℝ) : EReal))) := by
  have hl : 0 < Real.log 2 := Real.log_pos (by norm_num)
  unfold softE
  simp only [exp2_exp]
  have hp : (∑ x, Ideal.exp ((s x - Ideal.liftRound Int.ceil (top s)) * ((Real.log 2 : ℝ) : EReal))) ≠ 0 := by
    refine ne_of_gt (lt_of_lt_of_le (exp_pos ((s x0 - Ideal.liftRound Int.ceil (top s)) * ((Real.log 2 : ℝ) : EReal)) ?_)
      (Finset.single_le_sum (f := fun x => Ideal.exp ((s x - Ideal.liftRound Int.ceil (top s)) * ((Real.log 2 : ℝ) : EReal))) (fun x _ => exp_nonneg _) (Finset.mem_univ x0)))
    obtain ⟨i, e⟩ := top_attained s
    rw [e]
    have hi : s i ≠ ⊥ := fun hb => h2 (le_bot_iff.mp ((le_top_of s x0).trans (e.trans hb).le))
    lift s i to ℝ using ⟨h1 i, hi⟩ with r
    lift s x0 to ℝ using ⟨h1 x0, h2⟩ with t
    rw [Ideal.liftRound_coe, ← EReal.coe_sub, ← EReal.coe_mul]
    exact EReal.coe_ne_bot _
  rw [div_ne _ _ hp, div_ne _ _ hp, one_mul, mul_assoc]

theorem div_one (y c : EReal) (h : c ≠ 0) : y * Ideal.div 1 c = Ideal.div y c := by
  rw [div_ne _ _ h, div_ne _ _ h, one_mul]

end Cert.Spec

end
-- ==== Proof.KPay.lean ====
/-
  The attend kernel's payloads at an index.
-/
module

public import proofs.«01_k».proof.Proof.KITrip
public import proofs.«01_k».proof.Proof.RowK
public import Idealize.ShloMosaic.Lib.Pointwise

@[expose] public section

set_option maxRecDepth 16384

noncomputable section

namespace Cert.KernelIdeal.Hand

open Cert.KernelIdeal Cert.KernelIdeal.Gen Cert.Spec
open Idealize.ShloMosaic Idealize.ShloMosaic.TcCoe

variable (h : Fin 4) (d : Fin 32) (r n : Fin 128) (j x : Fin 256)

/-- The place of a head's place in a row. -/
def flat (h : Fin 4) (d : Fin 32) : Fin 128 := ⟨h.val * 32 + d.val, by omega⟩

theorem p11 (C : Vec Ideal S1x1x256x128 .i8) (W : Vec Ideal S128x128 .i8) (S : Vec Ideal S128x256 .f32) :
    k0_pay11 C W S (ix3 h d j) = (∑ x, num (W (ix2 (flat h d) x)) * num (C (ix4 0 0 j x))) * S (ix2 (flat h d) j) := by
  pointwise [k0_pay11, k0_pay9]
  rfl
theorem p12 (C : Vec Ideal S1x1x256x128 .i8) (s : Vec Ideal S1x1x256 .f32) (W : Vec Ideal S128x128 .i8) (S : Vec Ideal S128x256 .f32) :
    k0_pay12 C s W S (ix2 h j) = scale ((top fun d => mag (k0_pay11 C W S (ix3 h d j))) * s (ix3 0 0 j)) := by
  pointwise [k0_pay12, k0_pay10]
  simp only [bits_0, bits_1, bits_127, bits_bot]
  rfl
theorem p13 (C : Vec Ideal S1x1x256x128 .i8) (s : Vec Ideal S1x1x256 .f32) (W : Vec Ideal S128x128 .i8) (S : Vec Ideal S128x256 .f32) :
    k0_pay13 C s W S (ix3 h d j) = code (k0_pay11 C W S (ix3 h d j) * Ideal.div (s (ix3 0 0 j)) (k0_pay12 C s W S (ix2 h j))) := by
  pointwise [k0_pay13, k0_pay10]
  simp only [bits_127, bits_m127]
  rfl
theorem named_L : (Named.named κ "log2e" 1069066411#32 : Ideal .f32) = L := rfl
theorem named_negL : (Named.named κ "neg_log2e" 3216550459#32 : Ideal .f32) = negL := rfl
theorem named_rsL : (Named.named κ "rsqrt_d_log2e" 1048744942#32 : Ideal .f32) = rsL := rfl

theorem p9 (C : Vec Ideal S1x1x256x128 .i8) : k0_pay9 C (ix2 j n) = num (C (ix4 0 0 j n)) := by
  pointwise [k0_pay9]
  rfl
theorem p10 (s : Vec Ideal S1x1x256 .f32) : k0_pay10 s (ix2 0 j) = s (ix3 0 0 j) := by
  pointwise [k0_pay10]
theorem p14 (C : Vec Ideal S1x1x256x128 .i8) (W : Vec Ideal S128x128 .i8) :
    k0_pay14 C W (ix2 r j) = ∑ x, num (W (ix2 r x)) * num (C (ix4 0 0 j x)) := by
  pointwise [k0_pay14, k0_pay9]
  rfl
theorem p15 (a : FVec Ideal S128x256 .f32) (S : Vec Ideal S128x256 .f32) :
    k0_pay15 a S (ix3 h d j) = a (ix2 (flat h d) j) * S (ix2 (flat h d) j) := by
  pointwise [k0_pay15]
  rfl
theorem p16 (s : FVec Ideal S1x256 .f32) (a : FVec Ideal S128x256 .f32) (S : Vec Ideal S128x256 .f32) :
    k0_pay16 s a S (ix2 h j) = scale ((top fun d => mag (k0_pay15 a S (ix3 h d j))) * s (ix2 0 j)) := by
  pointwise [k0_pay16]
  simp only [bits_0, bits_1, bits_127, bits_bot]
  rfl
theorem p17 (s : FVec Ideal S1x256 .f32) (a : FVec Ideal S128x256 .f32) (S : Vec Ideal S128x256 .f32) :
    k0_pay17 s a S (ix3 h d j) = code (k0_pay15 a S (ix3 h d j) * Ideal.div (s (ix2 0 j)) (k0_pay16 s a S (ix2 h j))) := by
  pointwise [k0_pay17]
  simp only [bits_127, bits_m127]
  rfl
theorem p18 (v : FVec Ideal S4x32x256 .f32) : k0_pay18 v (ix4 0 0 r j) = Ideal.fptosi 8 (v (ix3 (hd r) (pl r) j)) := by
  pointwise [k0_pay18]
  rfl
theorem p19 (s : FVec Ideal S1x256 .f32) (a : FVec Ideal S128x256 .f32) (S : Vec Ideal S128x256 .f32) :
    k0_pay19 s a S (ix4 0 0 r j) = Ideal.fptosi 8 (k0_pay17 s a S (ix3 (hd r) (pl r) j)) := by
  pointwise [k0_pay19]
  rfl
theorem p20 (v : FVec Ideal S4x256 .f32) : k0_pay20 v (ix4 0 0 h j) = v (ix2 h j) := by
  pointwise [k0_pay20]
theorem p21 (v : FVec Ideal S4x256 .f32) : k0_pay21 v (ix4 0 0 h j) = v (ix2 h j) := by
  pointwise [k0_pay21]
theorem p22 (c : FVec Ideal S256x128 .bf16) (s : FVec Ideal S1x256 .f32) (W : Vec Ideal S128x128 .i8) :
    k0_pay22 c s W (ix2 r j) = (∑ x, num (W (ix2 r x)) * c (ix2 j x)) * s (ix2 0 j) := by
  pointwise [k0_pay22]
  rfl
theorem p24 (c : FVec Ideal S256x128 .bf16) (s : FVec Ideal S1x256 .f32) (W : Vec Ideal S128x128 .i8) (S : Vec Ideal S128x1 .f32) :
    k0_pay24 c s W S (ix2 r 0) = scale ((top fun j => mag (k0_pay22 c s W (ix2 r j))) * mag (S (ix2 r 0))) := by
  pointwise [k0_pay24, k0_pay23]
  simp only [bits_0, bits_1, bits_127, bits_bot]
  rfl
theorem p25 (c : FVec Ideal S256x128 .bf16) (s : FVec Ideal S1x256 .f32) (W : Vec Ideal S128x128 .i8) (S : Vec Ideal S128x1 .f32) :
    k0_pay25 c s W S (ix2 r j) = code (k0_pay22 c s W (ix2 r j) * Ideal.div (S (ix2 r 0)) (k0_pay24 c s W S (ix2 r 0))) := by
  pointwise [k0_pay25, k0_pay23]
  simp only [bits_127, bits_m127]
  rfl
theorem p26 (c : FVec Ideal S256x128 .bf16) (s : FVec Ideal S1x256 .f32) (W : Vec Ideal S128x128 .i8) (S : Vec Ideal S128x1 .f32) :
    k0_pay26 c s W S (ix4 0 0 r j) = Ideal.fptosi 8 (k0_pay25 c s W S (ix2 r j)) := by
  pointwise [k0_pay26]
  rfl
theorem p29 (v : FVec Ideal S128x256 .f32) : k0_pay29 v (ix2 r j) = v (ix2 r j) := by
  pointwise [k0_pay29]
theorem p30 (c : FVec Ideal S256x128 .bf16) (s : FVec Ideal S1x256 .f32) (W : Vec Ideal S128x128 .i8) (S B : Vec Ideal S128x256 .f32) :
    k0_pay30 c s W S B (ix2 r j) = Ideal.div 1 (1 + Ideal.exp2 ((∑ x, num (W (ix2 r x)) * c (ix2 j x)) * s (ix2 0 j)
      * (S (ix2 r j) * negL) + B (ix2 r j) * negL)) := by
  pointwise [k0_pay30]
  simp only [named_negL]
  rfl

/-- The scores of a head. -/
def score (kk : FVec Ideal S32x256 .f32) (mr : FVec Ideal S32x256 .bf16) (q : FVec Ideal S32x256 .f32) (one : FVec Ideal S32x256 .bf16)
    (qs : FVec Ideal S1x256 .f32) (B : Vec Ideal S1x256x256 .f32) : FVec Ideal S256x256 .f32 :=
  have v186 := kk
  have v190 := extf .f32 (truncf .bf16 v186 bitsLt_bf16_f32) bitsLt_bf16_f32
  have v191 := subf v186 v190
  have v195 := extf .f32 (truncf .bf16 v191 bitsLt_bf16_f32) bitsLt_bf16_f32
  have v196 := subf v191 v195
  have v197 := truncf .bf16 v190 bitsLt_bf16_f32
  have v198 := truncf .bf16 v195 bitsLt_bf16_f32
  have v199 := truncf .bf16 v196 bitsLt_bf16_f32
  have v200 := concatenate S128x256 0 [⟨S32x256, v197⟩, ⟨S32x256, v198⟩, ⟨S32x256, v199⟩, ⟨S32x256, mr⟩] concatenates_S32x256_S32x256_S32x256_S32x256_S128x256_d0
  have v201 := transpose S256x128 [1, 0] v200 transposes_S128x256_p1_0_S256x128
  have v204 := truncf .bf16 q bitsLt_bf16_f32
  have v205 := concatenate S128x256 0 [⟨S32x256, v204⟩, ⟨S32x256, v204⟩, ⟨S32x256, v204⟩, ⟨S32x256, one⟩] concatenates_S32x256_S32x256_S32x256_S32x256_S128x256_d0
  have cst_84 := constant S256x256 .f32 0x00000000#32
  have v206 := matmul dot_S256x128_S128x256_S256x256_1_0_0_1_n_n none v201 v205 cst_84
  have cst_85 : Ideal .f32 := Named.named κ "rsqrt_d_log2e" 0x3E8293EE#32
  have v208 := broadcast S1x256 cst_85
  have v209 := mulf qs v208
  have v210 := broadcastTo S256x256 v209 broadcasts_S1x256_S256x256
  have v211 := mulf v206 v210
  have v213 := shapeCast S256x256 B shapeCasts_S1x256x256_S256x256
  addf v211 v213

/-- The weighted mean of a head. -/
def soft (v214 : FVec Ideal S256x256 .f32) (v223 : FVec Ideal S32x256 .bf16) (v226 : FVec Ideal S32x1 .f32) : FVec Ideal S32x256 .f32 :=
  have v215 := multiReduction .maximumf [0] S256 v214 0xFF800000#32 reduces_S256x256_S256 (.inl rfl) rfl
  have v216 := shapeCast S1x256 v215 shapeCasts_S256_S1x256
  have v217 := ceil v216
  have v218 := broadcastTo S256x256 v217 broadcasts_S1x256_S256x256
  have v219 := subf v214 v218
  have v220 := exp2 v219
  have v221 := multiReduction .add [0] S256 v220 0x00000000#32 reduces_S256x256_S256 (.inl rfl) rfl
  have v222 := shapeCast S1x256 v221 shapeCasts_S256_S1x256
  have v224 := truncf .bf16 v220 bitsLt_bf16_f32
  have cst_91 := constant S32x256 .f32 0x00000000#32
  have v225 := matmul dot_S32x256_S256x256_S32x256_1_0_0_1_n_n none v223 v224 cst_91
  have cst_92 : Ideal .f32 := Scalar.ofBits .f32 0x3F800000#32
  have v227 := broadcast S1x256 cst_92
  have v228 := divf v227 v222
  have v229 := broadcastTo S32x256 v226 broadcasts_S32x1_S32x256
  have v230 := broadcastTo S32x256 v228 broadcasts_S1x256_S32x256
  have v231 := mulf v229 v230
  mulf v225 v231

theorem p_soft (s : FVec Ideal S256x256 .f32) (v : FVec Ideal S32x256 .bf16) (vs : FVec Ideal S32x1 .f32) :
    soft s v vs (ix2 d j) = (∑ x, v (ix2 d x) * Ideal.exp2 (s (ix2 x j) - Ideal.liftRound Int.ceil (top fun x => s (ix2 x j))))
      * (vs (ix2 d 0) * Ideal.div 1 (∑ x, Ideal.exp2 (s (ix2 x j) - Ideal.liftRound Int.ceil (top fun x => s (ix2 x j))))) := by
  pointwise [soft]
  simp only [bits_1, bits_bot]
  rfl

theorem eq_row (d : Fin 32) (u v : EReal) : Scalar.select (IntOp.cmpi CmpIPredicate.eq (BitVec.ofNat 32 d.val) 0#32) u v = if d.val = 0 then u else v := by
  fin_cases d <;> rfl
theorem p3 : k0_pay3 (F := Ideal) (ix2 d j) = first d := by
  pointwise [k0_pay3]
  exact eq_row d _ _
theorem p31 (m : Vec Ideal S1x256 .f32) : k0_pay31 (F := Ideal) (iota .tc S32x256 32 [0] iota_S32x256_d0_w32) m (ix2 d j) = if d.val = 0 then m (ix2 0 j) else 0 := by
  pointwise [k0_pay31]
  exact eq_row d _ _

/-- A sum along a row of four parts, part by part. -/
theorem sum_quarters (f : Fin 128 → EReal) : ∑ r, f r = (∑ d : Fin 32, f ⟨d.val, by omega⟩) + (∑ d : Fin 32, f ⟨32 + d.val, by omega⟩)
    + (∑ d : Fin 32, f ⟨64 + d.val, by omega⟩) + ∑ d : Fin 32, f ⟨96 + d.val, by omega⟩ := by
  refine (Fin.sum_univ_add (a := 96) (b := 32) f).trans (congrArg (· + _) ?_)
  refine (Fin.sum_univ_add (a := 64) (b := 32) (fun i => f (Fin.castAdd 32 i))).trans (congrArg (· + _) ?_)
  exact Fin.sum_univ_add (a := 32) (b := 32) (fun i => f (Fin.castAdd 32 (Fin.castAdd 32 i)))

theorem p_score (kk q : FVec Ideal S32x256 .f32) (mr one : FVec Ideal S32x256 .bf16) (qs : FVec Ideal S1x256 .f32) (B : Vec Ideal S1x256x256 .f32) :
    score kk mr q one qs B (ix2 x j) = lad (fun d => kk (ix2 d x)) (fun d => q (ix2 d j)) (fun d => mr (ix2 d x)) (fun d => one (ix2 d j))
      * (qs (ix2 0 j) * rsL) + B (ix3 0 x j) := by
  pointwise [score]
  rw [named_rsL, sum_quarters]
  unfold lad
  refine congrArg (fun S => S * (qs (ix2 0 j) * rsL) + B (ix3 0 x j)) ?_
  refine congrArg₂ (· + ·) (congrArg₂ (· + ·) (congrArg₂ (· + ·) ?_ ?_) ?_) ?_ <;> refine Finset.sum_congr rfl fun d _ => ?_
  · rw [dif_pos d.isLt, dif_pos d.isLt]
  · have e : 32 + d.val - 32 = d.val := by omega
    have n1 : ¬ 32 + d.val < 32 := by omega
    simp only [e, n1, d.isLt, dif_pos, dif_neg, not_false_eq_true, Fin.eta]
  · have e : 64 + d.val - 32 - 32 = d.val := by omega
    have n1 : ¬ 64 + d.val < 32 := by omega
    have n2 : ¬ 64 + d.val - 32 < 32 := by omega
    simp only [e, n1, n2, d.isLt, dif_pos, dif_neg, not_false_eq_true, Fin.eta]
  · have e : 96 + d.val - 32 - 32 - 32 = d.val := by omega
    have n1 : ¬ 96 + d.val < 32 := by omega
    have n2 : ¬ 96 + d.val - 32 < 32 := by omega
    have n3 : ¬ 96 + d.val - 32 - 32 < 32 := by omega
    simp only [e, n1, n2, n3, dif_neg, not_false_eq_true, Fin.eta]

theorem mulf_at {s : Shape} (a b : FVec Ideal s .f32) (i : s.Idx) : mulf a b i = (a i : EReal) * b i := rfl

/-- Head 0. -/
def head0 (one : FVec Ideal S32x256 .bf16) (qs : FVec Ideal S4x256 .f32) (qc : FVec Ideal S4x32x256 .f32) (ks : FVec Ideal S4x256 .f32) (kc : FVec Ideal S4x32x256 .f32)
    (vs : FVec Ideal S128x1 .f32) (vb : FVec Ideal S128x256 .bf16) (mr : FVec Ideal S32x256 .bf16) (B : Vec Ideal S1x256x256 .f32) : FVec Ideal S32x256 .f32 :=
  soft (score (mulf (shapeCast S32x256 (extractStridedSlice S1x32x256 ![0, 0, 0] kc slices_S4x32x256_o0_0_0_S1x32x256) shapeCasts_S1x32x256_S32x256 : FVec Ideal S32x256 .f32) (broadcastTo S32x256 (extractStridedSlice S1x256 ![0, 0] ks slices_S4x256_o0_0_S1x256) broadcasts_S1x256_S32x256 : FVec Ideal S32x256 .f32)) mr
      (shapeCast S32x256 (extractStridedSlice S1x32x256 ![0, 0, 0] qc slices_S4x32x256_o0_0_0_S1x32x256) shapeCasts_S1x32x256_S32x256 : FVec Ideal S32x256 .f32) one (extractStridedSlice S1x256 ![0, 0] qs slices_S4x256_o0_0_S1x256) B)
      (extractStridedSlice S32x256 ![0, 0] vb slices_S128x256_o0_0_S32x256) (extractStridedSlice S32x1 ![0, 0] vs slices_S128x1_o0_0_S32x1)

theorem slK0 (kc : FVec Ideal S4x32x256 .f32) : (shapeCast S32x256 (extractStridedSlice S1x32x256 ![0, 0, 0] kc slices_S4x32x256_o0_0_0_S1x32x256) shapeCasts_S1x32x256_S32x256 : FVec Ideal S32x256 .f32) (ix2 d j) = kc (ix3 0 d j) := by
  pointwise []
  try rfl
theorem slS0 (ks : FVec Ideal S4x256 .f32) : (broadcastTo S32x256 (extractStridedSlice S1x256 ![0, 0] ks slices_S4x256_o0_0_S1x256) broadcasts_S1x256_S32x256 : FVec Ideal S32x256 .f32) (ix2 d j) = ks (ix2 0 j) := by
  pointwise []
  try rfl
theorem slQ0 (qs : FVec Ideal S4x256 .f32) : (extractStridedSlice S1x256 ![0, 0] qs slices_S4x256_o0_0_S1x256 : FVec Ideal S1x256 .f32) (ix2 0 j) = qs (ix2 0 j) := by
  pointwise []
  try rfl
theorem slV0 (vb : FVec Ideal S128x256 .bf16) : (extractStridedSlice S32x256 ![0, 0] vb slices_S128x256_o0_0_S32x256 : FVec Ideal S32x256 .bf16) (ix2 d j) = vb (ix2 (flat 0 d) j) := by
  pointwise []
  try rfl
  all_goals (refine congrArg _ (congrArg (fun k => ix2 k _) (Fin.ext ?_)); simp [flat])
theorem slW0 (vs : FVec Ideal S128x1 .f32) : (extractStridedSlice S32x1 ![0, 0] vs slices_S128x1_o0_0_S32x1 : FVec Ideal S32x1 .f32) (ix2 d 0) = vs (ix2 (flat 0 d) 0) := by
  pointwise []
  try rfl
  all_goals (refine congrArg _ (congrArg (fun k => ix2 k _) (Fin.ext ?_)); simp [flat])

/-- Head 1. -/
def head1 (one : FVec Ideal S32x256 .bf16) (qs : FVec Ideal S4x256 .f32) (qc : FVec Ideal S4x32x256 .f32) (ks : FVec Ideal S4x256 .f32) (kc : FVec Ideal S4x32x256 .f32)
    (vs : FVec Ideal S128x1 .f32) (vb : FVec Ideal S128x256 .bf16) (mr : FVec Ideal S32x256 .bf16) (B : Vec Ideal S1x256x256 .f32) : FVec Ideal S32x256 .f32 :=
  soft (score (mulf (shapeCast S32x256 (extractStridedSlice S1x32x256 ![1, 0, 0] kc slices_S4x32x256_o1_0_0_S1x32x256) shapeCasts_S1x32x256_S32x256 : FVec Ideal S32x256 .f32) (broadcastTo S32x256 (extractStridedSlice S1x256 ![1, 0] ks slices_S4x256_o1_0_S1x256) broadcasts_S1x256_S32x256 : FVec Ideal S32x256 .f32)) mr
      (shapeCast S32x256 (extractStridedSlice S1x32x256 ![1, 0, 0] qc slices_S4x32x256_o1_0_0_S1x32x256) shapeCasts_S1x32x256_S32x256 : FVec Ideal S32x256 .f32) one (extractStridedSlice S1x256 ![1, 0] qs slices_S4x256_o1_0_S1x256) B)
      (extractStridedSlice S32x256 ![32, 0] vb slices_S128x256_o32_0_S32x256) (extractStridedSlice S32x1 ![32, 0] vs slices_S128x1_o32_0_S32x1)

theorem slK1 (kc : FVec Ideal S4x32x256 .f32) : (shapeCast S32x256 (extractStridedSlice S1x32x256 ![1, 0, 0] kc slices_S4x32x256_o1_0_0_S1x32x256) shapeCasts_S1x32x256_S32x256 : FVec Ideal S32x256 .f32) (ix2 d j) = kc (ix3 1 d j) := by
  pointwise []
  try rfl
theorem slS1 (ks : FVec Ideal S4x256 .f32) : (broadcastTo S32x256 (extractStridedSlice S1x256 ![1, 0] ks slices_S4x256_o1_0_S1x256) broadcasts_S1x256_S32x256 : FVec Ideal S32x256 .f32) (ix2 d j) = ks (ix2 1 j) := by
  pointwise []
  try rfl
theorem slQ1 (qs : FVec Ideal S4x256 .f32) : (extractStridedSlice S1x256 ![1, 0] qs slices_S4x256_o1_0_S1x256 : FVec Ideal S1x256 .f32) (ix2 0 j) = qs (ix2 1 j) := by
  pointwise []
  try rfl
theorem slV1 (vb : FVec Ideal S128x256 .bf16) : (extractStridedSlice S32x256 ![32, 0] vb slices_S128x256_o32_0_S32x256 : FVec Ideal S32x256 .bf16) (ix2 d j) = vb (ix2 (flat 1 d) j) := by
  pointwise []
  try rfl
  all_goals (refine congrArg _ (congrArg (fun k => ix2 k _) (Fin.ext ?_)); simp [flat])
theorem slW1 (vs : FVec Ideal S128x1 .f32) : (extractStridedSlice S32x1 ![32, 0] vs slices_S128x1_o32_0_S32x1 : FVec Ideal S32x1 .f32) (ix2 d 0) = vs (ix2 (flat 1 d) 0) := by
  pointwise []
  try rfl
  all_goals (refine congrArg _ (congrArg (fun k => ix2 k _) (Fin.ext ?_)); simp [flat])

/-- Head 2. -/
def head2 (one : FVec Ideal S32x256 .bf16) (qs : FVec Ideal S4x256 .f32) (qc : FVec Ideal S4x32x256 .f32) (ks : FVec Ideal S4x256 .f32) (kc : FVec Ideal S4x32x256 .f32)
    (vs : FVec Ideal S128x1 .f32) (vb : FVec Ideal S128x256 .bf16) (mr : FVec Ideal S32x256 .bf16) (B : Vec Ideal S1x256x256 .f32) : FVec Ideal S32x256 .f32 :=
  soft (score (mulf (shapeCast S32x256 (extractStridedSlice S1x32x256 ![2, 0, 0] kc slices_S4x32x256_o2_0_0_S1x32x256) shapeCasts_S1x32x256_S32x256 : FVec Ideal S32x256 .f32) (broadcastTo S32x256 (extractStridedSlice S1x256 ![2, 0] ks slices_S4x256_o2_0_S1x256) broadcasts_S1x256_S32x256 : FVec Ideal S32x256 .f32)) mr
      (shapeCast S32x256 (extractStridedSlice S1x32x256 ![2, 0, 0] qc slices_S4x32x256_o2_0_0_S1x32x256) shapeCasts_S1x32x256_S32x256 : FVec Ideal S32x256 .f32) one (extractStridedSlice S1x256 ![2, 0] qs slices_S4x256_o2_0_S1x256) B)
      (extractStridedSlice S32x256 ![64, 0] vb slices_S128x256_o64_0_S32x256) (extractStridedSlice S32x1 ![64, 0] vs slices_S128x1_o64_0_S32x1)

theorem slK2 (kc : FVec Ideal S4x32x256 .f32) : (shapeCast S32x256 (extractStridedSlice S1x32x256 ![2, 0, 0] kc slices_S4x32x256_o2_0_0_S1x32x256) shapeCasts_S1x32x256_S32x256 : FVec Ideal S32x256 .f32) (ix2 d j) = kc (ix3 2 d j) := by
  pointwise []
  try rfl
theorem slS2 (ks : FVec Ideal S4x256 .f32) : (broadcastTo S32x256 (extractStridedSlice S1x256 ![2, 0] ks slices_S4x256_o2_0_S1x256) broadcasts_S1x256_S32x256 : FVec Ideal S32x256 .f32) (ix2 d j) = ks (ix2 2 j) := by
  pointwise []
  try rfl
theorem slQ2 (qs : FVec Ideal S4x256 .f32) : (extractStridedSlice S1x256 ![2, 0] qs slices_S4x256_o2_0_S1x256 : FVec Ideal S1x256 .f32) (ix2 0 j) = qs (ix2 2 j) := by
  pointwise []
  try rfl
theorem slV2 (vb : FVec Ideal S128x256 .bf16) : (extractStridedSlice S32x256 ![64, 0] vb slices_S128x256_o64_0_S32x256 : FVec Ideal S32x256 .bf16) (ix2 d j) = vb (ix2 (flat 2 d) j) := by
  pointwise []
  try rfl
  all_goals (refine congrArg _ (congrArg (fun k => ix2 k _) (Fin.ext ?_)); simp [flat])
theorem slW2 (vs : FVec Ideal S128x1 .f32) : (extractStridedSlice S32x1 ![64, 0] vs slices_S128x1_o64_0_S32x1 : FVec Ideal S32x1 .f32) (ix2 d 0) = vs (ix2 (flat 2 d) 0) := by
  pointwise []
  try rfl
  all_goals (refine congrArg _ (congrArg (fun k => ix2 k _) (Fin.ext ?_)); simp [flat])

/-- Head 3. -/
def head3 (one : FVec Ideal S32x256 .bf16) (qs : FVec Ideal S4x256 .f32) (qc : FVec Ideal S4x32x256 .f32) (ks : FVec Ideal S4x256 .f32) (kc : FVec Ideal S4x32x256 .f32)
    (vs : FVec Ideal S128x1 .f32) (vb : FVec Ideal S128x256 .bf16) (mr : FVec Ideal S32x256 .bf16) (B : Vec Ideal S1x256x256 .f32) : FVec Ideal S32x256 .f32 :=
  soft (score (mulf (shapeCast S32x256 (extractStridedSlice S1x32x256 ![3, 0, 0] kc slices_S4x32x256_o3_0_0_S1x32x256) shapeCasts_S1x32x256_S32x256 : FVec Ideal S32x256 .f32) (broadcastTo S32x256 (extractStridedSlice S1x256 ![3, 0] ks slices_S4x256_o3_0_S1x256) broadcasts_S1x256_S32x256 : FVec Ideal S32x256 .f32)) mr
      (shapeCast S32x256 (extractStridedSlice S1x32x256 ![3, 0, 0] qc slices_S4x32x256_o3_0_0_S1x32x256) shapeCasts_S1x32x256_S32x256 : FVec Ideal S32x256 .f32) one (extractStridedSlice S1x256 ![3, 0] qs slices_S4x256_o3_0_S1x256) B)
      (extractStridedSlice S32x256 ![96, 0] vb slices_S128x256_o96_0_S32x256) (extractStridedSlice S32x1 ![96, 0] vs slices_S128x1_o96_0_S32x1)

theorem slK3 (kc : FVec Ideal S4x32x256 .f32) : (shapeCast S32x256 (extractStridedSlice S1x32x256 ![3, 0, 0] kc slices_S4x32x256_o3_0_0_S1x32x256) shapeCasts_S1x32x256_S32x256 : FVec Ideal S32x256 .f32) (ix2 d j) = kc (ix3 3 d j) := by
  pointwise []
  try rfl
theorem slS3 (ks : FVec Ideal S4x256 .f32) : (broadcastTo S32x256 (extractStridedSlice S1x256 ![3, 0] ks slices_S4x256_o3_0_S1x256) broadcasts_S1x256_S32x256 : FVec Ideal S32x256 .f32) (ix2 d j) = ks (ix2 3 j) := by
  pointwise []
  try rfl
theorem slQ3 (qs : FVec Ideal S4x256 .f32) : (extractStridedSlice S1x256 ![3, 0] qs slices_S4x256_o3_0_S1x256 : FVec Ideal S1x256 .f32) (ix2 0 j) = qs (ix2 3 j) := by
  pointwise []
  try rfl
theorem slV3 (vb : FVec Ideal S128x256 .bf16) : (extractStridedSlice S32x256 ![96, 0] vb slices_S128x256_o96_0_S32x256 : FVec Ideal S32x256 .bf16) (ix2 d j) = vb (ix2 (flat 3 d) j) := by
  pointwise []
  try rfl
  all_goals (refine congrArg _ (congrArg (fun k => ix2 k _) (Fin.ext ?_)); simp [flat])
theorem slW3 (vs : FVec Ideal S128x1 .f32) : (extractStridedSlice S32x1 ![96, 0] vs slices_S128x1_o96_0_S32x1 : FVec Ideal S32x1 .f32) (ix2 d 0) = vs (ix2 (flat 3 d) 0) := by
  pointwise []
  try rfl
  all_goals (refine congrArg _ (congrArg (fun k => ix2 k _) (Fin.ext ?_)); simp [flat])

variable (qs : FVec Ideal S4x256 .f32) (qc : FVec Ideal S4x32x256 .f32) (ks : FVec Ideal S4x256 .f32) (kc : FVec Ideal S4x32x256 .f32)
  (vs : FVec Ideal S128x1 .f32) (vb : FVec Ideal S128x256 .bf16) (m : Vec Ideal S1x256 .f32) (B : Vec Ideal S1x256x256 .f32)

abbrev mrowOf (m : Vec Ideal S1x256 .f32) : FVec Ideal S32x256 .bf16 := k0_pay31 (F := Ideal) (iota .tc S32x256 32 [0] iota_S32x256_d0_w32) m

theorem head0_at : head0 k0_pay3 qs qc ks kc vs vb (mrowOf m) B (ix2 d j)
    = softE (scoreE (qs (ix2 0 j)) (fun d => qc (ix3 0 d j)) (fun x => ks (ix2 0 x)) (fun d x => kc (ix3 0 d x)) (fun x => m (ix2 0 x)) (fun x => B (ix3 0 x j)))
      (fun x => vb (ix2 (flat 0 d) x)) (vs (ix2 (flat 0 d) 0)) := by
  unfold head0
  rw [p_soft]
  simp only [p_score, slV0, slW0, slQ0, slK0, mulf_at, slS0, p3, p31]
  rfl

theorem head1_at : head1 k0_pay3 qs qc ks kc vs vb (mrowOf m) B (ix2 d j)
    = softE (scoreE (qs (ix2 1 j)) (fun d => qc (ix3 1 d j)) (fun x => ks (ix2 1 x)) (fun d x => kc (ix3 1 d x)) (fun x => m (ix2 0 x)) (fun x => B (ix3 0 x j)))
      (fun x => vb (ix2 (flat 1 d) x)) (vs (ix2 (flat 1 d) 0)) := by
  unfold head1
  rw [p_soft]
  simp only [p_score, slV1, slW1, slQ1, slK1, mulf_at, slS1, p3, p31]
  rfl

theorem head2_at : head2 k0_pay3 qs qc ks kc vs vb (mrowOf m) B (ix2 d j)
    = softE (scoreE (qs (ix2 2 j)) (fun d => qc (ix3 2 d j)) (fun x => ks (ix2 2 x)) (fun d x => kc (ix3 2 d x)) (fun x => m (ix2 0 x)) (fun x => B (ix3 0 x j)))
      (fun x => vb (ix2 (flat 2 d) x)) (vs (ix2 (flat 2 d) 0)) := by
  unfold head2
  rw [p_soft]
  simp only [p_score, slV2, slW2, slQ2, slK2, mulf_at, slS2, p3, p31]
  rfl

theorem head3_at : head3 k0_pay3 qs qc ks kc vs vb (mrowOf m) B (ix2 d j)
    = softE (scoreE (qs (ix2 3 j)) (fun d => qc (ix3 3 d j)) (fun x => ks (ix2 3 x)) (fun d x => kc (ix3 3 d x)) (fun x => m (ix2 0 x)) (fun x => B (ix3 0 x j)))
      (fun x => vb (ix2 (flat 3 d) x)) (vs (ix2 (flat 3 d) 0)) := by
  unfold head3
  rw [p_soft]
  simp only [p_score, slV3, slW3, slQ3, slK3, mulf_at, slS3, p3, p31]
  rfl

theorem pay32_eq (mr) : k0_pay32 k0_pay3 qs qc ks kc vs vb mr B = head0 k0_pay3 qs qc ks kc vs vb mr B := rfl
theorem pay34_eq (mr) : k0_pay34 k0_pay3 qs qc ks vs vb mr (k0_pay33 kc) B = head1 k0_pay3 qs qc ks kc vs vb mr B := rfl
theorem pay37_eq (mr) : k0_pay37 k0_pay3 qs qc vs vb mr (k0_pay35 kc) (k0_pay36 ks) B = head2 k0_pay3 qs qc ks kc vs vb mr B := rfl
theorem pay39_eq (mr) (g : FVec Ideal S128x256 .f32) (o0 o1 o2 : FVec Ideal S32x256 .f32) :
    k0_pay39 k0_pay3 qs qc vs vb g mr o0 o1 o2 (k0_pay38 ks kc) B
      = mulf (concatenate S128x256 0 [⟨S32x256, o0⟩, ⟨S32x256, o1⟩, ⟨S32x256, o2⟩, ⟨S32x256, head3 k0_pay3 qs qc ks kc vs vb mr B⟩] concatenates_S32x256_S32x256_S32x256_S32x256_S128x256_d0) g := rfl

/-- One of four. -/
def pick (a b c e : EReal) (h : Fin 4) : EReal := match h with | 0 => a | 1 => b | 2 => c | 3 => e

theorem cat_at (g : FVec Ideal S128x256 .f32) (o0 o1 o2 o3 : FVec Ideal S32x256 .f32) :
    mulf (concatenate S128x256 0 [⟨S32x256, o0⟩, ⟨S32x256, o1⟩, ⟨S32x256, o2⟩, ⟨S32x256, o3⟩] concatenates_S32x256_S32x256_S32x256_S32x256_S128x256_d0) g (ix2 r j)
      = pick (o0 (ix2 (pl r) j)) (o1 (ix2 (pl r) j)) (o2 (ix2 (pl r) j)) (o3 (ix2 (pl r) j)) (hd r) * g (ix2 r j) := by
  pointwise []
  refine congrArg (· * g (ix2 r j)) ?_
  have hr := r.isLt
  by_cases h0 : r.val < 32
  · have e1 : hd r = 0 := Fin.ext (by show r.val / 32 = 0; omega)
    have e2 : pl r = ⟨r.val, h0⟩ := Fin.ext (by show r.val % 32 = r.val; omega)
    rw [dif_pos h0, e1, e2]; rfl
  rw [dif_neg h0]
  by_cases h1 : r.val - 32 < 32
  · have e1 : hd r = 1 := Fin.ext (by show r.val / 32 = 1; omega)
    have e2 : pl r = ⟨r.val - 32, h1⟩ := Fin.ext (by show r.val % 32 = r.val - 32; omega)
    rw [dif_pos h1, e1, e2]; rfl
  rw [dif_neg h1]
  by_cases h2 : r.val - 32 - 32 < 32
  · have e1 : hd r = 2 := Fin.ext (by show r.val / 32 = 2; omega)
    have e2 : pl r = ⟨r.val - 32 - 32, h2⟩ := Fin.ext (by show r.val % 32 = r.val - 32 - 32; omega)
    rw [dif_pos h2, e1, e2]; rfl
  rw [dif_neg h2]
  have e1 : hd r = 3 := Fin.ext (by show r.val / 32 = 3; omega)
  have e2 : pl r = ⟨r.val - 32 - 32 - 32, by omega⟩ := Fin.ext (by show r.val % 32 = r.val - 32 - 32 - 32; omega)
  rw [e1, e2]; rfl

theorem p40 (mr) (g : FVec Ideal S128x256 .f32) (o0 o1 o2 o3 : FVec Ideal S32x256 .f32) :
    k0_pay40 k0_pay3 qs qc vs vb g mr o0 o1 o2 o3 B (ix2 0 j) = top fun r => mag (k0_pay39 k0_pay3 qs qc vs vb g mr o0 o1 o2 o3 B (ix2 r j)) := by
  pointwise [k0_pay40]
  simp only [bits_bot]
  rfl
theorem p42 (a : FVec Ideal S1x256 .f32) : k0_pay42 a k0_pay41 (ix2 0 j) = scale (a (ix2 0 j)) := by
  pointwise [k0_pay42, k0_pay41]
  simp only [bits_0, bits_1, bits_127]
  rfl
theorem p44 (y : FVec Ideal S128x256 .f32) (a : FVec Ideal S1x256 .f32) :
    k0_pay44 y a k0_pay41 (ix4 0 0 j r) = i8 (code (y (ix2 r j) * Ideal.div 1 (scale (a (ix2 0 j))))) := by
  rw [← p42]
  pointwise [k0_pay44, k0_pay43]
  simp only [bits_1, bits_127, bits_m127]
  rfl
theorem p45 (a : FVec Ideal S1x256 .f32) : k0_pay45 a k0_pay41 (ix3 0 0 j) = scale (a (ix2 0 j)) := by
  rw [← p42]
  pointwise [k0_pay45]
theorem p46 (y : FVec Ideal S128x256 .f32) (a : FVec Ideal S1x256 .f32) (W : Vec Ideal S128x128 .i8) (S : Vec Ideal S1x128 .f32) :
    k0_pay46 y a k0_pay41 W S (ix2 j n) = (∑ r, code (y (ix2 r j) * Ideal.div 1 (scale (a (ix2 0 j)))) * num (W (ix2 r n))) * scale (a (ix2 0 j)) * S (ix2 0 n) := by
  have e : ∀ r, code (y (ix2 r j) * Ideal.div 1 (scale (a (ix2 0 j)))) = num (k0_pay44 y a k0_pay41 (ix4 0 0 j r)) := fun r => by rw [p44, num_i8]
  simp only [e]
  rw [← p42]
  pointwise [k0_pay46, k0_pay44]
  rfl
theorem p4 (o : FVec Ideal S256x128 .f32) (b : Vec Ideal S1x128 .f32) (X : Vec Ideal S1x1x256x128 .bf16) :
    k0_pay4 o b X (ix4 0 0 j n) = (X (ix4 0 0 j n) : EReal) + (o (ix2 j n) + b (ix2 0 n)) := by
  pointwise [k0_pay4]

end Cert.KernelIdeal.Hand

end
-- ==== Proof.KVal.lean ====
/-
  What the attend kernel computes for a row, from a window that fits the arguments: the same numbers as the specification's.
-/
module

public import proofs.«01_k».proof.Proof.KPay

@[expose] public section

set_option maxRecDepth 16384

noncomputable section

namespace Cert.KernelIdeal.Hand

open Cert.KernelIdeal Cert.KernelIdeal.Gen Cert.Spec
open Idealize.ShloMosaic Idealize.ShloMosaic.TcCoe

/-- What the claim asks of the arguments. -/
structure Tame (A : Arg) : Prop where
  s : ∀ b i j, Fin' (A.s b i j) ∧ 0 ≤ A.s b i j
  sg : ∀ h d, Fin' (A.sg h d)
  bi : ∀ b i h j x, A.ma b i x ≠ 0 → A.bi b h j x ≠ ⊤
  ma : ∀ b i h j, ∃ x, A.ma b i x ≠ 0 ∧ A.bi b h j x ≠ ⊥

/-- The windows' loads for a row are the arguments'. -/
structure Fits (w : Win Ideal) (k : Trip) (A : Arg) (b : Fin 5) (i : Fin 256) : Prop where
  X : ∀ j n, w.lX k (ix4 0 0 j n) = A.x b i j n
  C : ∀ j n, w.lC k (ix4 0 0 j n) = A.c b i j n
  S : ∀ j, w.lS k (ix3 0 0 j) = A.s b i j
  W0 : ∀ r x, w.lW0 (ix2 r x) = A.wq x (hd r) (pl r)
  W1 : ∀ r x, w.lW1 (ix2 r x) = A.wk x (hd r) (pl r)
  W2 : ∀ r x, w.lW2 (ix2 r x) = A.wv x (hd r) (pl r)
  W3 : ∀ r x, w.lW3 (ix2 r x) = A.wg x (hd r) (pl r)
  R0 : ∀ r j, w.lR0 (ix2 r j) = A.sq (hd r) (pl r)
  R1 : ∀ r j, w.lR1 (ix2 r j) = A.sk (hd r) (pl r)
  R2 : ∀ r, w.lR2 (ix2 r 0) = A.sv (hd r) (pl r)
  R3 : ∀ r j, w.lR3 (ix2 r j) = A.sg (hd r) (pl r)
  G : ∀ r j, w.lG (ix2 r j) = A.bg (hd r) (pl r)
  O : ∀ r n, w.lO (ix2 r n) = A.wo (hd r) (pl r) n
  So : ∀ n, w.lSo (ix2 0 n) = A.so n
  Bo : ∀ n, w.lBo (ix2 0 n) = A.bo n
  M : ∀ x, w.lM k (ix2 0 x) = if A.ma b i x ≠ 0 then (0 : EReal) else ⊥
  B0 : ∀ x j, w.lB0 (ix3 0 x j) = A.bi b 0 j x * L
  B1 : ∀ x j, w.lB1 (ix3 0 x j) = A.bi b 1 j x * L
  B2 : ∀ x j, w.lB2 (ix3 0 x j) = A.bi b 2 j x * L
  B3 : ∀ x j, w.lB3 (ix3 0 x j) = A.bi b 3 j x * L

theorem flat_mk (r : Fin 128) : flat (hd r) (pl r) = r := Fin.ext (by show r.val / 32 * 32 + r.val % 32 = r.val; omega)
theorem hd_flat (h : Fin 4) (d : Fin 32) : hd (flat h d) = h := Fin.ext (by show (h.val * 32 + d.val) / 32 = h.val; omega)
theorem pl_flat (h : Fin 4) (d : Fin 32) : pl (flat h d) = d := Fin.ext (by show (h.val * 32 + d.val) % 32 = d.val; omega)

theorem acc_fin (A : Arg) (b : Fin 5) (i j : Fin 256) (h : Fin 4) (w) (d : Fin 32) : Fin' (A.acc b i j h w d) :=
  Fin'.sum _ fun _ => (Fin'.num _).mul (Fin'.num _)
theorem acc_comm (A : Arg) (b : Fin 5) (i j : Fin 256) (h : Fin 4) (w : Fin 128 → Fin 4 → Fin 32 → BitVec 8) (d : Fin 32) :
    (∑ x, num (w x h d) * num (A.c b i j x)) = A.acc b i j h w d :=
  Finset.sum_congr rfl fun _ _ => mul_comm _ _
/-- A head's scale of queries or keys is a positive real, or the top over codes of nought. -/
theorem rsc_cases (A : Arg) (b : Fin 5) (i j : Fin 256) (h : Fin 4) (w) (s) :
    (∃ c : ℝ, 0 < c ∧ A.rsc b i j h w s = c) ∨ (A.rsc b i j h w s = ⊤ ∧ ∀ d, A.rco b i j h w s d = 0) := by
  rcases scale_cases _ ((mag_nonneg _).trans (le_top_of (fun d => mag (A.proj b i j h w s d)) 0)) with h | ⟨e, f⟩
  · exact Or.inl h
  · exact Or.inr ⟨e, fun d => f _⟩

variable {w : Win Ideal} {k : Trip} {A : Arg} {b : Fin 5} {i : Fin 256} (H : Fits w k A b i) (T : Tame A)
variable (h : Fin 4) (d : Fin 32) (r n : Fin 128) (j x : Fin 256)
include H T

theorem qp_at : k0_pay11 (w.lC k) w.lW0 w.lR0 (ix3 h d j) = A.acc b i j h A.wq d * A.sq h d := by
  rw [p11]; simp only [H.W0, H.C, H.R0, hd_flat, pl_flat, acc_comm]
theorem qs_at : w.qs k (ix2 h j) = A.rsc b i j h A.wq A.sq := by
  unfold Win.qs
  rw [p12]; simp only [qp_at H T, H.S]
  rw [row_scale _ _ _ (T.s b i j).2]; rfl
theorem qc_at : w.qc k (ix3 h d j) = A.rco b i j h A.wq A.sq d := by
  have e := qs_at H T h j
  unfold Win.qs at e
  unfold Win.qc
  rw [p13, e, qp_at H T, H.S]; exact row_code _ _ _ _ (scale_ne _)
theorem v30_at : w.v30 k (ix2 0 j) = A.s b i j := by
  unfold Win.v30; rw [p10, H.S]
theorem v27_at : w.v27 k (ix2 j n) = num (A.c b i j n) := by
  unfold Win.v27; rw [p9, H.C]
theorem kp_at : k0_pay15 (w.ka k) w.lR1 (ix3 h d j) = A.acc b i j h A.wk d * A.sk h d := by
  unfold Win.ka
  rw [p15, p14]; simp only [H.W1, H.C, H.R1, hd_flat, pl_flat, acc_comm]
theorem ks_at : w.ks k (ix2 h j) = A.rsc b i j h A.wk A.sk := by
  unfold Win.ks
  rw [p16]; simp only [kp_at H T, v30_at H T]
  rw [row_scale _ _ _ (T.s b i j).2]; rfl
theorem kc_at : w.kc k (ix3 h d j) = A.rco b i j h A.wk A.sk d := by
  have e := ks_at H T h j
  unfold Win.ks at e
  unfold Win.kc
  rw [p17, e, kp_at H T, v30_at H T]; exact row_code _ _ _ _ (scale_ne _)
theorem vp_at : k0_pay22 (w.v27 k) (w.v30 k) w.lW2 (ix2 r j) = A.acc b i j (hd r) A.wv (pl r) * A.s b i j := by
  rw [p22]; simp only [H.W2, v27_at H T, v30_at H T, acc_comm]
theorem vs_at : w.vs k (ix2 r 0) = A.vsc b i (hd r) (pl r) := by
  unfold Win.vs
  rw [p24]; simp only [vp_at H T, H.R2]
  rw [col_scale]; rfl
theorem vc_at : w.vc k (ix2 r j) = A.vco b i j (hd r) (pl r) := by
  have e := vs_at H T r
  unfold Win.vs at e
  unfold Win.vc
  rw [p25, e, vp_at H T, H.R2]; exact col_code _ _ _ (scale_ne _)
theorem gate_at : w.gate k (ix2 r j) = A.gate b i j (hd r) (pl r) := by
  unfold Win.gate
  rw [p30]; simp only [H.W3, H.R3, H.G, v27_at H T, v30_at H T, acc_comm]
  rw [gate_eq _ _ _ ((acc_fin A b i j (hd r) A.wg (pl r)).mul (T.s b i j).1) (T.sg _ _)]; rfl

omit H in
theorem score_at : scoreE (A.rsc b i j h A.wq A.sq) (fun d => A.rco b i j h A.wq A.sq d) (fun x => A.rsc b i x h A.wk A.sk)
    (fun d x => A.rco b i x h A.wk A.sk d) (fun x => if A.ma b i x ≠ 0 then (0 : EReal) else ⊥) (fun x => A.bi b h j x * L) x = A.s2 b i j h x := by
  unfold scoreE Arg.s2
  dsimp only
  exact score_any _ _ (fun d => Fin'.code _) (fun d => Fin'.code _) _ _ (rsc_cases A b i j h A.wq A.sq) (rsc_cases A b i x h A.wk A.sk) _ _ (T.bi b i h j x)

omit H in
theorem s2_cases : (A.bi b h j x ≠ ⊥ ∧ A.ma b i x ≠ 0 ∧ Fin' (A.s2 b i j h x)) ∨ (¬ (A.ma b i x ≠ 0 ∧ A.bi b h j x ≠ ⊥) ∧ A.s2 b i j h x = ⊥) := by
  have hl : 0 < Real.log 2 := Real.log_pos (by norm_num)
  have h3 : 0 < Real.sqrt 32 := Real.sqrt_pos.mpr (by norm_num)
  have ht := T.bi b i h j x
  unfold Arg.s2
  by_cases e : A.ma b i x ≠ 0
  · rw [if_pos e, Ideal.div_coe hl.ne', Ideal.div_coe h3.ne']
    by_cases g : A.bi b h j x = ⊥
    · right
      exact ⟨fun f => f.2 g, by rw [g, EReal.add_bot]; exact EReal.bot_mul_coe_of_pos (one_div_pos.mpr hl)⟩
    · left
      exact ⟨g, e, (((prod_fin _ _ (fun d => Fin'.code _) (fun d => Fin'.code _) _ _ (rsc_cases A b i j h A.wq A.sq) (rsc_cases A b i x h A.wk A.sk)).mul ⟨_, rfl⟩).add
        ⟨_, (EReal.coe_toReal (ht e) g).symm⟩).mul ⟨_, rfl⟩⟩
  · right
    exact ⟨fun f => e f.1, if_neg e⟩

omit H in
theorem head_at : softE (scoreE (A.rsc b i j h A.wq A.sq) (fun d => A.rco b i j h A.wq A.sq d) (fun x => A.rsc b i x h A.wk A.sk)
    (fun d x => A.rco b i x h A.wk A.sk d) (fun x => if A.ma b i x ≠ 0 then (0 : EReal) else ⊥) (fun x => A.bi b h j x * L))
      (fun x => A.vco b i x h d) (A.vsc b i h d)
    = Ideal.div ((∑ x, A.vco b i x h d * A.p b i j h x) * A.vsc b i h d) (∑ x, A.p b i j h x) := by
  rw [show (scoreE (A.rsc b i j h A.wq A.sq) (fun d => A.rco b i j h A.wq A.sq d) (fun x => A.rsc b i x h A.wk A.sk)
    (fun d x => A.rco b i x h A.wk A.sk d) (fun x => if A.ma b i x ≠ 0 then (0 : EReal) else ⊥) (fun x => A.bi b h j x * L)) = A.s2 b i j h from
    funext fun x => score_at T h j x]
  obtain ⟨x0, hx⟩ := T.ma b i h j
  refine soft_eq _ _ _ (fun x => ?_) x0 ?_
  · rcases s2_cases (b := b) (i := i) T h j x with ⟨-, -, r, e⟩ | ⟨-, e⟩
    · rw [e]; exact EReal.coe_ne_top _
    · rw [e]; exact bot_ne_top
  · rcases s2_cases (b := b) (i := i) T h j x0 with ⟨-, -, r, e⟩ | ⟨e, -⟩
    · rw [e]; exact EReal.coe_ne_bot _
    · exact absurd hx e

/-- The row numbers the kernel's first row is told by. -/
abbrev rowIota : IVec S32x256 32 := iota .tc S32x256 32 [0] iota_S32x256_d0_w32

theorem y_at : w.y k rowIota (ix2 r j) = A.y b i j (hd r) (pl r) := by
  unfold Win.y
  rw [pay39_eq, cat_at, gate_at H T, Arg.y, ← head_at T]
  congr 1
  have e : ∀ (h : Fin 4), hd r = h → flat h (pl r) = r := fun h e => by rw [← e, flat_mk]
  have hv : ∀ x, w.vb k (ix2 r x) = A.vco b i x (hd r) (pl r) := fun x => by
    unfold Win.vb; rw [p29, vc_at H T]
  have hm : w.mrow k rowIota = mrowOf (w.lM k) := rfl
  unfold Win.o0 Win.o1 Win.o2
  rw [pay32_eq, pay34_eq, pay37_eq, hm]
  rw [head0_at, head1_at, head2_at, head3_at]
  simp only [qs_at H T, qc_at H T, ks_at H T, kc_at H T, H.M, H.B0, H.B1, H.B2, H.B3]
  match hh : hd r with
  | 0 => simp only [pick, e 0 hh, hv, vs_at H T, hh]
  | 1 => simp only [pick, e 1 hh, hv, vs_at H T, hh]
  | 2 => simp only [pick, e 2 hh, hv, vs_at H T, hh]
  | 3 => simp only [pick, e 3 hh, hv, vs_at H T, hh]
theorem ya_at : scale (w.ya k rowIota (ix2 0 j)) = A.ysc b i j := by
  unfold Win.ya
  rw [p40]
  have e : ∀ r, k0_pay39 (k0_pay3 (F := Ideal)) (w.qs k) (w.qc k) (w.vs k) (w.vb k) (w.gate k) (w.mrow k rowIota) (w.o0 k rowIota) (w.o1 k rowIota) (w.o2 k rowIota)
    (k0_pay38 (w.ks k) (w.kc k)) w.lB3 (ix2 r j) = A.y b i j (hd r) (pl r) := fun r => y_at H T r j
  simp only [e]; rfl
theorem yq_at : code (w.y k rowIota (ix2 r j) * Ideal.div 1 (scale (w.ya k rowIota (ix2 0 j)))) = A.yco b i j r := by
  rw [ya_at H T, y_at H T, div_one _ _ (show A.ysc b i j ≠ 0 from scale_ne _)]; rfl

/-- The values stored for a row. -/
theorem T13_at : w.T13 k rowIota (ix4 0 0 j n) = A.out b i j n := by
  unfold Win.T13 Win.out
  rw [p4, p46]
  simp only [yq_at H T]
  simp only [ya_at H T, H.O, H.So, H.Bo, H.X, Arg.out]
theorem T14_at : w.T14 k (ix4 0 0 r j) = i8 (A.rco b i j (hd r) A.wq A.sq (pl r)) := by
  unfold Win.T14
  rw [p18, qc_at H T]; exact fptosi_i8 _
theorem T15_at : w.T15 k (ix4 0 0 h j) = A.rsc b i j h A.wq A.sq := by
  unfold Win.T15
  rw [p20, qs_at H T]
theorem T16_at : w.T16 k (ix4 0 0 r j) = i8 (A.rco b i j (hd r) A.wk A.sk (pl r)) := by
  have e := kc_at H T (hd r) (pl r) j
  unfold Win.kc at e
  unfold Win.T16
  rw [p19, e]; exact fptosi_i8 _
theorem T17_at : w.T17 k (ix4 0 0 h j) = A.rsc b i j h A.wk A.sk := by
  unfold Win.T17
  rw [p21, ks_at H T]
theorem T18_at : w.T18 k (ix4 0 0 r j) = i8 (A.vco b i j (hd r) (pl r)) := by
  have e := vc_at H T r j
  unfold Win.vc at e
  unfold Win.T18
  rw [p26, e]; exact fptosi_i8 _
theorem T20_at : w.T20 k rowIota (ix4 0 0 j r) = i8 (A.yco b i j r) := by
  unfold Win.T20
  rw [p44, yq_at H T]
theorem T21_at : w.T21 k rowIota (ix3 0 0 j) = A.ysc b i j := by
  unfold Win.T21
  rw [p45, ya_at H T]

end Cert.KernelIdeal.Hand

end
-- ==== Proof.KIScr.lean ====
/-
  What the attend kernel keeps in its two scratch buffers.
-/
module

public import proofs.«01_k».proof.Proof.KITrip

@[expose] public section

noncomputable section

namespace Cert.KernelIdeal.Hand.Val

open Cert.KernelIdeal Cert.KernelIdeal.Gen Cert.KernelIdeal.Hand
open Idealize.ShloMosaic Idealize.ShloMosaic.TcCoe

variable {F : FTy → Type} [FloatOps F] [Named F]

/-- The mask's window as the scratch holds it. -/
def MK (d5 : S1x32x256.Idx → Elt F .i8) : S32x256.Idx → Elt F .f32 :=
  k0_pay2 (View.ld d5 (Rect.unit (s := S1x32x256) ![0, 0, 0] S1x32x256.size inb_S1x32x256_S1x32x256_0_0_0))

/-- The bias's window as the scratch holds it: four slabs, scaled. -/
def BT (d6 : S1x4x256x256.Idx → Elt F .f32) : S4x256x256.Idx → Elt F .f32 := fun x =>
  if (x 0).val = 0 then k0_pay5 (View.ld d6 (Rect.unit (s := S1x4x256x256) ![0, 0, 0, 0] S1x1x256x256.size inb_S1x4x256x256_S1x1x256x256_0_0_0_0)) (ix3 (n0 := 1) (n1 := 256) (n2 := 256) 0 (x 1) (x 2))
  else if (x 0).val = 1 then k0_pay6 (View.ld d6 (Rect.unit (s := S1x4x256x256) ![0, 1, 0, 0] S1x1x256x256.size inb_S1x4x256x256_S1x1x256x256_0_1_0_0)) (ix3 (n0 := 1) (n1 := 256) (n2 := 256) 0 (x 1) (x 2))
  else if (x 0).val = 2 then k0_pay7 (View.ld d6 (Rect.unit (s := S1x4x256x256) ![0, 2, 0, 0] S1x1x256x256.size inb_S1x4x256x256_S1x1x256x256_0_2_0_0)) (ix3 (n0 := 1) (n1 := 256) (n2 := 256) 0 (x 1) (x 2))
  else k0_pay1 (k0_pay8 (View.ld d6 (Rect.unit (s := S1x4x256x256) ![0, 3, 0, 0] S1x1x256x256.size inb_S1x4x256x256_S1x1x256x256_0_3_0_0))) (ix3 (n0 := 1) (n1 := 256) (n2 := 256) 0 (x 1) (x 2))

end Cert.KernelIdeal.Hand.Val

end
-- ==== Proof.KFit.lean ====
/-
  The kernel's windows at a point, element by element: the arguments'.
-/
module

public import proofs.«01_k».proof.Proof.KVal
public import proofs.«01_k».proof.Proof.KIScr
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Spec
open Idealize.ShloMosaic Idealize.ShloMosaic.TcCoe

variable (m : (ℓ : Loc nD τ sig) → Buf (Elt Ideal) ℓ) (c : Dev nD)

/-- The arguments' elements. -/
def argK : Arg where
  x a b d e := (m ((c : Thread nD τ).loc main_arg0) : S5x256x256x128.Idx → EReal) (ix4 a b d e)
  c a b d e := (m ((c : Thread nD τ).loc main_arg1) : S5x256x256x128.Idx → BitVec 8) (ix4 a b d e)
  s a b d := (m ((c : Thread nD τ).loc main_arg2) : S5x256x256.Idx → EReal) (ix3 a b d)
  ma a b d := (m ((c : Thread nD τ).loc main_arg3) : S5x256x256.Idx → BitVec 8) (ix3 a b d)
  bi a b d e := (m ((c : Thread nD τ).loc main_arg4) : S5x4x256x256.Idx → EReal) (ix4 a b d e)
  wq a b d := (m ((c : Thread nD τ).loc main_arg5) : S128x4x32.Idx → BitVec 8) (ix3 a b d)
  sq a b := (m ((c : Thread nD τ).loc main_arg6) : S4x32.Idx → EReal) (ix2 a b)
  wk a b d := (m ((c : Thread nD τ).loc main_arg7) : S128x4x32.Idx → BitVec 8) (ix3 a b d)
  sk a b := (m ((c : Thread nD τ).loc main_arg8) : S4x32.Idx → EReal) (ix2 a b)
  wv a b d := (m ((c : Thread nD τ).loc main_arg9) : S128x4x32.Idx → BitVec 8) (ix3 a b d)
  sv a b := (m ((c : Thread nD τ).loc main_arg10) : S4x32.Idx → EReal) (ix2 a b)
  wg a b d := (m ((c : Thread nD τ).loc main_arg11) : S128x4x32.Idx → BitVec 8) (ix3 a b d)
  sg a b := (m ((c : Thread nD τ).loc main_arg12) : S4x32.Idx → EReal) (ix2 a b)
  bg a b := (m ((c : Thread nD τ).loc main_arg13) : S4x32.Idx → EReal) (ix2 a b)
  wo a b d := (m ((c : Thread nD τ).loc main_arg14) : S4x32x128.Idx → BitVec 8) (ix3 a b d)
  so a := (m ((c : Thread nD τ).loc main_arg15) : S128.Idx → EReal) (ix1 a)
  bo a := (m ((c : Thread nD τ).loc main_arg16) : S128.Idx → EReal) (ix1 a)

variable (r n : Fin 128) (j x : Fin 256)

/-- The four weights, transposed, one under the other. -/
def W8 (a b c d : IVec S128x4x32 8) : IVec S512x128 8 :=
  concatenate S512x128 0 [⟨S128x128, transpose S128x128 [1, 0] (shapeCast S128x128 a shapeCasts_S128x4x32_S128x128) transposes_S128x128_S128x128_1_0⟩,
    ⟨S128x128, transpose S128x128 [1, 0] (shapeCast S128x128 b shapeCasts_S128x4x32_S128x128) transposes_S128x128_S128x128_1_0⟩,
    ⟨S128x128, transpose S128x128 [1, 0] (shapeCast S128x128 c shapeCasts_S128x4x32_S128x128) transposes_S128x128_S128x128_1_0⟩,
    ⟨S128x128, transpose S128x128 [1, 0] (shapeCast S128x128 d shapeCasts_S128x4x32_S128x128) transposes_S128x128_S128x128_1_0⟩]
    concatenates_S128x128_S128x128_S128x128_S128x128_S512x128_d0
/-- The four scales, one under the other, along the lanes. -/
def W15 (a b c d : FVec Ideal S4x32 .f32) : FVec Ideal S512x256 .f32 :=
  broadcastInDim S512x256 ![0, 1] bcast_S512x1_S512x256_0_1 (shapeCast S512x1 (concatenate S512 0 [⟨S128, shapeCast S128 a shapeCasts_S4x32_S128⟩,
    ⟨S128, shapeCast S128 b shapeCasts_S4x32_S128⟩, ⟨S128, shapeCast S128 c shapeCasts_S4x32_S128⟩, ⟨S128, shapeCast S128 d shapeCasts_S4x32_S128⟩]
    concatenates_S128_S128_S128_S128_S512_d0) shapeCasts_S512_S512x1)

theorem W8_0 (a b c d : IVec S128x4x32 8) : W8 a b c d (ix2 ⟨r.val, by omega⟩ n) = a (ix3 n (hd r) (pl r)) := by
  pointwise [W8]
  try simp only [r.isLt, dif_pos]
  try rfl
theorem W15_0 (a b c d : FVec Ideal S4x32 .f32) : W15 a b c d (ix2 ⟨r.val, by omega⟩ j) = a (ix2 (hd r) (pl r)) := by
  pointwise [W15]
  try simp only [r.isLt, dif_pos]
  try rfl
theorem W8_1 (a b c d : IVec S128x4x32 8) : W8 a b c d (ix2 ⟨128 + r.val, by omega⟩ n) = b (ix3 n (hd r) (pl r)) := by
  pointwise [W8]
  have e : 128 + r.val - 128 = r.val := by omega
  have n1 : ¬ 128 + r.val < 128 := by omega
  try simp only [e, n1, r.isLt, dif_pos, dif_neg, not_false_eq_true]
  try rfl
theorem W15_1 (a b c d : FVec Ideal S4x32 .f32) : W15 a b c d (ix2 ⟨128 + r.val, by omega⟩ j) = b (ix2 (hd r) (pl r)) := by
  pointwise [W15]
  have e : 128 + r.val - 128 = r.val := by omega
  have n1 : ¬ 128 + r.val < 128 := by omega
  try simp only [e, n1, r.isLt, dif_pos, dif_neg, not_false_eq_true]
  try rfl
theorem W8_2 (a b c d : IVec S128x4x32 8) : W8 a b c d (ix2 ⟨256 + r.val, by omega⟩ n) = c (ix3 n (hd r) (pl r)) := by
  pointwise [W8]
  have e : 256 + r.val - 128 - 128 = r.val := by omega
  have n1 : ¬ 256 + r.val < 128 := by omega
  have n2 : ¬ 256 + r.val - 128 < 128 := by omega
  try simp only [e, n1, n2, r.isLt, dif_pos, dif_neg, not_false_eq_true]
  try rfl
theorem W15_2 (a b c d : FVec Ideal S4x32 .f32) : W15 a b c d (ix2 ⟨256 + r.val, by omega⟩ j) = c (ix2 (hd r) (pl r)) := by
  pointwise [W15]
  have e : 256 + r.val - 128 - 128 = r.val := by omega
  have n1 : ¬ 256 + r.val < 128 := by omega
  have n2 : ¬ 256 + r.val - 128 < 128 := by omega
  try simp only [e, n1, n2, r.isLt, dif_pos, dif_neg, not_false_eq_true]
  try rfl
theorem W8_3 (a b c d : IVec S128x4x32 8) : W8 a b c d (ix2 ⟨384 + r.val, by omega⟩ n) = d (ix3 n (hd r) (pl r)) := by
  pointwise [W8]
  have e : 384 + r.val - 128 - 128 - 128 = r.val := by omega
  have n1 : ¬ 384 + r.val < 128 := by omega
  have n2 : ¬ 384 + r.val - 128 < 128 := by omega
  have n3 : ¬ 384 + r.val - 128 - 128 < 128 := by omega
  try simp only [e, n1, n2, n3, dif_neg, not_false_eq_true]
  try rfl
theorem W15_3 (a b c d : FVec Ideal S4x32 .f32) : W15 a b c d (ix2 ⟨384 + r.val, by omega⟩ j) = d (ix2 (hd r) (pl r)) := by
  pointwise [W15]
  have e : 384 + r.val - 128 - 128 - 128 = r.val := by omega
  have n1 : ¬ 384 + r.val < 128 := by omega
  have n2 : ¬ 384 + r.val - 128 < 128 := by omega
  have n3 : ¬ 384 + r.val - 128 - 128 < 128 := by omega
  try simp only [e, n1, n2, n3, dif_neg, not_false_eq_true]
  try rfl

set_option maxHeartbeats 2000000 in
theorem V8_eq : (V m c main_v8 : S512x128.Idx → BitVec 8) = W8 (m ((c : Thread nD τ).loc main_arg5)) (m ((c : Thread nD τ).loc main_arg7)) (m ((c : Thread nD τ).loc main_arg9)) (m ((c : Thread nD τ).loc main_arg11)) := by
  rfl
set_option maxHeartbeats 2000000 in
theorem V15_eq : (V m c main_v15 : S512x256.Idx → EReal) = W15 (m ((c : Thread nD τ).loc main_arg6)) (m ((c : Thread nD τ).loc main_arg8)) (m ((c : Thread nD τ).loc main_arg10)) (m ((c : Thread nD τ).loc main_arg12)) := by
  rfl
theorem V8_0 : (V m c main_v8 : S512x128.Idx → BitVec 8) (ix2 ⟨r.val, by omega⟩ n) = (argK m c).wq n (hd r) (pl r) := by
  rw [V8_eq]; exact W8_0 r n _ _ _ _
theorem V15_0 : (V m c main_v15 : S512x256.Idx → EReal) (ix2 ⟨r.val, by omega⟩ j) = (argK m c).sq (hd r) (pl r) := by
  rw [V15_eq]; exact W15_0 r j _ _ _ _
theorem V8_1 : (V m c main_v8 : S512x128.Idx → BitVec 8) (ix2 ⟨128 + r.val, by omega⟩ n) = (argK m c).wk n (hd r) (pl r) := by
  rw [V8_eq]; exact W8_1 r n _ _ _ _
theorem V15_1 : (V m c main_v15 : S512x256.Idx → EReal) (ix2 ⟨128 + r.val, by omega⟩ j) = (argK m c).sk (hd r) (pl r) := by
  rw [V15_eq]; exact W15_1 r j _ _ _ _
theorem V8_2 : (V m c main_v8 : S512x128.Idx → BitVec 8) (ix2 ⟨256 + r.val, by omega⟩ n) = (argK m c).wv n (hd r) (pl r) := by
  rw [V8_eq]; exact W8_2 r n _ _ _ _
theorem V15_2 : (V m c main_v15 : S512x256.Idx → EReal) (ix2 ⟨256 + r.val, by omega⟩ j) = (argK m c).sv (hd r) (pl r) := by
  rw [V15_eq]; exact W15_2 r j _ _ _ _
theorem V8_3 : (V m c main_v8 : S512x128.Idx → BitVec 8) (ix2 ⟨384 + r.val, by omega⟩ n) = (argK m c).wg n (hd r) (pl r) := by
  rw [V8_eq]; exact W8_3 r n _ _ _ _
theorem V15_3 : (V m c main_v15 : S512x256.Idx → EReal) (ix2 ⟨384 + r.val, by omega⟩ j) = (argK m c).sg (hd r) (pl r) := by
  rw [V15_eq]; exact W15_3 r j _ _ _ _
theorem V18_at : (V m c main_v18 : S128x256.Idx → EReal) (ix2 r j) = (argK m c).bg (hd r) (pl r) := by
  entry_read
  pointwise []
  rfl
theorem V19_at : (V m c main_v19 : S128x128.Idx → BitVec 8) (ix2 r n) = (argK m c).wo (hd r) (pl r) n := by
  entry_read
  pointwise []
  rfl
theorem V20_at : (V m c main_v20 : S1x128.Idx → EReal) (ix2 0 n) = (argK m c).so n := by
  entry_read
  pointwise []
  rfl
theorem V21_at : (V m c main_v21 : S1x128.Idx → EReal) (ix2 0 n) = (argK m c).bo n := by
  entry_read
  pointwise []
  rfl

end Cert.KernelIdeal.Hand

end
-- ==== Proof.PreT.lean ====
/-
  What the precondition says of the arguments' elements.
-/
module

public import proofs.«01_k».proof.Defs
public import proofs.«01_k».proof.Proof.KVal
public import proofs.«01_k».proof.Proof.KFit
public import Idealize.ShloMosaic.Lib.ReduceAll
public import Idealize.ShloMosaic.Lib.Routing.OpsOrder
public import Idealize.ShloMosaic.Lib.Pointwise

@[expose] public section

set_option maxRecDepth 16384

noncomputable section

namespace Cert.Pre_scales_tame

open Idealize.ShloMosaic

instance facts : Facts where
  bcast_S5x256x256_S5x1x256x1x256_0_2_4 := by decide
  bcast_S5x4x256x256_S5x4x1x256x256_0_1_3_4 := by decide
  bcast_S_S5x256x256 := by decide
  reducesTo_S5x256x256_S_d0_1_2 := by decide
  h_S_ := by decide
  bcast_S_S4x32 := by decide
  reducesTo_S4x32_S_d0_1 := by decide
  bcast_S_S5x1x256x1x256 := by decide
  bcast_S_S5x4x1x256x256 := by decide
  bcast_S5x1x256x1x256_S5x4x256x256x256_0_1_2_3_4 := by decide
  bcast_S5x4x1x256x256_S5x4x256x256x256_0_1_2_3_4 := by decide
  reducesTo_S5x4x256x256x256_S_d0_1_2_3_4 := by decide
  reducesTo_S5x4x256x256x256_S5x4x256x256_d4 := by decide
  reducesTo_S5x4x256x256_S_d0_1_2_3 := by decide

/-- A magnitude below the top is a real's. -/
theorem fin_of (v : EReal) (h : max v (-v) < ⊤) : Cert.Spec.Fin' v := by
  induction v using EReal.rec with
  | bot => simp at h
  | top => simp at h
  | coe r => exact ⟨r, rfl⟩

theorem fin_of' (v : EReal) (h0 : 0 ≤ v) (h : v < ⊤) : Cert.Spec.Fin' v := by
  induction v using EReal.rec with
  | bot => simp at h0
  | top => simp at h
  | coe r => exact ⟨r, rfl⟩

variable (a0 : FVec Ideal S5x256x256x128 .bf16) (a1 : IVec S5x256x256x128 8) (a2 : FVec Ideal S5x256x256 .f32) (a3 : IVec S5x256x256 8) (a4 : FVec Ideal S5x4x256x256 .f32)
  (a5 : IVec S128x4x32 8) (a6 : FVec Ideal S4x32 .f32) (a7 : IVec S128x4x32 8) (a8 : FVec Ideal S4x32 .f32) (a9 : IVec S128x4x32 8) (a10 : FVec Ideal S4x32 .f32)
  (a11 : IVec S128x4x32 8) (a12 a13 : FVec Ideal S4x32 .f32) (a14 : IVec S4x32x128 8) (a15 a16 : FVec Ideal S128 .f32)

instance : Subsingleton S_.Idx := ⟨fun x y => funext fun a => nomatch a⟩

/-- The mask and the bias along a row of scores. -/
abbrev mask5 : IVec S5x1x256x1x256 8 := broadcastInDim S5x1x256x1x256 ![0, 2, 4] Facts.bcast_S5x256x256_S5x1x256x1x256_0_2_4 a3
abbrev bias5 : FVec Ideal S5x4x1x256x256 .f32 := broadcastInDim S5x4x1x256x256 ![0, 1, 3, 4] Facts.bcast_S5x4x256x256_S5x4x1x256x256_0_1_3_4 a4

/-- A row's `any`. -/
theorem any_of (b : Fin 5) (h : Fin 4) (i j : Fin 256)
    (e : Host.reduce IntOp.ori (andi
      (broadcastInDim S5x4x256x256x256 ![0, 1, 2, 3, 4] Facts.bcast_S5x1x256x1x256_S5x4x256x256x256_0_1_2_3_4 (cmpi .ne (mask5 a3) (broadcastInDim S5x1x256x1x256 ![] Facts.bcast_S_S5x1x256x1x256 (constantI S_ 8 0#8))))
      (broadcastInDim S5x4x256x256x256 ![0, 1, 2, 3, 4] Facts.bcast_S5x4x1x256x256_S5x4x256x256x256_0_1_2_3_4 (cmpf .ogt (bias5 a4) (broadcastInDim S5x4x1x256x256 ![] Facts.bcast_S_S5x4x1x256x256 (constant S_ .f32 0xFF800000#32)))))
      (constantI S_ 1 0#1) Facts.reducesTo_S5x4x256x256x256_S5x4x256x256_d4 Facts.h_S_ (ix4 b h i j) = 1#1) :
    ∃ x, a3 (ix3 b i x) ≠ 0 ∧ a4 (ix4 b h j x) ≠ (⊥ : EReal) := by
  pointwise [] at e
  obtain ⟨x, -, hx⟩ := (Idealize.ShloMosaic.Routing.fold_ori _ _).1 e
  obtain ⟨hm, hb⟩ := IntOp.andi_eq_one.1 hx
  refine ⟨x, fun f => ?_, fun f => ?_⟩
  · rw [f] at hm
    exact absurd hm (by decide)
  · have l : Ideal.ofBits .f32 0xFF800000#32 < a4 (ix4 b h j x) := (Ideal.cmp_ogt_eq_one _ _).1 hb
    exact absurd (l.trans_eq f) not_lt_bot

/-- A key's condition on its bias. -/
theorem lt_of (b : Fin 5) (h : Fin 4) (i j x : Fin 256)
    (e : ori
      (broadcastInDim S5x4x256x256x256 ![0, 1, 2, 3, 4] Facts.bcast_S5x1x256x1x256_S5x4x256x256x256_0_1_2_3_4 (cmpi .eq (mask5 a3) (broadcastInDim S5x1x256x1x256 ![] Facts.bcast_S_S5x1x256x1x256 (constantI S_ 8 0#8))))
      (broadcastInDim S5x4x256x256x256 ![0, 1, 2, 3, 4] Facts.bcast_S5x4x1x256x256_S5x4x256x256x256_0_1_2_3_4 (cmpf .olt (bias5 a4) (broadcastInDim S5x4x1x256x256 ![] Facts.bcast_S_S5x4x1x256x256 (constant S_ .f32 0x7F800000#32))))
      (ix5 b h i j x) = 1#1) (hm : a3 (ix3 b i x) ≠ 0) : a4 (ix4 b h j x) ≠ (⊤ : EReal) := by
  pointwise [] at e
  intro f
  have n : IntOp.cmpi CmpIPredicate.eq (a3 (ix3 b i x)) 0#8 = 0#1 := by
    show BitVec.ofBool (a3 (ix3 b i x) == 0#8) = 0#1
    rw [show (a3 (ix3 b i x) == 0#8) = false from beq_eq_false_iff_ne.mpr hm]; rfl
  rw [n] at e
  have l : Ideal.cmp .olt (a4 (ix4 b h j x)) (Ideal.ofBits .f32 0x7F800000#32) = 1#1 := by
    rwa [show ∀ v, IntOp.ori 0#1 v = v from fun v => BitVec.zero_or] at e
  exact absurd (f.symm.trans_lt ((Ideal.cmp_olt_eq_one _ _).1 l)) not_top_lt

/-- The four conjuncts. -/
theorem parts (i0 : S_.Idx) (e : fn (F := Ideal) a0 a1 a2 a3 a4 a5 a6 a7 a8 a9 a10 a11 a12 a13 a14 a15 a16 i0 = 1#1) :
    (∀ i, 0 ≤ (a2 i : EReal) ∧ (a2 i : EReal) < ⊤) ∧ (∀ i, Cert.Spec.Fin' (a12 i))
      ∧ (∀ b i h j x, a3 (ix3 b i x) ≠ 0 → a4 (ix4 b h j x) ≠ (⊤ : EReal)) ∧ ∀ b i h j, ∃ x, a3 (ix3 b i x) ≠ 0 ∧ a4 (ix4 b h j x) ≠ (⊥ : EReal) := by
  dsimp only [fn, fn_part1] at e
  obtain ⟨e, e4⟩ := IntOp.andi_eq_one.1 e
  obtain ⟨e, e3⟩ := IntOp.andi_eq_one.1 e
  obtain ⟨e1, e2⟩ := IntOp.andi_eq_one.1 e
  refine ⟨fun i => ?_, fun i => ?_, fun b i h j x => lt_of a3 a4 b h i j x (Host.reduce_andi_all _ _ _ _ _ e3 _),
    fun b i h j => any_of a3 a4 b h i j (Host.reduce_andi_all _ _ _ _ _ e4 (ix4 b h i j))⟩
  · obtain ⟨g, l⟩ := IntOp.andi_eq_one.1 (Host.reduce_andi_all _ _ _ _ _ e1 i)
    have g : Ideal.cmp .oge (a2 i) (Ideal.ofBits .f32 0#32) = 1#1 := g
    have l : Ideal.cmp .olt (a2 i) (Ideal.ofBits .f32 0x7F800000#32) = 1#1 := l
    rw [Cert.Spec.bits_0] at g
    rw [Cert.Spec.bits_top] at l
    exact ⟨(Ideal.cmp_oge_eq_one _ _).1 g, (Ideal.cmp_olt_eq_one _ _).1 l⟩
  · have h : Ideal.cmp .olt (max (a12 i : EReal) (-(a12 i : EReal))) (Ideal.ofBits .f32 0x7F800000#32) = 1#1 := Host.reduce_andi_all _ _ _ _ _ e2 i
    rw [Cert.Spec.bits_top] at h
    exact fin_of _ ((Ideal.cmp_olt_eq_one _ _).1 h)

end Cert.Pre_scales_tame

namespace Cert.KernelIdeal.Hand

open Cert.KernelIdeal Cert.KernelIdeal.Gen Cert.Spec
open Idealize.ShloMosaic Idealize.ShloMosaic.TcCoe

/-- The arguments are tame under the precondition. -/
theorem tame (m : (ℓ : Loc nD τ sig) → Buf (Elt Ideal) ℓ) (h : Cert.Pre_KernelIdeal_scales_tame m) (c : Dev nD) : Tame (argK m c) := by
  obtain ⟨h2, h12, h4, h3⟩ := Cert.Pre_scales_tame.parts _ _ _ _ _ _ _ _ _ _ _ _ _ _ _ _ _ (fun a => nomatch a) (congrFun (h c) _)
  exact ⟨fun b i j => ⟨Cert.Pre_scales_tame.fin_of' _ (h2 _).1 (h2 _).2, (h2 _).1⟩, fun _ _ => h12 _, fun b i h j x => h4 b i h j x, fun b i h j => h3 b i h j⟩

end Cert.KernelIdeal.Hand

end
-- ==== Proof.KLd.lean ====
/-
  The loads of a row, at an index.
-/
module

public import proofs.«01_k».proof.Proof.KPay
public import proofs.«01_k».proof.Proof.KIScr
public import Idealize.ShloMosaic.Lib.Pipeline.ValueKit

@[expose] public section

set_option maxRecDepth 16384

noncomputable section

namespace Cert.KernelIdeal.Hand

open Cert.KernelIdeal Cert.KernelIdeal.Gen Cert.Spec
open Idealize.ShloMosaic Idealize.ShloMosaic.TcCoe

variable (w : Win Ideal) (k : Fin 32) (r n : Fin 128) (j x : Fin 256)

theorem lX_at : w.lX (tripOf k) (ix4 0 0 j n) = w.d2 (ix4 0 k j n) :=
  View.ld_unit_apply_of _ _ _ _ _ (ix4 0 k j n) fun a => by
    rw [congrFun (off1_eq _) a]
    match a with
    | 0 => rfl
    | 1 => rfl
    | 2 => show j.val = 0 + j.val; omega
    | 3 => show n.val = 0 + n.val; omega
theorem lC_at : w.lC (tripOf k) (ix4 0 0 j n) = w.d3 (ix4 0 k j n) :=
  View.ld_unit_apply_of _ _ _ _ _ (ix4 0 k j n) fun a => by
    rw [congrFun (off1_eq _) a]
    match a with
    | 0 => rfl
    | 1 => rfl
    | 2 => show j.val = 0 + j.val; omega
    | 3 => show n.val = 0 + n.val; omega
theorem lS_at : w.lS (tripOf k) (ix3 0 0 j) = w.d4 (ix3 0 k j) :=
  View.ld_unit_apply_of _ _ _ _ _ (ix3 0 k j) fun a => by
    rw [congrFun (off2_eq _) a]
    match a with
    | 0 => rfl
    | 1 => rfl
    | 2 => show j.val = 0 + j.val; omega
theorem lM_at : w.lM (tripOf k) (ix2 0 j) = w.d23 (ix2 k j) :=
  View.ld_unit_apply_of _ _ _ _ _ (ix2 k j) fun a => by
    rw [congrFun (off5_eq _) a]
    match a with
    | 0 => rfl
    | 1 => show j.val = 0 + j.val; omega
theorem lW0_at : w.lW0 (ix2 r n) = w.d7 (ix2 ⟨r.val, by omega⟩ n) := by
  unfold Win.lW0
  pointwise []
  try rfl
theorem lR0_at : w.lR0 (ix2 r j) = w.d8 (ix2 ⟨r.val, by omega⟩ j) := by
  unfold Win.lR0
  pointwise []
  try rfl
theorem lB0_at : w.lB0 (ix3 0 x j) = w.d22 (ix3 0 x j) := by
  unfold Win.lB0
  pointwise []
  try rfl
theorem lW1_at : w.lW1 (ix2 r n) = w.d7 (ix2 ⟨128 + r.val, by omega⟩ n) := by
  unfold Win.lW1
  pointwise []
  try rfl
theorem lR1_at : w.lR1 (ix2 r j) = w.d8 (ix2 ⟨128 + r.val, by omega⟩ j) := by
  unfold Win.lR1
  pointwise []
  try rfl
theorem lB1_at : w.lB1 (ix3 0 x j) = w.d22 (ix3 1 x j) := by
  unfold Win.lB1
  pointwise []
  try rfl
theorem lW2_at : w.lW2 (ix2 r n) = w.d7 (ix2 ⟨256 + r.val, by omega⟩ n) := by
  unfold Win.lW2
  pointwise []
  try rfl
theorem lR2_at : w.lR2 (ix2 r 0) = w.d8 (ix2 ⟨256 + r.val, by omega⟩ 0) := by
  unfold Win.lR2
  pointwise []
  try rfl
theorem lB2_at : w.lB2 (ix3 0 x j) = w.d22 (ix3 2 x j) := by
  unfold Win.lB2
  pointwise []
  try rfl
theorem lW3_at : w.lW3 (ix2 r n) = w.d7 (ix2 ⟨384 + r.val, by omega⟩ n) := by
  unfold Win.lW3
  pointwise []
  try rfl
theorem lR3_at : w.lR3 (ix2 r j) = w.d8 (ix2 ⟨384 + r.val, by omega⟩ j) := by
  unfold Win.lR3
  pointwise []
  try rfl
theorem lB3_at : w.lB3 (ix3 0 x j) = w.d22 (ix3 3 x j) := by
  unfold Win.lB3
  pointwise []
  try rfl
theorem lG_at : w.lG (ix2 r j) = w.d9 (ix2 r j) := by
  unfold Win.lG
  pointwise []
  try rfl
theorem lO_at : w.lO (ix2 r n) = w.d10 (ix2 r n) := by
  unfold Win.lO
  pointwise []
  try rfl
theorem lSo_at : w.lSo (ix2 0 n) = w.d11 (ix2 0 n) := by
  unfold Win.lSo
  pointwise []
  try rfl
theorem lBo_at : w.lBo (ix2 0 n) = w.d12 (ix2 0 n) := by
  unfold Win.lBo
  pointwise []
  try rfl

theorem mk_bit : ∀ n : Fin 256, IntOp.cmpi CmpIPredicate.ne (BitVec.signExtend 32 (BitVec.ofFin (w := 8) n)) 0#32 = if BitVec.ofFin (w := 8) n ≠ 0 then 1#1 else 0#1 := by
  decide +kernel
theorem mk_sel (b : BitVec 8) (u v : EReal) : Scalar.select (IntOp.cmpi CmpIPredicate.ne (BitVec.signExtend 32 b) 0#32) u v = if b ≠ 0 then u else v := by
  have h := mk_bit b.toFin
  rw [show (BitVec.ofFin (w := 8) b.toFin) = b from rfl] at h
  rw [h]
  by_cases e : b ≠ 0
  · rw [if_pos e, if_pos e]; rfl
  · rw [if_neg e, if_neg e]; rfl
theorem MK_at (d5 : S1x32x256.Idx → BitVec 8) : Val.MK (F := Ideal) d5 (ix2 k j) = if d5 (ix3 0 k j) ≠ 0 then (0 : EReal) else ⊥ := by
  unfold Val.MK
  pointwise [k0_pay2]
  rw [mk_sel, bits_bot]
theorem BT_at0 (d6 : S1x4x256x256.Idx → EReal) : Val.BT (F := Ideal) d6 (ix3 0 x j) = d6 (ix4 0 0 j x) * L := by
  show k0_pay5 (F := Ideal) _ (ix3 (n0 := 1) (n1 := 256) (n2 := 256) 0 x j) = _
  pointwise [k0_pay5]
  rfl
theorem BT_at1 (d6 : S1x4x256x256.Idx → EReal) : Val.BT (F := Ideal) d6 (ix3 1 x j) = d6 (ix4 0 1 j x) * L := by
  show k0_pay6 (F := Ideal) _ (ix3 (n0 := 1) (n1 := 256) (n2 := 256) 0 x j) = _
  pointwise [k0_pay6]
  rfl
theorem BT_at2 (d6 : S1x4x256x256.Idx → EReal) : Val.BT (F := Ideal) d6 (ix3 2 x j) = d6 (ix4 0 2 j x) * L := by
  show k0_pay7 (F := Ideal) _ (ix3 (n0 := 1) (n1 := 256) (n2 := 256) 0 x j) = _
  pointwise [k0_pay7]
  rfl
theorem BT_at3 (d6 : S1x4x256x256.Idx → EReal) : Val.BT (F := Ideal) d6 (ix3 3 x j) = d6 (ix4 0 3 j x) * L := by
  show k0_pay1 (F := Ideal) (k0_pay8 (F := Ideal) _) (ix3 (n0 := 1) (n1 := 256) (n2 := 256) 0 x j) = _
  pointwise [k0_pay1, k0_pay8]
  rfl

end Cert.KernelIdeal.Hand

end
-- ==== Proof.KIVLoop.lean ====
/-
  The attend kernel's body run with its values: its loop by an invariant that says, of every output, what the rows before
  the trip hold.
-/
module

public import proofs.«01_k».proof.Proof.Gen.KernelIdeal.Frame
public import proofs.«01_k».proof.Proof.KITrip
public import Idealize.ShloMosaic.Lib.VecWindow
public import Idealize.ShloMosaic.Lib.Pipeline.ValueKit
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec

@[expose] public section

noncomputable section

namespace Cert.KernelIdeal.Hand.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

/-- The rows of a window before `k` are right. -/
@[reducible] def Upto {sig : RefSig} {κ : Kind} {sp : Space} {s : Shape} {e : EltTy} {Val : EltTy → Type} (v : View sig κ sp s e)
    (f : v.ty.Contents Val) (G : s.Idx → Val e) (row : s.Idx → ℕ) (k : ℕ) : Prop := ∀ x, row x < k → v.read Val f x = G x

theorem Upto.zero {sig : RefSig} {κ : Kind} {sp : Space} {s : Shape} {e : EltTy} {Val : EltTy → Type} (v : View sig κ sp s e)
    (f : v.ty.Contents Val) (G : s.Idx → Val e) (row : s.Idx → ℕ) : Upto v f G row 0 := fun _ h => absurd h (Nat.not_lt_zero _)

/-- One row's store over the window of the scales of `v`. -/
theorem lanes_step (v : View sig .tc .vmem S1x128x256 .f32) (g : v.ty.Contents (Elt F)) (w : Win F)
    (e19 : S1x128x256.Idx → Elt F .f32) (k : Trip) (a : BitVec 32 × IVec S128x256 32)
    (h : v.read (Elt F) g = w.G19 a.1 a.2 e19 k.val) :
    v.read (Elt F) (v.writes (Elt F) g [⟨Rect.unit (s := S1x128x256) ![0, 0, 0] S1x128x256.size inb_S1x128x256_S1x128x256_0_0_0,
      w.T19 k a.1 a.2 (View.readAt (Elt F) v (Rect.unit (s := S1x128x256) ![0, 0, 0] S1x128x256.size inb_S1x128x256_S1x128x256_0_0_0).toLoadRect g)⟩])
      = w.G19 a.1 a.2 e19 (k.val + 1) := by
  have hk : k.val < 32 := lt_of_lt_of_eq k.isLt trips_eq
  refine (View.read_writes_full v g _ _ _).trans ?_
  conv_rhs => unfold Win.G19
  rw [dif_pos hk, show tripOf ⟨k.val, hk⟩ = k from rfl, ← h]
  congr 1
  exact View.ld_unit_lit _ _ (by decide)

set_option maxHeartbeats 16000000 in
/-- The loop's invariant: inputs and scratch at the contents the loop found, every output right in the rows before `k`. -/
@[sl_loop] def loopInv_k0_t1 (c : Dev nD) (i : grid0.Coords) (arg2 : Memref sig .tc .vmem S1x32x256x128 .bf16) (harg2 : arg2.IsWhole) (arg3 : Memref sig .tc .vmem S1x32x256x128 .i8) (harg3 : arg3.IsWhole) (arg4 : Memref sig .tc .vmem S1x32x256 .f32) (harg4 : arg4.IsWhole) (arg5 : Memref sig .tc .vmem S1x32x256 .i8) (harg5 : arg5.IsWhole) (arg6 : Memref sig .tc .vmem S1x4x256x256 .f32) (harg6 : arg6.IsWhole) (arg7 : Memref sig .tc .vmem S512x128 .i8) (harg7 : arg7.IsWhole) (arg8 : Memref sig .tc .vmem S512x256 .f32) (harg8 : arg8.IsWhole) (arg9 : Memref sig .tc .vmem S128x256 .f32) (harg9 : arg9.IsWhole) (arg10 : Memref sig .tc .vmem S128x128 .i8) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32x256x128 .bf16) (harg13 : arg13.IsWhole) (arg14 : Memref sig .tc .vmem S1x32x128x256 .i8) (harg14 : arg14.IsWhole) (arg15 : Memref sig .tc .vmem S1x32x4x256 .f32) (harg15 : arg15.IsWhole) (arg16 : Memref sig .tc .vmem S1x32x128x256 .i8) (harg16 : arg16.IsWhole) (arg17 : Memref sig .tc .vmem S1x32x4x256 .f32) (harg17 : arg17.IsWhole) (arg18 : Memref sig .tc .vmem S1x32x128x256 .i8) (harg18 : arg18.IsWhole) (arg19 : Memref sig .tc .vmem S1x128x256 .f32) (harg19 : arg19.IsWhole) (arg20 : Memref sig .tc .vmem S1x32x256x128 .i8) (harg20 : arg20.IsWhole) (arg21 : Memref sig .tc .vmem S1x32x256 .f32) (harg21 : arg21.IsWhole) (arg22 : Memref sig .tc .vmem S4x256x256 .f32) (harg22 : arg22.IsWhole) (arg23 : Memref sig .tc .vmem S32x256 .f32) (harg23 : arg23.IsWhole) (arg1 : BitVec 32) (v14 : IVec S32x256 32) (v15 : IVec S128x256 32)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f22 : Buf (Elt F) (arg22.view.loc (c : Thread nD τ))) (f23 : Buf (Elt F) (arg23.view.loc (c : Thread nD τ))) (e19 : S1x128x256.Idx → Elt F .f32) :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v14 v15 where
  inv := fun k acc => iprop((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (∃ f, (arg13.view.loc (c : Thread nD τ) ↦[arg13.view.set]{fullShare} f) ∗ ⌜Upto arg13.view f (((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).G13 v14) (fun x => (x 1).val) k⌝)
      ∗ (∃ f, (arg14.view.loc (c : Thread nD τ) ↦[arg14.view.set]{fullShare} f) ∗ ⌜Upto arg14.view f (((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).G14) (fun x => (x 1).val) k⌝)
      ∗ (∃ f, (arg15.view.loc (c : Thread nD τ) ↦[arg15.view.set]{fullShare} f) ∗ ⌜Upto arg15.view f (((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).G15) (fun x => (x 1).val) k⌝)
      ∗ (∃ f, (arg16.view.loc (c : Thread nD τ) ↦[arg16.view.set]{fullShare} f) ∗ ⌜Upto arg16.view f (((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).G16) (fun x => (x 1).val) k⌝)
      ∗ (∃ f, (arg17.view.loc (c : Thread nD τ) ↦[arg17.view.set]{fullShare} f) ∗ ⌜Upto arg17.view f (((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).G17) (fun x => (x 1).val) k⌝)
      ∗ (∃ f, (arg18.view.loc (c : Thread nD τ) ↦[arg18.view.set]{fullShare} f) ∗ ⌜Upto arg18.view f (((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).G18) (fun x => (x 1).val) k⌝)
      ∗ (∃ f, (arg19.view.loc (c : Thread nD τ) ↦[arg19.view.set]{fullShare} f) ∗ ⌜arg19.view.read (Elt F) f = ((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).G19 arg1 v15 e19 k⌝)
      ∗ (∃ f, (arg20.view.loc (c : Thread nD τ) ↦[arg20.view.set]{fullShare} f) ∗ ⌜Upto arg20.view f (((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).G20 v14) (fun x => (x 1).val) k⌝)
      ∗ (∃ f, (arg21.view.loc (c : Thread nD τ) ↦[arg21.view.set]{fullShare} f) ∗ ⌜Upto arg21.view f (((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).G21 v14) (fun x => (x 1).val) k⌝)
      ∗ (arg22.view.loc (c : Thread nD τ) ↦[arg22.view.set]{fullShare} f22)
      ∗ (arg23.view.loc (c : Thread nD τ) ↦[arg23.view.set]{fullShare} f23))
  step := fun k acc => by
    unfold k0_t1_body
    iintro ⟨H2, H3, H4, H5, H6, H7, H8, H9, H10, H11, H12, ⟨%g13, H13, %h13⟩, ⟨%g14, H14, %h14⟩, ⟨%g15, H15, %h15⟩, ⟨%g16, H16, %h16⟩, ⟨%g17, H17, %h17⟩, ⟨%g18, H18, %h18⟩, ⟨%g19, H19, %h19⟩, ⟨%g20, H20, %h20⟩, ⟨%g21, H21, %h21⟩, H22, H23⟩
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitl [H13]
      · iexact H13
      ipureintro
      exact rows4 arg13.view g13 k _ (off1_eq k) _ (fun k => ((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).T13 k v14) _ (fun _ => rfl) h13
    isplitl [H14]
    · iexists _; isplitl [H14]
      · iexact H14
      ipureintro
      exact rows4 arg14.view g14 k _ (off3_eq k) _ (fun k => ((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).T14 k) _ (fun _ => rfl) h14
    isplitl [H15]
    · iexists _; isplitl [H15]
      · iexact H15
      ipureintro
      exact rows4 arg15.view g15 k _ (off4_eq k) _ (fun k => ((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).T15 k) _ (fun _ => rfl) h15
    isplitl [H16]
    · iexists _; isplitl [H16]
      · iexact H16
      ipureintro
      exact rows4 arg16.view g16 k _ (off3_eq k) _ (fun k => ((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).T16 k) _ (fun _ => rfl) h16
    isplitl [H17]
    · iexists _; isplitl [H17]
      · iexact H17
      ipureintro
      exact rows4 arg17.view g17 k _ (off4_eq k) _ (fun k => ((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).T17 k) _ (fun _ => rfl) h17
    isplitl [H18]
    · iexists _; isplitl [H18]
      · iexact H18
      ipureintro
      exact rows4 arg18.view g18 k _ (off3_eq k) _ (fun k => ((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).T18 k) _ (fun _ => rfl) h18
    isplitl [H19]
    · iexists _; isplitl [H19]
      · iexact H19
      ipureintro
      exact lanes_step arg19.view g19 ((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)) e19 k (arg1, v15) h19
    isplitl [H20]
    · iexists _; isplitl [H20]
      · iexact H20
      ipureintro
      exact rows4 arg20.view g20 k _ (off1_eq k) _ (fun k => ((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).T20 k v14) _ (fun _ => rfl) h20
    isplitl [H21]
    · iexists _; isplitl [H21]
      · iexact H21
      ipureintro
      exact rows3 arg21.view g21 k _ (off2_eq k) _ (fun k => ((⟨arg2.view.read (Elt F) f2, arg3.view.read (Elt F) f3, arg4.view.read (Elt F) f4, arg7.view.read (Elt F) f7, arg8.view.read (Elt F) f8, arg9.view.read (Elt F) f9, arg10.view.read (Elt F) f10, arg11.view.read (Elt F) f11, arg12.view.read (Elt F) f12, arg22.view.read (Elt F) f22, arg23.view.read (Elt F) f23⟩ : Win F)).T21 k v14) _ (fun _ => rfl) h21
    isplitl [H22]; · iexact H22
    iexact H23

end Cert.KernelIdeal.Hand.Val

end
-- ==== Proof.KIVRun.lean ====
/-
  The attend kernel's body run with its values: what one grid point leaves in every output, as a function of its inputs'
  blocks and of the scratch it finds.
-/
module

public import proofs.«01_k».proof.Proof.KIVLoop
public import proofs.«01_k».proof.Proof.KIScr
public import proofs.«01_k».proof.Proof.Gen.KernelIdeal.Frame
public import Idealize.ShloMosaic.Lib.VecWindow
public import Idealize.ShloMosaic.Lib.Pipeline.ValueKit
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec

@[expose] public section

noncomputable section

namespace Cert.KernelIdeal.Hand.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

theorem slabs {sig : RefSig} {κ : Kind} {sp : Space} {e : EltTy} {Val : EltTy → Type} (v : View sig κ sp S4x256x256 e)
    (g : v.ty.Contents Val) (i0 i1 i2 i3) (p0 p1 p2 p3 : S1x256x256.Idx → Val e) :
    v.read Val (v.writes Val g [⟨Rect.unit (s := S4x256x256) ![3, 0, 0] S1x256x256.size i3, p3⟩,
      ⟨Rect.unit (s := S4x256x256) ![2, 0, 0] S1x256x256.size i2, p2⟩,
      ⟨Rect.unit (s := S4x256x256) ![1, 0, 0] S1x256x256.size i1, p1⟩,
      ⟨Rect.unit (s := S4x256x256) ![0, 0, 0] S1x256x256.size i0, p0⟩])
      = fun x => if (x 0).val = 0 then p0 (ix3 (n0 := 1) (n1 := 256) (n2 := 256) 0 (x 1) (x 2))
        else if (x 0).val = 1 then p1 (ix3 (n0 := 1) (n1 := 256) (n2 := 256) 0 (x 1) (x 2))
        else if (x 0).val = 2 then p2 (ix3 (n0 := 1) (n1 := 256) (n2 := 256) 0 (x 1) (x 2))
        else p3 (ix3 (n0 := 1) (n1 := 256) (n2 := 256) 0 (x 1) (x 2)) := by
  funext x
  have h4 : (x 0).val < 4 := (x 0).isLt
  have at_ : ∀ n : ℕ, (x 0).val = n → ∀ a : Fin 3, (x a).val = (![n, 0, 0] : Fin 3 → ℕ) a + ((ix3 (n0 := 1) (n1 := 256) (n2 := 256) 0 (x 1) (x 2) : S1x256x256.Idx) a).val := by
    intro n hn a
    match a with
    | 0 => show (x 0).val = n + 0; omega
    | 1 => show (x 1).val = 0 + (x 1).val; omega
    | 2 => show (x 2).val = 0 + (x 2).val; omega
  rcases (show (x 0).val = 0 ∨ (x 0).val = 1 ∨ (x 0).val = 2 ∨ (x 0).val = 3 by omega) with h | h | h | h
  · rw [View.read_writes_cons_unit_of_not_mem v g i3 p3 _ x rfl 0 (Or.inl (by show (x 0).val < 3; omega)),
      View.read_writes_cons_unit_of_not_mem v g i2 p2 _ x rfl 0 (Or.inl (by show (x 0).val < 2; omega)),
      View.read_writes_cons_unit_of_not_mem v g i1 p1 _ x rfl 0 (Or.inl (by show (x 0).val < 1; omega)),
      View.read_writes_cons_unit_of_mem v g i0 p0 _ x _ rfl (at_ 0 h), if_pos h]
  · rw [View.read_writes_cons_unit_of_not_mem v g i3 p3 _ x rfl 0 (Or.inl (by show (x 0).val < 3; omega)),
      View.read_writes_cons_unit_of_not_mem v g i2 p2 _ x rfl 0 (Or.inl (by show (x 0).val < 2; omega)),
      View.read_writes_cons_unit_of_mem v g i1 p1 _ x _ rfl (at_ 1 h), if_neg (by omega), if_pos h]
  · rw [View.read_writes_cons_unit_of_not_mem v g i3 p3 _ x rfl 0 (Or.inl (by show (x 0).val < 3; omega)),
      View.read_writes_cons_unit_of_mem v g i2 p2 _ x _ rfl (at_ 2 h), if_neg (by omega), if_neg (by omega), if_pos h]
  · rw [View.read_writes_cons_unit_of_mem v g i3 p3 _ x _ rfl (at_ 3 h), if_neg (by omega), if_neg (by omega), if_neg (by omega)]

/-- A window right in every row is right. -/
theorem Upto.whole {sig : RefSig} {κ : Kind} {sp : Space} {s : Shape} {e : EltTy} {Val : EltTy → Type} {v : View sig κ sp s e}
    {f : v.ty.Contents Val} {G : s.Idx → Val e} {row : s.Idx → ℕ} {k : ℕ} (h : Upto v f G row k) (hk : k = 32)
    (hr : ∀ x, row x < 32) : v.read Val f = G := funext fun x => h x (hk ▸ hr x)

theorem win_eq {a2 b2 : S1x32x256x128.Idx → Elt F .bf16} {a3 b3 : S1x32x256x128.Idx → Elt F .i8} {a4 b4 : S1x32x256.Idx → Elt F .f32} {a7 b7 : S512x128.Idx → Elt F .i8} {a8 b8 : S512x256.Idx → Elt F .f32} {a9 b9 : S128x256.Idx → Elt F .f32} {a10 b10 : S128x128.Idx → Elt F .i8} {a11 b11 : S1x128.Idx → Elt F .f32} {a12 b12 : S1x128.Idx → Elt F .f32} {a22 b22 : S4x256x256.Idx → Elt F .f32} {a23 b23 : S32x256.Idx → Elt F .f32}
    (h2 : a2 = b2) (h3 : a3 = b3) (h4 : a4 = b4) (h7 : a7 = b7) (h8 : a8 = b8) (h9 : a9 = b9) (h10 : a10 = b10) (h11 : a11 = b11) (h12 : a12 = b12) (h22 : a22 = b22) (h23 : a23 = b23) :
    (⟨a2, a3, a4, a7, a8, a9, a10, a11, a12, a22, a23⟩ : Win F) = ⟨b2, b3, b4, b7, b8, b9, b10, b11, b12, b22, b23⟩ := by
  subst h2; subst h3; subst h4; subst h7; subst h8; subst h9; subst h10; subst h11; subst h12; subst h22; subst h23; rfl

theorem mk_read (v : View sig .tc .vmem S32x256 .f32) (g : v.ty.Contents (Elt F)) (u : View sig .tc .vmem S1x32x256 .i8)
    (f : u.ty.Contents (Elt F)) (d : S1x32x256.Idx → Elt F .i8) (hd : u.read (Elt F) f = d) :
    v.read (Elt F) (v.writes (Elt F) g [⟨Rect.unit (s := S32x256) ![0, 0] S32x256.size inb_S32x256_S32x256_0_0,
      k0_pay2 (View.readAt (Elt F) u (Rect.unit (s := S1x32x256) ![0, 0, 0] S1x32x256.size inb_S1x32x256_S1x32x256_0_0_0).toLoadRect f)⟩]) = MK d := by
  subst hd
  exact View.read_writes_full v g _ _ _

theorem bt_read (v : View sig .tc .vmem S4x256x256 .f32) (g : v.ty.Contents (Elt F)) (u : View sig .tc .vmem S1x4x256x256 .f32)
    (f : u.ty.Contents (Elt F)) (d : S1x4x256x256.Idx → Elt F .f32) (hd : u.read (Elt F) f = d) :
    v.read (Elt F) (v.writes (Elt F) g [⟨Rect.unit (s := S4x256x256) ![3, 0, 0] S1x256x256.size inb_S4x256x256_S1x256x256_3_0_0, k0_pay1 (k0_pay8 (View.readAt (Elt F) u (Rect.unit (s := S1x4x256x256) ![0, 3, 0, 0] S1x1x256x256.size inb_S1x4x256x256_S1x1x256x256_0_3_0_0).toLoadRect f))⟩,
      ⟨Rect.unit (s := S4x256x256) ![2, 0, 0] S1x256x256.size inb_S4x256x256_S1x256x256_2_0_0, k0_pay7 (View.readAt (Elt F) u (Rect.unit (s := S1x4x256x256) ![0, 2, 0, 0] S1x1x256x256.size inb_S1x4x256x256_S1x1x256x256_0_2_0_0).toLoadRect f)⟩,
      ⟨Rect.unit (s := S4x256x256) ![1, 0, 0] S1x256x256.size inb_S4x256x256_S1x256x256_1_0_0, k0_pay6 (View.readAt (Elt F) u (Rect.unit (s := S1x4x256x256) ![0, 1, 0, 0] S1x1x256x256.size inb_S1x4x256x256_S1x1x256x256_0_1_0_0).toLoadRect f)⟩,
      ⟨Rect.unit (s := S4x256x256) ![0, 0, 0] S1x256x256.size inb_S4x256x256_S1x256x256_0_0_0, k0_pay5 (View.readAt (Elt F) u (Rect.unit (s := S1x4x256x256) ![0, 0, 0, 0] S1x1x256x256.size inb_S1x4x256x256_S1x1x256x256_0_0_0_0).toLoadRect f)⟩]) = BT d := by
  subst hd
  exact slabs v g _ _ _ _ _ _ _ _

set_option maxHeartbeats 16000000 in
/-- A grid point that finds the bias in the scratch. -/
theorem kernelRun_later (c : Dev nD) (i : grid0.Coords) (arg2 : Memref sig .tc .vmem S1x32x256x128 .bf16) (harg2 : arg2.IsWhole) (arg3 : Memref sig .tc .vmem S1x32x256x128 .i8) (harg3 : arg3.IsWhole) (arg4 : Memref sig .tc .vmem S1x32x256 .f32) (harg4 : arg4.IsWhole) (arg5 : Memref sig .tc .vmem S1x32x256 .i8) (harg5 : arg5.IsWhole) (arg6 : Memref sig .tc .vmem S1x4x256x256 .f32) (harg6 : arg6.IsWhole) (arg7 : Memref sig .tc .vmem S512x128 .i8) (harg7 : arg7.IsWhole) (arg8 : Memref sig .tc .vmem S512x256 .f32) (harg8 : arg8.IsWhole) (arg9 : Memref sig .tc .vmem S128x256 .f32) (harg9 : arg9.IsWhole) (arg10 : Memref sig .tc .vmem S128x128 .i8) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32x256x128 .bf16) (harg13 : arg13.IsWhole) (arg14 : Memref sig .tc .vmem S1x32x128x256 .i8) (harg14 : arg14.IsWhole) (arg15 : Memref sig .tc .vmem S1x32x4x256 .f32) (harg15 : arg15.IsWhole) (arg16 : Memref sig .tc .vmem S1x32x128x256 .i8) (harg16 : arg16.IsWhole) (arg17 : Memref sig .tc .vmem S1x32x4x256 .f32) (harg17 : arg17.IsWhole) (arg18 : Memref sig .tc .vmem S1x32x128x256 .i8) (harg18 : arg18.IsWhole) (arg19 : Memref sig .tc .vmem S1x128x256 .f32) (harg19 : arg19.IsWhole) (arg20 : Memref sig .tc .vmem S1x32x256x128 .i8) (harg20 : arg20.IsWhole) (arg21 : Memref sig .tc .vmem S1x32x256 .f32) (harg21 : arg21.IsWhole) (arg22 : Memref sig .tc .vmem S4x256x256 .f32) (harg22 : arg22.IsWhole) (arg23 : Memref sig .tc .vmem S32x256 .f32) (harg23 : arg23.IsWhole)
    (d2 : S1x32x256x128.Idx → Elt F .bf16) (d3 : S1x32x256x128.Idx → Elt F .i8) (d4 : S1x32x256.Idx → Elt F .f32) (d5 : S1x32x256.Idx → Elt F .i8) (d6 : S1x4x256x256.Idx → Elt F .f32) (d7 : S512x128.Idx → Elt F .i8) (d8 : S512x256.Idx → Elt F .f32) (d9 : S128x256.Idx → Elt F .f32) (d10 : S128x128.Idx → Elt F .i8) (d11 : S1x128.Idx → Elt F .f32) (d12 : S1x128.Idx → Elt F .f32) (d19 : S1x128x256.Idx → Elt F .f32) (d22 : S4x256x256.Idx → Elt F .f32) (W : Waits sig Unit) (K : PUnit → sProp 𝕄)
    (hb : ¬ Scalar.cmpi .ne (Scalar.extui (Scalar.cmpi .eq (BitVec.ofNat 32 (i 1).val) 0#32) : BitVec 32) 0#32 = 1#1) :
    iprop(owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare d9
        ∗ owns (c : Thread nD τ) arg10 fullShare d10
        ∗ owns (c : Thread nD τ) arg11 fullShare d11
        ∗ owns (c : Thread nD τ) arg12 fullShare d12
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ owns (c : Thread nD τ) arg19 fullShare d19
        ∗ (∃ d, owns (c : Thread nD τ) arg20 fullShare d)
        ∗ (∃ d, owns (c : Thread nD τ) arg21 fullShare d)
        ∗ owns (c : Thread nD τ) arg22 fullShare d22
        ∗ (∃ d, owns (c : Thread nD τ) arg23 fullShare d)
        ∗ owes (c : Thread nD τ) 0 W
        ∗ (iprop(owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare d9
        ∗ owns (c : Thread nD τ) arg10 fullShare d10
        ∗ owns (c : Thread nD τ) arg11 fullShare d11
        ∗ owns (c : Thread nD τ) arg12 fullShare d12
        ∗ owns (c : Thread nD τ) arg13 fullShare ((⟨d2, d3, d4, d7, d8, d9, d10, d11, d12, d22, MK d5⟩ : Win F).G13 (iota .tc S32x256 32 [0] iota_S32x256_d0_w32))
        ∗ owns (c : Thread nD τ) arg14 fullShare (⟨d2, d3, d4, d7, d8, d9, d10, d11, d12, d22, MK d5⟩ : Win F).G14
        ∗ owns (c : Thread nD τ) arg15 fullShare (⟨d2, d3, d4, d7, d8, d9, d10, d11, d12, d22, MK d5⟩ : Win F).G15
        ∗ owns (c : Thread nD τ) arg16 fullShare (⟨d2, d3, d4, d7, d8, d9, d10, d11, d12, d22, MK d5⟩ : Win F).G16
        ∗ owns (c : Thread nD τ) arg17 fullShare (⟨d2, d3, d4, d7, d8, d9, d10, d11, d12, d22, MK d5⟩ : Win F).G17
        ∗ owns (c : Thread nD τ) arg18 fullShare (⟨d2, d3, d4, d7, d8, d9, d10, d11, d12, d22, MK d5⟩ : Win F).G18
        ∗ owns (c : Thread nD τ) arg19 fullShare ((⟨d2, d3, d4, d7, d8, d9, d10, d11, d12, d22, MK d5⟩ : Win F).G19 (BitVec.ofNat 32 (i 1).val) (iota .tc S128x256 32 [1] iota_S128x256_d1_w32) d19 32)
        ∗ owns (c : Thread nD τ) arg20 fullShare ((⟨d2, d3, d4, d7, d8, d9, d10, d11, d12, d22, MK d5⟩ : Win F).G20 (iota .tc S32x256 32 [0] iota_S32x256_d0_w32))
        ∗ owns (c : Thread nD τ) arg21 fullShare ((⟨d2, d3, d4, d7, d8, d9, d10, d11, d12, d22, MK d5⟩ : Win F).G21 (iota .tc S32x256 32 [0] iota_S32x256_d0_w32))
        ∗ owns (c : Thread nD τ) arg22 fullShare d22
        ∗ (∃ d, owns (c : Thread nD τ) arg23 fullShare d)
        ∗ owes (c : Thread nD τ) 0 W) -∗ K ⟨⟩))
      ⊢ wp frame (wpE (defs₀ (F := F)) Variants.none c none) Set.univ
          (cc0_attend i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_attend_eq_skeleton]; unfold cc0_attend_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%d20, %f20, -, H20⟩, ⟨%d21, %f21, -, H21⟩, ⟨%f22, %hf22, H22⟩, ⟨%d23, %f23, -, H23⟩, HW, Hk⟩
  sl_exec_parts
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _; isplitr; swap; · iexact H13
    ipureintro; exact (hL12.whole trips_eq fun x => (x 1).isLt).trans (congrArg (fun w : Win F => w.G13 (iota .tc S32x256 32 [0] iota_S32x256_d0_w32)) (win_eq hf2 hf3 hf4 hf7 hf8 hf9 hf10 hf11 hf12 hf22 (mk_read arg23.view _ arg5.view f5 d5 hf5)))
  isplitl [H14]
  · iexists _; isplitr; swap; · iexact H14
    ipureintro; exact (hL14.whole trips_eq fun x => (x 1).isLt).trans (congrArg (fun w : Win F => w.G14) (win_eq hf2 hf3 hf4 hf7 hf8 hf9 hf10 hf11 hf12 hf22 (mk_read arg23.view _ arg5.view f5 d5 hf5)))
  isplitl [H15]
  · iexists _; isplitr; swap; · iexact H15
    ipureintro; exact (hL16.whole trips_eq fun x => (x 1).isLt).trans (congrArg (fun w : Win F => w.G15) (win_eq hf2 hf3 hf4 hf7 hf8 hf9 hf10 hf11 hf12 hf22 (mk_read arg23.view _ arg5.view f5 d5 hf5)))
  isplitl [H16]
  · iexists _; isplitr; swap; · iexact H16
    ipureintro; exact (hL18.whole trips_eq fun x => (x 1).isLt).trans (congrArg (fun w : Win F => w.G16) (win_eq hf2 hf3 hf4 hf7 hf8 hf9 hf10 hf11 hf12 hf22 (mk_read arg23.view _ arg5.view f5 d5 hf5)))
  isplitl [H17]
  · iexists _; isplitr; swap; · iexact H17
    ipureintro; exact (hL20.whole trips_eq fun x => (x 1).isLt).trans (congrArg (fun w : Win F => w.G17) (win_eq hf2 hf3 hf4 hf7 hf8 hf9 hf10 hf11 hf12 hf22 (mk_read arg23.view _ arg5.view f5 d5 hf5)))
  isplitl [H18]
  · iexists _; isplitr; swap; · iexact H18
    ipureintro; exact (hL22.whole trips_eq fun x => (x 1).isLt).trans (congrArg (fun w : Win F => w.G18) (win_eq hf2 hf3 hf4 hf7 hf8 hf9 hf10 hf11 hf12 hf22 (mk_read arg23.view _ arg5.view f5 d5 hf5)))
  isplitl [H19]
  · iexists _; isplitr; swap; · iexact H19
    ipureintro; exact hL24.trans ((congrArg (fun w : Win F => w.G19 (BitVec.ofNat 32 (i 1).val) (iota .tc S128x256 32 [1] iota_S128x256_d1_w32) (arg19.view.read (Elt F) f19) (Scf.trips k0_t1_loop.lb k0_t1_loop.ub k0_t1_loop.st)) (win_eq hf2 hf3 hf4 hf7 hf8 hf9 hf10 hf11 hf12 hf22 (mk_read arg23.view _ arg5.view f5 d5 hf5))).trans (by rw [hf19, show Scf.trips k0_t1_loop.lb k0_t1_loop.ub k0_t1_loop.st = 32 from trips_eq]))
  isplitl [H20]
  · iexists _; isplitr; swap; · iexact H20
    ipureintro; exact (hL26.whole trips_eq fun x => (x 1).isLt).trans (congrArg (fun w : Win F => w.G20 (iota .tc S32x256 32 [0] iota_S32x256_d0_w32)) (win_eq hf2 hf3 hf4 hf7 hf8 hf9 hf10 hf11 hf12 hf22 (mk_read arg23.view _ arg5.view f5 d5 hf5)))
  isplitl [H21]
  · iexists _; isplitr; swap; · iexact H21
    ipureintro; exact (hL28.whole trips_eq fun x => (x 1).isLt).trans (congrArg (fun w : Win F => w.G21 (iota .tc S32x256 32 [0] iota_S32x256_d0_w32)) (win_eq hf2 hf3 hf4 hf7 hf8 hf9 hf10 hf11 hf12 hf22 (mk_read arg23.view _ arg5.view f5 d5 hf5)))
  isplitl [H22]
  · iexists _; isplitr; swap; · iexact H22
    ipureintro; exact hf22
  isplitl [H23]
  · iexists _, _; isplitr; swap; · iexact H23
    ipureintro; rfl
  iexact HW

end Cert.KernelIdeal.Hand.Val

end
-- ==== Proof.KIVFst.lean ====
/-
  The attend kernel's body run with its values: what one grid point leaves in every output, as a function of its inputs'
  blocks and of the scratch it finds.
-/
module

public import proofs.«01_k».proof.Proof.KIVRun
public import proofs.«01_k».proof.Proof.Gen.KernelIdeal.Frame
public import Idealize.ShloMosaic.Lib.VecWindow
public import Idealize.ShloMosaic.Lib.Pipeline.ValueKit
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec

@[expose] public section

noncomputable section

namespace Cert.KernelIdeal.Hand.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

set_option maxHeartbeats 16000000 in
/-- A grid point that fills the bias scratch. -/
theorem kernelRun_first (c : Dev nD) (i : grid0.Coords) (arg2 : Memref sig .tc .vmem S1x32x256x128 .bf16) (harg2 : arg2.IsWhole) (arg3 : Memref sig .tc .vmem S1x32x256x128 .i8) (harg3 : arg3.IsWhole) (arg4 : Memref sig .tc .vmem S1x32x256 .f32) (harg4 : arg4.IsWhole) (arg5 : Memref sig .tc .vmem S1x32x256 .i8) (harg5 : arg5.IsWhole) (arg6 : Memref sig .tc .vmem S1x4x256x256 .f32) (harg6 : arg6.IsWhole) (arg7 : Memref sig .tc .vmem S512x128 .i8) (harg7 : arg7.IsWhole) (arg8 : Memref sig .tc .vmem S512x256 .f32) (harg8 : arg8.IsWhole) (arg9 : Memref sig .tc .vmem S128x256 .f32) (harg9 : arg9.IsWhole) (arg10 : Memref sig .tc .vmem S128x128 .i8) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32x256x128 .bf16) (harg13 : arg13.IsWhole) (arg14 : Memref sig .tc .vmem S1x32x128x256 .i8) (harg14 : arg14.IsWhole) (arg15 : Memref sig .tc .vmem S1x32x4x256 .f32) (harg15 : arg15.IsWhole) (arg16 : Memref sig .tc .vmem S1x32x128x256 .i8) (harg16 : arg16.IsWhole) (arg17 : Memref sig .tc .vmem S1x32x4x256 .f32) (harg17 : arg17.IsWhole) (arg18 : Memref sig .tc .vmem S1x32x128x256 .i8) (harg18 : arg18.IsWhole) (arg19 : Memref sig .tc .vmem S1x128x256 .f32) (harg19 : arg19.IsWhole) (arg20 : Memref sig .tc .vmem S1x32x256x128 .i8) (harg20 : arg20.IsWhole) (arg21 : Memref sig .tc .vmem S1x32x256 .f32) (harg21 : arg21.IsWhole) (arg22 : Memref sig .tc .vmem S4x256x256 .f32) (harg22 : arg22.IsWhole) (arg23 : Memref sig .tc .vmem S32x256 .f32) (harg23 : arg23.IsWhole)
    (d2 : S1x32x256x128.Idx → Elt F .bf16) (d3 : S1x32x256x128.Idx → Elt F .i8) (d4 : S1x32x256.Idx → Elt F .f32) (d5 : S1x32x256.Idx → Elt F .i8) (d6 : S1x4x256x256.Idx → Elt F .f32) (d7 : S512x128.Idx → Elt F .i8) (d8 : S512x256.Idx → Elt F .f32) (d9 : S128x256.Idx → Elt F .f32) (d10 : S128x128.Idx → Elt F .i8) (d11 : S1x128.Idx → Elt F .f32) (d12 : S1x128.Idx → Elt F .f32) (d19 : S1x128x256.Idx → Elt F .f32) (W : Waits sig Unit) (K : PUnit → sProp 𝕄)
    (hb : Scalar.cmpi .ne (Scalar.extui (Scalar.cmpi .eq (BitVec.ofNat 32 (i 1).val) 0#32) : BitVec 32) 0#32 = 1#1) :
    iprop(owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare d9
        ∗ owns (c : Thread nD τ) arg10 fullShare d10
        ∗ owns (c : Thread nD τ) arg11 fullShare d11
        ∗ owns (c : Thread nD τ) arg12 fullShare d12
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ owns (c : Thread nD τ) arg19 fullShare d19
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ owes (c : Thread nD τ) 0 W
        ∗ (iprop(owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare d9
        ∗ owns (c : Thread nD τ) arg10 fullShare d10
        ∗ owns (c : Thread nD τ) arg11 fullShare d11
        ∗ owns (c : Thread nD τ) arg12 fullShare d12
        ∗ owns (c : Thread nD τ) arg13 fullShare ((⟨d2, d3, d4, d7, d8, d9, d10, d11, d12, (BT d6), MK d5⟩ : Win F).G13 (iota .tc S32x256 32 [0] iota_S32x256_d0_w32))
        ∗ owns (c : Thread nD τ) arg14 fullShare (⟨d2, d3, d4, d7, d8, d9, d10, d11, d12, (BT d6), MK d5⟩ : Win F).G14
        ∗ owns (c : Thread nD τ) arg15 fullShare (⟨d2, d3, d4, d7, d8, d9, d10, d11, d12, (BT d6), MK d5⟩ : Win F).G15
        ∗ owns (c : Thread nD τ) arg16 fullShare (⟨d2, d3, d4, d7, d8, d9, d10, d11, d12, (BT d6), MK d5⟩ : Win F).G16
        ∗ owns (c : Thread nD τ) arg17 fullShare (⟨d2, d3, d4, d7, d8, d9, d10, d11, d12, (BT d6), MK d5⟩ : Win F).G17
        ∗ owns (c : Thread nD τ) arg18 fullShare (⟨d2, d3, d4, d7, d8, d9, d10, d11, d12, (BT d6), MK d5⟩ : Win F).G18
        ∗ owns (c : Thread nD τ) arg19 fullShare ((⟨d2, d3, d4, d7, d8, d9, d10, d11, d12, (BT d6), MK d5⟩ : Win F).G19 (BitVec.ofNat 32 (i 1).val) (iota .tc S128x256 32 [1] iota_S128x256_d1_w32) d19 32)
        ∗ owns (c : Thread nD τ) arg20 fullShare ((⟨d2, d3, d4, d7, d8, d9, d10, d11, d12, (BT d6), MK d5⟩ : Win F).G20 (iota .tc S32x256 32 [0] iota_S32x256_d0_w32))
        ∗ owns (c : Thread nD τ) arg21 fullShare ((⟨d2, d3, d4, d7, d8, d9, d10, d11, d12, (BT d6), MK d5⟩ : Win F).G21 (iota .tc S32x256 32 [0] iota_S32x256_d0_w32))
        ∗ owns (c : Thread nD τ) arg22 fullShare (BT d6)
        ∗ (∃ d, owns (c : Thread nD τ) arg23 fullShare d)
        ∗ owes (c : Thread nD τ) 0 W) -∗ K ⟨⟩))
      ⊢ wp frame (wpE (defs₀ (F := F)) Variants.none c none) Set.univ
          (cc0_attend i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_attend_eq_skeleton]; unfold cc0_attend_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%d20, %f20, -, H20⟩, ⟨%d21, %f21, -, H21⟩, ⟨%d22, %f22, -, H22⟩, ⟨%d23, %f23, -, H23⟩, HW, Hk⟩
  sl_exec_parts
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _; isplitr; swap; · iexact H13
    ipureintro; exact (hL12.whole trips_eq fun x => (x 1).isLt).trans (congrArg (fun w : Win F => w.G13 (iota .tc S32x256 32 [0] iota_S32x256_d0_w32)) (win_eq hf2 hf3 hf4 hf7 hf8 hf9 hf10 hf11 hf12 (bt_read arg22.view _ arg6.view f6 d6 hf6) (mk_read arg23.view _ arg5.view f5 d5 hf5)))
  isplitl [H14]
  · iexists _; isplitr; swap; · iexact H14
    ipureintro; exact (hL14.whole trips_eq fun x => (x 1).isLt).trans (congrArg (fun w : Win F => w.G14) (win_eq hf2 hf3 hf4 hf7 hf8 hf9 hf10 hf11 hf12 (bt_read arg22.view _ arg6.view f6 d6 hf6) (mk_read arg23.view _ arg5.view f5 d5 hf5)))
  isplitl [H15]
  · iexists _; isplitr; swap; · iexact H15
    ipureintro; exact (hL16.whole trips_eq fun x => (x 1).isLt).trans (congrArg (fun w : Win F => w.G15) (win_eq hf2 hf3 hf4 hf7 hf8 hf9 hf10 hf11 hf12 (bt_read arg22.view _ arg6.view f6 d6 hf6) (mk_read arg23.view _ arg5.view f5 d5 hf5)))
  isplitl [H16]
  · iexists _; isplitr; swap; · iexact H16
    ipureintro; exact (hL18.whole trips_eq fun x => (x 1).isLt).trans (congrArg (fun w : Win F => w.G16) (win_eq hf2 hf3 hf4 hf7 hf8 hf9 hf10 hf11 hf12 (bt_read arg22.view _ arg6.view f6 d6 hf6) (mk_read arg23.view _ arg5.view f5 d5 hf5)))
  isplitl [H17]
  · iexists _; isplitr; swap; · iexact H17
    ipureintro; exact (hL20.whole trips_eq fun x => (x 1).isLt).trans (congrArg (fun w : Win F => w.G17) (win_eq hf2 hf3 hf4 hf7 hf8 hf9 hf10 hf11 hf12 (bt_read arg22.view _ arg6.view f6 d6 hf6) (mk_read arg23.view _ arg5.view f5 d5 hf5)))
  isplitl [H18]
  · iexists _; isplitr; swap; · iexact H18
    ipureintro; exact (hL22.whole trips_eq fun x => (x 1).isLt).trans (congrArg (fun w : Win F => w.G18) (win_eq hf2 hf3 hf4 hf7 hf8 hf9 hf10 hf11 hf12 (bt_read arg22.view _ arg6.view f6 d6 hf6) (mk_read arg23.view _ arg5.view f5 d5 hf5)))
  isplitl [H19]
  · iexists _; isplitr; swap; · iexact H19
    ipureintro; exact hL24.trans ((congrArg (fun w : Win F => w.G19 (BitVec.ofNat 32 (i 1).val) (iota .tc S128x256 32 [1] iota_S128x256_d1_w32) (arg19.view.read (Elt F) f19) (Scf.trips k0_t1_loop.lb k0_t1_loop.ub k0_t1_loop.st)) (win_eq hf2 hf3 hf4 hf7 hf8 hf9 hf10 hf11 hf12 (bt_read arg22.view _ arg6.view f6 d6 hf6) (mk_read arg23.view _ arg5.view f5 d5 hf5))).trans (by rw [hf19, show Scf.trips k0_t1_loop.lb k0_t1_loop.ub k0_t1_loop.st = 32 from trips_eq]))
  isplitl [H20]
  · iexists _; isplitr; swap; · iexact H20
    ipureintro; exact (hL26.whole trips_eq fun x => (x 1).isLt).trans (congrArg (fun w : Win F => w.G20 (iota .tc S32x256 32 [0] iota_S32x256_d0_w32)) (win_eq hf2 hf3 hf4 hf7 hf8 hf9 hf10 hf11 hf12 (bt_read arg22.view _ arg6.view f6 d6 hf6) (mk_read arg23.view _ arg5.view f5 d5 hf5)))
  isplitl [H21]
  · iexists _; isplitr; swap; · iexact H21
    ipureintro; exact (hL28.whole trips_eq fun x => (x 1).isLt).trans (congrArg (fun w : Win F => w.G21 (iota .tc S32x256 32 [0] iota_S32x256_d0_w32)) (win_eq hf2 hf3 hf4 hf7 hf8 hf9 hf10 hf11 hf12 (bt_read arg22.view _ arg6.view f6 d6 hf6) (mk_read arg23.view _ arg5.view f5 d5 hf5)))
  isplitl [H22]
  · iexists _; isplitr; swap; · iexact H22
    ipureintro; exact (bt_read arg22.view _ arg6.view f6 d6 hf6)
  isplitl [H23]
  · iexists _, _; isplitr; swap; · iexact H23
    ipureintro; rfl
  iexact HW

end Cert.KernelIdeal.Hand.Val

end
-- ==== Proof.KILanes.lean ====
/-
  The window of the scales of `v`: after the trips before `n` its lanes of those rows hold the rows' scales, and every
  other lane is as it was found.
-/
module

public import proofs.«01_k».proof.Proof.KITrip

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- The lane's mask, as a number's equality. -/
theorem lane_mask (a : ℕ) (ha : a < 8) (n : Fin 32) (x : Fin 256) :
    IntOp.cmpi .eq (BitVec.ofNat 32 x.val) (Scalar.addi (Scalar.muli (BitVec.ofNat 32 a) 32#32) (Scf.iv 0#32 1#32 n.val))
      = if x.val = 32 * a + n.val then 1#1 else 0#1 := by
  have e : Scalar.addi (Scalar.muli (BitVec.ofNat 32 a) 32#32) (Scf.iv 0#32 1#32 n.val) = BitVec.ofNat 32 (32 * a + n.val) := by
    revert n; interval_cases a <;> decide +kernel
  rw [e]
  by_cases h : x.val = 32 * a + n.val
  · rw [if_pos h, h]; simp [IntOp.cmpi]
  · rw [if_neg h]
    have : BitVec.ofNat 32 x.val ≠ BitVec.ofNat 32 (32 * a + n.val) := by
      intro h'
      have := congrArg BitVec.toNat h'
      simp only [BitVec.toNat_ofNat] at this
      omega
    show BitVec.ofBool (_ == _) = 0#1
    rw [beq_eq_false_iff_ne.mpr this]; rfl

theorem T19_at (w : Win F) (a : ℕ) (ha : a < 8) (n : Fin 32) (X : S1x128x256.Idx → Elt F .f32) (r : Fin 128) (x : Fin 256) :
    w.T19 (tripOf n) (BitVec.ofNat 32 a) (iota .tc S128x256 32 [1] iota_S128x256_d1_w32) X (ix3 0 r x)
      = if x.val = 32 * a + n.val then w.vs (tripOf n) (ix2 r 0) else X (ix3 0 r x) := by
  unfold Win.T19
  pointwise [k0_pay28, k0_pay27]
  have e := lane_mask a ha n x
  rw [show (tripOf n).val = n.val from rfl, e]
  split <;> rfl

/-- The window after the trips before `n`. -/
theorem G19_at (w : Win F) (a : ℕ) (ha : a < 8) (X : S1x128x256.Idx → Elt F .f32) (r : Fin 128) (x : Fin 256) :
    ∀ n : ℕ, n ≤ 32 → w.G19 (BitVec.ofNat 32 a) (iota .tc S128x256 32 [1] iota_S128x256_d1_w32) X n (ix3 0 r x)
      = if 32 * a ≤ x.val ∧ x.val < 32 * a + n then w.vs (tripOf ⟨x.val % 32, Nat.mod_lt _ (by decide)⟩) (ix2 r 0) else X (ix3 0 r x)
  | 0, _ => by rw [if_neg (by omega)]; rfl
  | n + 1, hn => by
    rw [Win.G19, dif_pos (show n < 32 by omega), T19_at w a ha ⟨n, by omega⟩, G19_at w a ha X r x n (by omega)]
    by_cases h : x.val = 32 * a + n
    · rw [if_pos h, if_pos ⟨by omega, by omega⟩]
      congr 2
      exact Fin.ext (by show n = x.val % 32; omega)
    · rw [if_neg h]
      exact if_congr (by constructor <;> rintro ⟨h1, h2⟩ <;> exact ⟨h1, by omega⟩) rfl rfl

end Cert.KernelIdeal.Hand

end
-- ==== Proof.KILaunch.lean ====
/-
  The attend call run with its values: what every output array holds after it.
-/
module

public import proofs.«01_k».proof.Proof.KIVFst
public import proofs.«01_k».proof.Proof.KILanes
public import Idealize.ShloMosaic.Lib.Pipeline.DatRel
public import Idealize.ShloMosaic.Lib.Pipeline.ArrRel
public import proofs.«01_k».proof.Proof.Gen.KernelIdeal.Frame
public import Idealize.ShloMosaic.Lib.VecWindow
public import Idealize.ShloMosaic.Lib.Pipeline.ValueKit
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec

@[expose] public section

noncomputable section

namespace Cert.KernelIdeal.Hand.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

abbrev scM0 : Memref sig .tc .vmem S4x256x256 .f32 := Memref.whole cc0_scratch0
abbrev scM1 : Memref sig .tc .vmem S32x256 .f32 := Memref.whole cc0_scratch1

/-- The class invariant, conjunct by conjunct: both scratch buffers at some contents, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d))
          ∗ (∃ r, prngReg c r)) := by
  unfold Pipeline.ΦA
  rw [scopedRest0_eq]; simp only [scM0, scM1, owns_whole]; try rfl

/-- The output windows: each held to what its rows are. -/
def outs0 : Fin 20 → Bool := fun w => decide (11 ≤ w.val)

/-- The scratch's bias in the group of points that `t` is in. -/
def biasAt (c : Dev nD) (t : Fin cfg0.N) : S4x256x256.Idx → Elt F .f32 :=
  BT (iblk m c 4 ⟨t.val / 8 * 8, lt_of_le_of_lt (Nat.div_mul_le_self _ _) t.isLt⟩)

/-- What the kernel's body reads at a point. -/
def winAt (c : Dev nD) (t : Fin cfg0.N) : Win F :=
  ⟨iblk m c 0 t, iblk m c 1 t, iblk m c 2 t, iblk m c 5 t, iblk m c 6 t, iblk m c 7 t, iblk m c 8 t, iblk m c 9 t, iblk m c 10 t,
    biasAt m c t, MK (iblk m c 3 t)⟩

/-- The point that handles row `x` of `t`'s group. -/
def rowPt (t : Fin cfg0.N) (x : Fin 256) : Fin cfg0.N :=
  ⟨t.val / 8 * 8 + x.val / 32, by have := t.isLt; have h : cfg0.N = 40 := rfl; omega⟩
/-- The trip that handles row `x`. -/
def rowTrip (x : Fin 256) : Trip := tripOf ⟨x.val % 32, Nat.mod_lt _ (by decide)⟩

abbrev rowsIota : IVec S32x256 32 := iota .tc S32x256 32 [0] iota_S32x256_d0_w32
abbrev lanesIota : IVec S128x256 32 := iota .tc S128x256 32 [1] iota_S128x256_d1_w32

/-- What each output window holds when the body leaves it: the rows' values; of the scales of `v` the lanes of the rows so far. -/
def Rl (c : Dev nD) : (w : Fin cfg0.W) → (t : Fin cfg0.N) → ((cfg0.win w).block.Idx → Elt F (cfg0.win w).elt) → Prop
  | ⟨11, _⟩, t, X => X = (winAt m c t).G13 rowsIota
  | ⟨12, _⟩, t, X => X = (winAt m c t).G14
  | ⟨13, _⟩, t, X => X = (winAt m c t).G15
  | ⟨14, _⟩, t, X => X = (winAt m c t).G16
  | ⟨15, _⟩, t, X => X = (winAt m c t).G17
  | ⟨16, _⟩, t, X => X = (winAt m c t).G18
  | ⟨17, _⟩, t, X => ∀ (r : Fin 128) (x : Fin 256), x.val < 32 * (t.val % 8 + 1) →
      (X : S1x128x256.Idx → Elt F .f32) (ix3 0 r x) = (winAt m c (rowPt t x)).vs (rowTrip x) (ix2 r 0)
  | ⟨18, _⟩, t, X => X = (winAt m c t).G20 rowsIota
  | ⟨19, _⟩, t, X => X = (winAt m c t).G21 rowsIota
  | _, _, _ => True

/-- The invariant between points: both scratch buffers, the bias's at its group's bias once the group's first point has run. -/
def Phi (c : Dev nD) (n : ℕ) : sProp 𝕄 :=
  iprop(iprop((∃ d, ⌜∀ t : Fin cfg0.N, n = t.val → t.val % 8 ≠ 0 → d = biasAt m c t⌝ ∗ owns (c : Thread nD τ) scM0 fullShare d) ∗ (∃ d, owns (c : Thread nD τ) scM1 fullShare d))
          ∗ (∃ r, prngReg c r))

theorem Phi_in (c : Dev nD) : (Pipeline.ΦA spec0 c : sProp 𝕄) ⊢ Phi m c 0 := by
  rw [PhiA0_eq]; unfold Phi
  iintro ⟨⟨⟨%d, HS0⟩, HS1⟩, Hg⟩
  isplitl [HS0 HS1]
  · isplitl [HS0]
    · iexists d; isplitr
      · ipureintro; exact fun t h0 h1 => absurd (by omega : t.val % 8 = 0) h1
      · iexact HS0
    iexact HS1
  iexact Hg

theorem Phi_out (c : Dev nD) (n : ℕ) : Phi m c n ⊢ (Pipeline.ΦA spec0 c : sProp 𝕄) := by
  rw [PhiA0_eq]; unfold Phi
  iintro ⟨⟨⟨%d, -, HS0⟩, HS1⟩, Hg⟩
  isplitl [HS0 HS1]
  · isplitl [HS0]
    · iexists d; iexact HS0
    iexact HS1
  iexact Hg

/-- The proof data on core `c`: each array as the region finds it, each input's block left in place, the class
    invariant, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨n + 11, h⟩ => Pipeline.Dat.unnamed (cfg := cfg0) ⟨n + 11, h⟩ t
  Φ t := Phi m c t.val
  q _ := fullShare
  owed _ := 0

theorem A_eq (c : Dev nD) (w : Fin cfg0.W) : (dats m 0 c).A w = V m c (Pipeline.arrRef spec0 w) := by dsimp only [dats]

/-- The data with every output window held to its rows. -/
def rdat (c : Dev nD) := (dats m 0 c).toRRel outs0 (Rl m c)

theorem point_row : ∀ t : Fin cfg0.N, (grid0.coords t 1).val = t.val % 8 := by decide +kernel
theorem first_iff : ∀ t : Fin cfg0.N, (Scalar.cmpi .ne (Scalar.extui (Scalar.cmpi .eq (BitVec.ofNat 32 (grid0.coords t 1).val) 0#32) : BitVec 32) 0#32 = 1#1) ↔ t.val % 8 = 0 := by decide +kernel
theorem keep17 : ∀ t : Fin cfg0.N, t.val % 8 ≠ 0 → (cfg0.win 17).flush ⟨t.val - 1, lt_of_le_of_lt (Nat.sub_le _ _) t.isLt⟩ = false := by decide +kernel

/-- The lanes of the scales of `v` that the body finds are those of the group's earlier rows. -/
theorem found17 (c : Dev nD) (t : Fin cfg0.N) (Y : S1x128x256.Idx → Elt F .f32) (h : (rdat m c).Finds 17 t Y) (r : Fin 128) (x : Fin 256)
    (hx : x.val < 32 * (t.val % 8)) : Y (ix3 0 r x) = (winAt m c (rowPt t x)).vs (rowTrip x) (ix2 r 0) := by
  have h8 : t.val % 8 ≠ 0 := by omega
  rcases ((rdat m c).finds_of_pos (w := 17) rfl (by omega : t.val ≠ 0) Y).mp h with h | h
  · rw [keep17 t h8] at h; exact absurd h (by decide)
  · have h2 := (dats m 0 c).toRRel_leaves (w := 17) rfl h r x (show x.val < 32 * ((t.val - 1) % 8 + 1) by omega)
    refine h2.trans ?_
    rw [show rowPt ⟨t.val - 1, lt_of_le_of_lt (Nat.sub_le _ _) t.isLt⟩ x = rowPt t x from Fin.ext (by show (t.val - 1) / 8 * 8 + _ = t.val / 8 * 8 + _; omega)]

theorem left17 (c : Dev nD) (t : Fin cfg0.N) (Y : S1x128x256.Idx → Elt F .f32) (h : (rdat m c).Finds 17 t Y) :
    Rl m c 17 t ((winAt m c t).G19 (BitVec.ofNat 32 (grid0.coords t 1).val) lanesIota Y 32) := by
  intro r x hx
  rw [point_row, G19_at _ _ (Nat.mod_lt _ (by decide)) Y r x 32 le_rfl]
  by_cases hl : 32 * (t.val % 8) ≤ x.val
  · rw [if_pos ⟨hl, by omega⟩, show rowPt t x = t from Fin.ext (by show t.val / 8 * 8 + x.val / 32 = t.val; omega)]
    rfl
  · rw [if_neg (fun h' => hl h'.1)]
    exact found17 m c t Y h r x (by omega)

theorem left17_of (c : Dev nD) (t : Fin cfg0.N) (w : Win F) (hw : w = winAt m c t) (Y : S1x128x256.Idx → Elt F .f32) (h : (rdat m c).Finds 17 t Y) :
    Rl m c 17 t (w.G19 (BitVec.ofNat 32 (grid0.coords t 1).val) lanesIota Y 32) := by
  subst hw; exact left17 m c t Y h

theorem win_first (c : Dev nD) (t : Fin cfg0.N) (h : t.val % 8 = 0) :
    (⟨iblk m c 0 t, iblk m c 1 t, iblk m c 2 t, iblk m c 5 t, iblk m c 6 t, iblk m c 7 t, iblk m c 8 t, iblk m c 9 t, iblk m c 10 t,
      BT (iblk m c 4 t), MK (iblk m c 3 t)⟩ : Win F) = winAt m c t := by
  unfold winAt biasAt
  rw [show (⟨t.val / 8 * 8, lt_of_le_of_lt (Nat.div_mul_le_self _ _) t.isLt⟩ : Fin cfg0.N) = t from Fin.ext (by show t.val / 8 * 8 = t.val; omega)]

theorem bias_next (c : Dev nD) (t t' : Fin cfg0.N) (h : t.val + 1 = t'.val) (h8 : t'.val % 8 ≠ 0) : biasAt m c t = biasAt m c t' := by
  unfold biasAt
  congr 2
  exact Fin.ext (by show t.val / 8 * 8 = t'.val / 8 * 8; omega)

/-- What the body is called with at point `t`, and what it returns. -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y)
    ∗ (∃ Y, ⌜(rdat m c).Finds 13 t Y⌝ ∗ owns (c : Thread nD τ) (st0_13 t) fullShare Y)
    ∗ (∃ Y, ⌜(rdat m c).Finds 14 t Y⌝ ∗ owns (c : Thread nD τ) (st0_14 t) fullShare Y)
    ∗ (∃ Y, ⌜(rdat m c).Finds 15 t Y⌝ ∗ owns (c : Thread nD τ) (st0_15 t) fullShare Y)
    ∗ (∃ Y, ⌜(rdat m c).Finds 16 t Y⌝ ∗ owns (c : Thread nD τ) (st0_16 t) fullShare Y)
    ∗ (∃ Y, ⌜(rdat m c).Finds 17 t Y⌝ ∗ owns (c : Thread nD τ) (st0_17 t) fullShare Y)
    ∗ (∃ Y, ⌜(rdat m c).Finds 18 t Y⌝ ∗ owns (c : Thread nD τ) (st0_18 t) fullShare Y)
    ∗ (∃ Y, ⌜(rdat m c).Finds 19 t Y⌝ ∗ owns (c : Thread nD τ) (st0_19 t) fullShare Y))
def bodyPost (c : Dev nD) (t : Fin cfg0.N) : sProp 𝕄 :=
  iprop(Phi m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, ⌜Rl m c 11 t X⌝ ∗ owns (c : Thread nD τ) (st0_11 t) fullShare X)
    ∗ (∃ X, ⌜Rl m c 12 t X⌝ ∗ owns (c : Thread nD τ) (st0_12 t) fullShare X)
    ∗ (∃ X, ⌜Rl m c 13 t X⌝ ∗ owns (c : Thread nD τ) (st0_13 t) fullShare X)
    ∗ (∃ X, ⌜Rl m c 14 t X⌝ ∗ owns (c : Thread nD τ) (st0_14 t) fullShare X)
    ∗ (∃ X, ⌜Rl m c 15 t X⌝ ∗ owns (c : Thread nD τ) (st0_15 t) fullShare X)
    ∗ (∃ X, ⌜Rl m c 16 t X⌝ ∗ owns (c : Thread nD τ) (st0_16 t) fullShare X)
    ∗ (∃ X, ⌜Rl m c 17 t X⌝ ∗ owns (c : Thread nD τ) (st0_17 t) fullShare X)
    ∗ (∃ X, ⌜Rl m c 18 t X⌝ ∗ owns (c : Thread nD τ) (st0_18 t) fullShare X)
    ∗ (∃ X, ⌜Rl m c 19 t X⌝ ∗ owns (c : Thread nD τ) (st0_19 t) fullShare X))

set_option maxHeartbeats 32000000 in
/-- The body at a point: the invariant opened, every input at its block, the run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  unfold Phi
  unfold Dat.owesAt Pipeline.owesWithin
  rw [show (dats m 0 c).owed t.castSucc = 0 from rfl]
  have hb0 : ∀ d, (dats m 0 c).before 0 t d = iblk m c 0 t := fun d => before0_0_of m (dats m 0 c) rfl (fun _ => rfl) t d
  have hb1 : ∀ d, (dats m 0 c).before 1 t d = iblk m c 1 t := fun d => before0_1_of m (dats m 0 c) rfl (fun _ => rfl) t d
  have hb2 : ∀ d, (dats m 0 c).before 2 t d = iblk m c 2 t := fun d => before0_2_of m (dats m 0 c) rfl (fun _ => rfl) t d
  have hb3 : ∀ d, (dats m 0 c).before 3 t d = iblk m c 3 t := fun d => before0_3_of m (dats m 0 c) rfl (fun _ => rfl) t d
  have hb4 : ∀ d, (dats m 0 c).before 4 t d = iblk m c 4 t := fun d => before0_4_of m (dats m 0 c) rfl (fun _ => rfl) t d
  have hb5 : ∀ d, (dats m 0 c).before 5 t d = iblk m c 5 t := fun d => before0_5_of m (dats m 0 c) rfl (fun _ => rfl) t d
  have hb6 : ∀ d, (dats m 0 c).before 6 t d = iblk m c 6 t := fun d => before0_6_of m (dats m 0 c) rfl (fun _ => rfl) t d
  have hb7 : ∀ d, (dats m 0 c).before 7 t d = iblk m c 7 t := fun d => before0_7_of m (dats m 0 c) rfl (fun _ => rfl) t d
  have hb8 : ∀ d, (dats m 0 c).before 8 t d = iblk m c 8 t := fun d => before0_8_of m (dats m 0 c) rfl (fun _ => rfl) t d
  have hb9 : ∀ d, (dats m 0 c).before 9 t d = iblk m c 9 t := fun d => before0_9_of m (dats m 0 c) rfl (fun _ => rfl) t d
  have hb10 : ∀ d, (dats m 0 c).before 10 t d = iblk m c 10 t := fun d => before0_10_of m (dats m 0 c) rfl (fun _ => rfl) t d
  simp only [hb0, hb1, hb2, hb3, hb4, hb5, hb6, hb7, hb8, hb9, hb10]
  iintro ⟨⟨⟨⟨%d22, %h22, HS0⟩, HS1⟩, Hg⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, -, H11⟩, ⟨%Y12, -, H12⟩, ⟨%Y13, -, H13⟩, ⟨%Y14, -, H14⟩, ⟨%Y15, -, H15⟩, ⟨%Y16, -, H16⟩, ⟨%Y17, %hY17, H17⟩, ⟨%Y18, -, H18⟩, ⟨%Y19, -, H19⟩⟩
  by_cases h8 : t.val % 8 = 0
  · iapply (kernelRun_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) Y17 W _ ((first_iff t).mpr h8))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists Y11; iexact H11
    isplitl [H12]; · iexists Y12; iexact H12
    isplitl [H13]; · iexists Y13; iexact H13
    isplitl [H14]; · iexists Y14; iexact H14
    isplitl [H15]; · iexists Y15; iexact H15
    isplitl [H16]; · iexists Y16; iexact H16
    isplitl [H17]; · iexact H17
    isplitl [H18]; · iexists Y18; iexact H18
    isplitl [H19]; · iexists Y19; iexact H19
    isplitl [HS0]; · iexists d22; iexact HS0
    isplitl [HS1]; · iexact HS1
    isplitl [HO]; · iexact HO
    iintro ⟨H0, H1, H2, H3, H4, H5, H6, H7, H8, H9, H10, H11, H12, H13, H14, H15, H16, H17, H18, H19, HS0, HS1, HO⟩
    have ew := win_first m c t h8
    isplitl [HS0 HS1 Hg]
    · isplitl [HS0 HS1]
      · isplitl [HS0]
        · iexists _; isplitr; swap; · iexact HS0
          ipureintro; exact fun t' e1 e2 => (show BT (iblk m c 4 t) = biasAt m c t from congrArg Win.d22 ew).trans (bias_next m c t t' e1 e2)
        iexact HS1
      iexact Hg
    isplitl [HO]
    · iexists W; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr; swap; · iexact H11
      ipureintro; exact congrArg (fun w : Win F => w.G13 rowsIota) ew
    isplitl [H12]
    · iexists _; isplitr; swap; · iexact H12
      ipureintro; exact congrArg (fun w : Win F => w.G14) ew
    isplitl [H13]
    · iexists _; isplitr; swap; · iexact H13
      ipureintro; exact congrArg (fun w : Win F => w.G15) ew
    isplitl [H14]
    · iexists _; isplitr; swap; · iexact H14
      ipureintro; exact congrArg (fun w : Win F => w.G16) ew
    isplitl [H15]
    · iexists _; isplitr; swap; · iexact H15
      ipureintro; exact congrArg (fun w : Win F => w.G17) ew
    isplitl [H16]
    · iexists _; isplitr; swap; · iexact H16
      ipureintro; exact congrArg (fun w : Win F => w.G18) ew
    isplitl [H17]
    · iexists _; isplitr; swap; · iexact H17
      ipureintro; exact left17_of m c t _ ew Y17 hY17
    isplitl [H18]
    · iexists _; isplitr; swap; · iexact H18
      ipureintro; exact congrArg (fun w : Win F => w.G20 rowsIota) ew
    iexists _; isplitr; swap; · iexact H19
    ipureintro; exact congrArg (fun w : Win F => w.G21 rowsIota) ew
  · obtain rfl := h22 t rfl h8
    iapply (kernelRun_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) Y17 (biasAt m c t) W _ (fun h => h8 ((first_iff t).mp h)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists Y11; iexact H11
    isplitl [H12]; · iexists Y12; iexact H12
    isplitl [H13]; · iexists Y13; iexact H13
    isplitl [H14]; · iexists Y14; iexact H14
    isplitl [H15]; · iexists Y15; iexact H15
    isplitl [H16]; · iexists Y16; iexact H16
    isplitl [H17]; · iexact H17
    isplitl [H18]; · iexists Y18; iexact H18
    isplitl [H19]; · iexists Y19; iexact H19
    isplitl [HS0]; · iexact HS0
    isplitl [HS1]; · iexact HS1
    isplitl [HO]; · iexact HO
    iintro ⟨H0, H1, H2, H3, H4, H5, H6, H7, H8, H9, H10, H11, H12, H13, H14, H15, H16, H17, H18, H19, HS0, HS1, HO⟩
    isplitl [HS0 HS1 Hg]
    · isplitl [HS0 HS1]
      · isplitl [HS0]
        · iexists _; isplitr; swap; · iexact HS0
          ipureintro; exact fun t' e1 e2 => bias_next m c t t' e1 e2
        iexact HS1
      iexact Hg
    isplitl [HO]
    · iexists W; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr; swap; · iexact H11
      ipureintro; exact rfl
    isplitl [H12]
    · iexists _; isplitr; swap; · iexact H12
      ipureintro; exact rfl
    isplitl [H13]
    · iexists _; isplitr; swap; · iexact H13
      ipureintro; exact rfl
    isplitl [H14]
    · iexists _; isplitr; swap; · iexact H14
      ipureintro; exact rfl
    isplitl [H15]
    · iexists _; isplitr; swap; · iexact H15
      ipureintro; exact rfl
    isplitl [H16]
    · iexists _; isplitr; swap; · iexact H16
      ipureintro; exact rfl
    isplitl [H17]
    · iexists _; isplitr; swap; · iexact H17
      ipureintro; exact left17 m c t Y17 hY17
    isplitl [H18]
    · iexists _; isplitr; swap; · iexact H18
      ipureintro; exact rfl
    iexists _; isplitr; swap; · iexact H19
    ipureintro; exact rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs held to their rows. -/
theorem body_obligation (c : Dev nD) :
    Pipeline.BodyObligationRel (dats (F := F) m 0 c) (defs₀ (F := F)) Variants.none () Set.univ outs0 (Rl m c) := fun t => by
  rw [bigSep_W0, bigSep_W0, defs₀_row]
  exact triple_restated (sound_body m c t) rfl .rfl fun _ => .rfl

set_option backward.isDefEq.respectTransparency.types false in
/-- From any memory with zero counters every weakly fair execution terminates; each output array holds its rows. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m)
    (hin := fun c => Phi_in m c) (hout := fun c => Phi_out m c _) (hQ' := fun _ h => h)

end Cert.KernelIdeal.Hand.Val

end
-- ==== Proof.KWin.lean ====
/-
  The kernel's windows at a point, element by element: the arguments'.
-/
module

public import proofs.«01_k».proof.Proof.KFit
public import proofs.«01_k».proof.Proof.KLd
public import proofs.«01_k».proof.Proof.KILaunch

@[expose] public section

set_option maxRecDepth 16384

noncomputable section

namespace Cert.KernelIdeal.Hand.Val

open Cert.KernelIdeal Cert.KernelIdeal.Gen Cert.KernelIdeal.Hand Cert.Spec
open Idealize.ShloMosaic Idealize.ShloMosaic.TcCoe

variable (m : (ℓ : Loc nD τ sig) → Buf (Elt Ideal) ℓ) (c : Dev nD) (t : Fin cfg0.N) (k : Fin 32) (r n : Fin 128) (j x : Fin 256)

/-- The batch and the row of a point's trip. -/
def bOf (t : Fin cfg0.N) : Fin 5 := ⟨t.val / 8, by have := t.isLt; have h : cfg0.N = 40 := rfl; omega⟩
def iOf (t : Fin cfg0.N) (k : Fin 32) : Fin 256 := ⟨t.val % 8 * 32 + k.val, by omega⟩

theorem ix_0 : ∀ t : Fin cfg0.N, win0_0.index t = ![t.val / 8, t.val % 8, 0, 0] := by decide +kernel
theorem ix_1 : ∀ t : Fin cfg0.N, win0_1.index t = ![t.val / 8, t.val % 8, 0, 0] := by decide +kernel
theorem ix_2 : ∀ t : Fin cfg0.N, win0_2.index t = ![t.val / 8, t.val % 8, 0] := by decide +kernel
theorem ix_3 : ∀ t : Fin cfg0.N, win0_3.index t = ![t.val / 8, t.val % 8, 0] := by decide +kernel
theorem ix_4 : ∀ t : Fin cfg0.N, win0_4.index t = ![t.val / 8, 0, 0, 0] := by decide +kernel
theorem ix_5 : ∀ t : Fin cfg0.N, win0_5.index t = ![0, 0] := by decide +kernel
theorem ix_6 : ∀ t : Fin cfg0.N, win0_6.index t = ![0, 0] := by decide +kernel
theorem ix_7 : ∀ t : Fin cfg0.N, win0_7.index t = ![0, 0] := by decide +kernel
theorem ix_8 : ∀ t : Fin cfg0.N, win0_8.index t = ![0, 0] := by decide +kernel
theorem ix_9 : ∀ t : Fin cfg0.N, win0_9.index t = ![0, 0] := by decide +kernel
theorem ix_10 : ∀ t : Fin cfg0.N, win0_10.index t = ![0, 0] := by decide +kernel

theorem ib_0 : (iblk m c 0 t : S1x32x256x128.Idx → EReal) (ix4 0 k j n) = (argK m c).x (bOf t) (iOf t k) j n := by
  show _ = (m ((c : Thread nD τ).loc main_arg0) : S5x256x256x128.Idx → EReal) (ix4 (bOf t) (iOf t k) j n)
  rw [← V_main_arg0 m c]
  have e := ix_0 t
  blk_ext [iblk, bOf, iOf, e]
theorem ib_1 : (iblk m c 1 t : S1x32x256x128.Idx → BitVec 8) (ix4 0 k j n) = (argK m c).c (bOf t) (iOf t k) j n := by
  show _ = (m ((c : Thread nD τ).loc main_arg1) : S5x256x256x128.Idx → BitVec 8) (ix4 (bOf t) (iOf t k) j n)
  rw [← V_main_arg1 m c]
  have e := ix_1 t
  blk_ext [iblk, bOf, iOf, e]
theorem ib_2 : (iblk m c 2 t : S1x32x256.Idx → EReal) (ix3 0 k j) = (argK m c).s (bOf t) (iOf t k) j := by
  show _ = (m ((c : Thread nD τ).loc main_arg2) : S5x256x256.Idx → EReal) (ix3 (bOf t) (iOf t k) j)
  rw [← V_main_arg2 m c]
  have e := ix_2 t
  blk_ext [iblk, bOf, iOf, e]
theorem ib_3 : (iblk m c 3 t : S1x32x256.Idx → BitVec 8) (ix3 0 k j) = (argK m c).ma (bOf t) (iOf t k) j := by
  show _ = (m ((c : Thread nD τ).loc main_arg3) : S5x256x256.Idx → BitVec 8) (ix3 (bOf t) (iOf t k) j)
  rw [← V_main_arg3 m c]
  have e := ix_3 t
  blk_ext [iblk, bOf, iOf, e]
theorem ib_4 (h : Fin 4) : (iblk m c 4 t : S1x4x256x256.Idx → EReal) (ix4 0 h j x) = (argK m c).bi (bOf t) h j x := by
  show _ = (m ((c : Thread nD τ).loc main_arg4) : S5x4x256x256.Idx → EReal) (ix4 (bOf t) h j x)
  rw [← V_main_arg4 m c]
  have e := ix_4 t
  blk_ext [iblk, bOf, iOf, e]
theorem ib_5 : (iblk m c 5 t : S512x128.Idx → BitVec 8) = V m c main_v8 := by
  funext y
  have e := ix_5 t
  blk_ext [iblk, e]
theorem ib_6 : (iblk m c 6 t : S512x256.Idx → EReal) = V m c main_v15 := by
  funext y
  have e := ix_6 t
  blk_ext [iblk, e]
theorem ib_7 : (iblk m c 7 t : S128x256.Idx → EReal) = V m c main_v18 := by
  funext y
  have e := ix_7 t
  blk_ext [iblk, e]
theorem ib_8 : (iblk m c 8 t : S128x128.Idx → BitVec 8) = V m c main_v19 := by
  funext y
  have e := ix_8 t
  blk_ext [iblk, e]
theorem ib_9 : (iblk m c 9 t : S1x128.Idx → EReal) = V m c main_v20 := by
  funext y
  have e := ix_9 t
  blk_ext [iblk, e]
theorem ib_10 : (iblk m c 10 t : S1x128.Idx → EReal) = V m c main_v21 := by
  funext y
  have e := ix_10 t
  blk_ext [iblk, e]

/-- The group's first point, whose bias the scratch holds. -/
theorem bOf_group (h) : bOf ⟨t.val / 8 * 8, h⟩ = bOf t := Fin.ext (by show t.val / 8 * 8 / 8 = t.val / 8; omega)

theorem bias_0 : (winAt m c t).d22 (ix3 0 x j) = (argK m c).bi (bOf t) 0 j x * L := by
  refine (BT_at0 j x _).trans ?_
  rw [ib_4, bOf_group]
theorem bias_1 : (winAt m c t).d22 (ix3 1 x j) = (argK m c).bi (bOf t) 1 j x * L := by
  refine (BT_at1 j x _).trans ?_
  rw [ib_4, bOf_group]
theorem bias_2 : (winAt m c t).d22 (ix3 2 x j) = (argK m c).bi (bOf t) 2 j x * L := by
  refine (BT_at2 j x _).trans ?_
  rw [ib_4, bOf_group]
theorem bias_3 : (winAt m c t).d22 (ix3 3 x j) = (argK m c).bi (bOf t) 3 j x * L := by
  refine (BT_at3 j x _).trans ?_
  rw [ib_4, bOf_group]

/-- The weights, scales and biases a point reads are the host's. -/
theorem d7_eq : (winAt m c t).d7 = V m c main_v8 := ib_5 m c t
theorem d8_eq : (winAt m c t).d8 = V m c main_v15 := ib_6 m c t
theorem d9_eq : (winAt m c t).d9 = V m c main_v18 := ib_7 m c t
theorem d10_eq : (winAt m c t).d10 = V m c main_v19 := ib_8 m c t
theorem d11_eq : (winAt m c t).d11 = V m c main_v20 := ib_9 m c t
theorem d12_eq : (winAt m c t).d12 = V m c main_v21 := ib_10 m c t
theorem d2_at : (winAt m c t).d2 (ix4 0 k j n) = (argK m c).x (bOf t) (iOf t k) j n := ib_0 m c t k n j
theorem d3_at : (winAt m c t).d3 (ix4 0 k j n) = (argK m c).c (bOf t) (iOf t k) j n := ib_1 m c t k n j
theorem d4_at : (winAt m c t).d4 (ix3 0 k j) = (argK m c).s (bOf t) (iOf t k) j := ib_2 m c t k j
theorem MK_of (d : S1x32x256.Idx → BitVec 8) (v : BitVec 8) (e : d (ix3 0 k x) = v) : Val.MK (F := Ideal) d (ix2 k x) = if v ≠ 0 then (0 : EReal) else ⊥ := by
  subst e
  exact MK_at k x d
theorem d23_MK : (winAt m c t).d23 = Val.MK (F := Ideal) (iblk m c 3 t) := by
  delta winAt
  dsimp only
theorem d23_at : (winAt m c t).d23 (ix2 k x) = if (argK m c).ma (bOf t) (iOf t k) x ≠ 0 then (0 : EReal) else ⊥ :=
  (congrFun (d23_MK m c t) (ix2 k x)).trans (MK_of k x (iblk m c 3 t) ((argK m c).ma (bOf t) (iOf t k) x) (ib_3 m c t k x))

set_option maxHeartbeats 4000000 in
/-- The windows of a point fit the arguments, row by row. -/
theorem fits : Fits (winAt m c t) (tripOf k) (argK m c) (bOf t) (iOf t k) := by
  generalize hw : winAt m c t = w
  have e7 : w.d7 = V m c main_v8 := by rw [← hw]; exact d7_eq m c t
  have e8 : w.d8 = V m c main_v15 := by rw [← hw]; exact d8_eq m c t
  have e9 : w.d9 = V m c main_v18 := by rw [← hw]; exact d9_eq m c t
  have e10 : w.d10 = V m c main_v19 := by rw [← hw]; exact d10_eq m c t
  have e11 : w.d11 = V m c main_v20 := by rw [← hw]; exact d11_eq m c t
  have e12 : w.d12 = V m c main_v21 := by rw [← hw]; exact d12_eq m c t
  constructor
  case X => intro j n; rw [lX_at, ← hw]; exact d2_at m c t k n j
  case C => intro j n; rw [lC_at, ← hw]; exact d3_at m c t k n j
  case S => intro j; rw [lS_at, ← hw]; exact d4_at m c t k j
  case W0 => intro r x; rw [lW0_at, e7]; exact V8_0 m c r x
  case W1 => intro r x; rw [lW1_at, e7]; exact V8_1 m c r x
  case W2 => intro r x; rw [lW2_at, e7]; exact V8_2 m c r x
  case W3 => intro r x; rw [lW3_at, e7]; exact V8_3 m c r x
  case R0 => intro r j; rw [lR0_at, e8]; exact V15_0 m c r j
  case R1 => intro r j; rw [lR1_at, e8]; exact V15_1 m c r j
  case R2 => intro r; rw [lR2_at, e8]; exact V15_2 m c r 0
  case R3 => intro r j; rw [lR3_at, e8]; exact V15_3 m c r j
  case G => intro r j; rw [lG_at, e9]; exact V18_at m c r j
  case O => intro r n; rw [lO_at, e10]; exact V19_at m c r n
  case So => intro n; rw [lSo_at, e11]; exact V20_at m c n
  case Bo => intro n; rw [lBo_at, e12]; exact V21_at m c n
  case M => intro x; rw [lM_at, ← hw]; exact d23_at m c t k x
  case B0 => intro x j; rw [lB0_at, ← hw]; exact bias_0 m c t j x
  case B1 => intro x j; rw [lB1_at, ← hw]; exact bias_1 m c t j x
  case B2 => intro x j; rw [lB2_at, ← hw]; exact bias_2 m c t j x
  case B3 => intro x j; rw [lB3_at, ← hw]; exact bias_3 m c t j x

end Cert.KernelIdeal.Hand.Val

end
-- ==== Proof.KArr.lean ====
/-
  The attend call's result arrays, element by element, off the launch.
-/
module

public import proofs.«01_k».proof.Proof.KILaunch
public import Idealize.ShloMosaic.Lib.Pipeline.ValueKit
public import Idealize.ShloMosaic.Lib.Pipeline.ArrRel

@[expose] public section

set_option maxRecDepth 16384

noncomputable section

namespace Cert.KernelIdeal.Hand.Val

open Cert.KernelIdeal Cert.KernelIdeal.Gen Cert.KernelIdeal.Hand
open Idealize.ShloMosaic Idealize.ShloMosaic.TcCoe

variable {F : FTy → Type} [FloatOps F] [Named F] [∀ e, Nonempty (Elt F e)]
variable (m : (ℓ : Loc nD τ sig) → Buf (Elt F) ℓ)

/-- The point of a row. -/
def ptOf (b : Fin 5) (i : Fin 256) : Fin cfg0.N := ⟨8 * b.val + i.val / 32, by have h : cfg0.N = 40 := rfl; omega⟩

theorem flush17 : ∀ t : Fin cfg0.N, (cfg0.win 17).flush t = true → t.val % 8 = 7 := by decide +kernel

/-- The arrays the call writes. -/
def A13 (c : Dev nD) : S5x256x256x128.Idx → Elt F .bf16 := fun x => (winAt m c (ptOf (x 0) (x 1))).T13 (rowTrip (x 1)) rowsIota (ix4 0 0 (x 2) (x 3))
def A14 (c : Dev nD) : S5x256x128x256.Idx → Elt F .i8 := fun x => (winAt m c (ptOf (x 0) (x 1))).T14 (rowTrip (x 1)) (ix4 0 0 (x 2) (x 3))
def A15 (c : Dev nD) : S5x256x4x256.Idx → Elt F .f32 := fun x => (winAt m c (ptOf (x 0) (x 1))).T15 (rowTrip (x 1)) (ix4 0 0 (x 2) (x 3))
def A16 (c : Dev nD) : S5x256x128x256.Idx → Elt F .i8 := fun x => (winAt m c (ptOf (x 0) (x 1))).T16 (rowTrip (x 1)) (ix4 0 0 (x 2) (x 3))
def A17 (c : Dev nD) : S5x256x4x256.Idx → Elt F .f32 := fun x => (winAt m c (ptOf (x 0) (x 1))).T17 (rowTrip (x 1)) (ix4 0 0 (x 2) (x 3))
def A18 (c : Dev nD) : S5x256x128x256.Idx → Elt F .i8 := fun x => (winAt m c (ptOf (x 0) (x 1))).T18 (rowTrip (x 1)) (ix4 0 0 (x 2) (x 3))
def A19 (c : Dev nD) : S5x128x256.Idx → Elt F .f32 := fun x => (winAt m c (ptOf (x 0) (x 2))).vs (rowTrip (x 2)) (ix2 (x 1) 0)
def A20 (c : Dev nD) : S5x256x256x128.Idx → Elt F .i8 := fun x => (winAt m c (ptOf (x 0) (x 1))).T20 (rowTrip (x 1)) rowsIota (ix4 0 0 (x 2) (x 3))
def A21 (c : Dev nD) : S5x256x256.Idx → Elt F .f32 := fun x => (winAt m c (ptOf (x 0) (x 1))).T21 (rowTrip (x 1)) rowsIota (ix3 0 0 (x 2))

theorem G13_blk (c : Dev nD) (t : Fin cfg0.N) (y : S1x32x256x128.Idx) (z : S5x256x256x128.Idx) (h0 : (z 0).val = t.val / 8)
    (h1 : (z 1).val = t.val % 8 * 32 + (y 1).val) (h2 : (z 2).val = (y 2).val) (h3 : (z 3).val = (y 3).val) :
    (winAt m c t).G13 rowsIota y = A13 m c z := by
  have e1 : ptOf (z 0) (z 1) = t := Fin.ext (by
    have := t.isLt
    have hN : cfg0.N = 40 := rfl
    have h5 : (y 1).val < 32 := (y 1).isLt
    show 8 * (z 0).val + (z 1).val / 32 = t.val; omega)
  have e2 : rowTrip (z 1) = tripOf (y 1) := Fin.ext (by
    have h5 : (y 1).val < 32 := (y 1).isLt
    show (z 1).val % 32 = (y 1).val; omega)
  unfold A13 Win.G13
  rw [e1, e2]
  congr 1
  rw [Fin.ext h2, Fin.ext h3]

theorem idx13 : ∀ t : Fin cfg0.N, win0_11.index t = ![t.val / 8, t.val % 8, 0, 0] := by decide +kernel

theorem arr13 (c : Dev nD) (r : PUnit × MemSt nD τ sig (Elt F)) (h : Pipeline.RDat.FramePost (cfgs 0) (fun c => rdat m c) (V m) r) :
    r.2.mem ((c : Thread nD τ).loc main_v22_0) = A13 m c := by
  obtain ⟨after, hL, hA⟩ := h.exists_exact c
  refine (hA 11).trans ?_
  refine Pipeline.Dat.arrAt_eq_of_covers _ 11 _ (by decide +kernel) fun t hf y => ?_
  have hX := (dats m 0 c).toRRel_leaves (w := 11) rfl (hL 11 t hf)
  have hX : after 11 t = (winAt m c t).G13 rowsIota := hX
  blk_simp
  refine (congrFun hX y).trans (G13_blk m c t y _ ?_ ?_ ?_ ?_)
  · have b : (y 0).val < 1 := (y 0).isLt
    blk_simp [idx13]; try omega
  · blk_simp [idx13]
  · blk_simp [idx13]; try omega
  · blk_simp [idx13]; try omega

theorem G14_blk (c : Dev nD) (t : Fin cfg0.N) (y : S1x32x128x256.Idx) (z : S5x256x128x256.Idx) (h0 : (z 0).val = t.val / 8)
    (h1 : (z 1).val = t.val % 8 * 32 + (y 1).val) (h2 : (z 2).val = (y 2).val) (h3 : (z 3).val = (y 3).val) :
    (winAt m c t).G14  y = A14 m c z := by
  have e1 : ptOf (z 0) (z 1) = t := Fin.ext (by
    have := t.isLt
    have hN : cfg0.N = 40 := rfl
    have h5 : (y 1).val < 32 := (y 1).isLt
    show 8 * (z 0).val + (z 1).val / 32 = t.val; omega)
  have e2 : rowTrip (z 1) = tripOf (y 1) := Fin.ext (by
    have h5 : (y 1).val < 32 := (y 1).isLt
    show (z 1).val % 32 = (y 1).val; omega)
  unfold A14 Win.G14
  rw [e1, e2]
  congr 1
  rw [Fin.ext h2, Fin.ext h3]

theorem idx14 : ∀ t : Fin cfg0.N, win0_12.index t = ![t.val / 8, t.val % 8, 0, 0] := by decide +kernel

theorem arr14 (c : Dev nD) (r : PUnit × MemSt nD τ sig (Elt F)) (h : Pipeline.RDat.FramePost (cfgs 0) (fun c => rdat m c) (V m) r) :
    r.2.mem ((c : Thread nD τ).loc main_v22_1) = A14 m c := by
  obtain ⟨after, hL, hA⟩ := h.exists_exact c
  refine (hA 12).trans ?_
  refine Pipeline.Dat.arrAt_eq_of_covers _ 12 _ (by decide +kernel) fun t hf y => ?_
  have hX := (dats m 0 c).toRRel_leaves (w := 12) rfl (hL 12 t hf)
  have hX : after 12 t = (winAt m c t).G14  := hX
  blk_simp
  refine (congrFun hX y).trans (G14_blk m c t y _ ?_ ?_ ?_ ?_)
  · have b : (y 0).val < 1 := (y 0).isLt
    blk_simp [idx14]; try omega
  · blk_simp [idx14]
  · blk_simp [idx14]; try omega
  · blk_simp [idx14]; try omega

theorem G15_blk (c : Dev nD) (t : Fin cfg0.N) (y : S1x32x4x256.Idx) (z : S5x256x4x256.Idx) (h0 : (z 0).val = t.val / 8)
    (h1 : (z 1).val = t.val % 8 * 32 + (y 1).val) (h2 : (z 2).val = (y 2).val) (h3 : (z 3).val = (y 3).val) :
    (winAt m c t).G15  y = A15 m c z := by
  have e1 : ptOf (z 0) (z 1) = t := Fin.ext (by
    have := t.isLt
    have hN : cfg0.N = 40 := rfl
    have h5 : (y 1).val < 32 := (y 1).isLt
    show 8 * (z 0).val + (z 1).val / 32 = t.val; omega)
  have e2 : rowTrip (z 1) = tripOf (y 1) := Fin.ext (by
    have h5 : (y 1).val < 32 := (y 1).isLt
    show (z 1).val % 32 = (y 1).val; omega)
  unfold A15 Win.G15
  rw [e1, e2]
  congr 1
  rw [Fin.ext h2, Fin.ext h3]

theorem idx15 : ∀ t : Fin cfg0.N, win0_13.index t = ![t.val / 8, t.val % 8, 0, 0] := by decide +kernel

theorem arr15 (c : Dev nD) (r : PUnit × MemSt nD τ sig (Elt F)) (h : Pipeline.RDat.FramePost (cfgs 0) (fun c => rdat m c) (V m) r) :
    r.2.mem ((c : Thread nD τ).loc main_v22_2) = A15 m c := by
  obtain ⟨after, hL, hA⟩ := h.exists_exact c
  refine (hA 13).trans ?_
  refine Pipeline.Dat.arrAt_eq_of_covers _ 13 _ (by decide +kernel) fun t hf y => ?_
  have hX := (dats m 0 c).toRRel_leaves (w := 13) rfl (hL 13 t hf)
  have hX : after 13 t = (winAt m c t).G15  := hX
  blk_simp
  refine (congrFun hX y).trans (G15_blk m c t y _ ?_ ?_ ?_ ?_)
  · have b : (y 0).val < 1 := (y 0).isLt
    blk_simp [idx15]; try omega
  · blk_simp [idx15]
  · blk_simp [idx15]; try omega
  · blk_simp [idx15]; try omega

theorem G16_blk (c : Dev nD) (t : Fin cfg0.N) (y : S1x32x128x256.Idx) (z : S5x256x128x256.Idx) (h0 : (z 0).val = t.val / 8)
    (h1 : (z 1).val = t.val % 8 * 32 + (y 1).val) (h2 : (z 2).val = (y 2).val) (h3 : (z 3).val = (y 3).val) :
    (winAt m c t).G16  y = A16 m c z := by
  have e1 : ptOf (z 0) (z 1) = t := Fin.ext (by
    have := t.isLt
    have hN : cfg0.N = 40 := rfl
    have h5 : (y 1).val < 32 := (y 1).isLt
    show 8 * (z 0).val + (z 1).val / 32 = t.val; omega)
  have e2 : rowTrip (z 1) = tripOf (y 1) := Fin.ext (by
    have h5 : (y 1).val < 32 := (y 1).isLt
    show (z 1).val % 32 = (y 1).val; omega)
  unfold A16 Win.G16
  rw [e1, e2]
  congr 1
  rw [Fin.ext h2, Fin.ext h3]

theorem idx16 : ∀ t : Fin cfg0.N, win0_14.index t = ![t.val / 8, t.val % 8, 0, 0] := by decide +kernel

theorem arr16 (c : Dev nD) (r : PUnit × MemSt nD τ sig (Elt F)) (h : Pipeline.RDat.FramePost (cfgs 0) (fun c => rdat m c) (V m) r) :
    r.2.mem ((c : Thread nD τ).loc main_v22_3) = A16 m c := by
  obtain ⟨after, hL, hA⟩ := h.exists_exact c
  refine (hA 14).trans ?_
  refine Pipeline.Dat.arrAt_eq_of_covers _ 14 _ (by decide +kernel) fun t hf y => ?_
  have hX := (dats m 0 c).toRRel_leaves (w := 14) rfl (hL 14 t hf)
  have hX : after 14 t = (winAt m c t).G16  := hX
  blk_simp
  refine (congrFun hX y).trans (G16_blk m c t y _ ?_ ?_ ?_ ?_)
  · have b : (y 0).val < 1 := (y 0).isLt
    blk_simp [idx16]; try omega
  · blk_simp [idx16]
  · blk_simp [idx16]; try omega
  · blk_simp [idx16]; try omega

theorem G17_blk (c : Dev nD) (t : Fin cfg0.N) (y : S1x32x4x256.Idx) (z : S5x256x4x256.Idx) (h0 : (z 0).val = t.val / 8)
    (h1 : (z 1).val = t.val % 8 * 32 + (y 1).val) (h2 : (z 2).val = (y 2).val) (h3 : (z 3).val = (y 3).val) :
    (winAt m c t).G17  y = A17 m c z := by
  have e1 : ptOf (z 0) (z 1) = t := Fin.ext (by
    have := t.isLt
    have hN : cfg0.N = 40 := rfl
    have h5 : (y 1).val < 32 := (y 1).isLt
    show 8 * (z 0).val + (z 1).val / 32 = t.val; omega)
  have e2 : rowTrip (z 1) = tripOf (y 1) := Fin.ext (by
    have h5 : (y 1).val < 32 := (y 1).isLt
    show (z 1).val % 32 = (y 1).val; omega)
  unfold A17 Win.G17
  rw [e1, e2]
  congr 1
  rw [Fin.ext h2, Fin.ext h3]

theorem idx17 : ∀ t : Fin cfg0.N, win0_15.index t = ![t.val / 8, t.val % 8, 0, 0] := by decide +kernel

theorem arr17 (c : Dev nD) (r : PUnit × MemSt nD τ sig (Elt F)) (h : Pipeline.RDat.FramePost (cfgs 0) (fun c => rdat m c) (V m) r) :
    r.2.mem ((c : Thread nD τ).loc main_v22_4) = A17 m c := by
  obtain ⟨after, hL, hA⟩ := h.exists_exact c
  refine (hA 15).trans ?_
  refine Pipeline.Dat.arrAt_eq_of_covers _ 15 _ (by decide +kernel) fun t hf y => ?_
  have hX := (dats m 0 c).toRRel_leaves (w := 15) rfl (hL 15 t hf)
  have hX : after 15 t = (winAt m c t).G17  := hX
  blk_simp
  refine (congrFun hX y).trans (G17_blk m c t y _ ?_ ?_ ?_ ?_)
  · have b : (y 0).val < 1 := (y 0).isLt
    blk_simp [idx17]; try omega
  · blk_simp [idx17]
  · blk_simp [idx17]; try omega
  · blk_simp [idx17]; try omega

theorem G18_blk (c : Dev nD) (t : Fin cfg0.N) (y : S1x32x128x256.Idx) (z : S5x256x128x256.Idx) (h0 : (z 0).val = t.val / 8)
    (h1 : (z 1).val = t.val % 8 * 32 + (y 1).val) (h2 : (z 2).val = (y 2).val) (h3 : (z 3).val = (y 3).val) :
    (winAt m c t).G18  y = A18 m c z := by
  have e1 : ptOf (z 0) (z 1) = t := Fin.ext (by
    have := t.isLt
    have hN : cfg0.N = 40 := rfl
    have h5 : (y 1).val < 32 := (y 1).isLt
    show 8 * (z 0).val + (z 1).val / 32 = t.val; omega)
  have e2 : rowTrip (z 1) = tripOf (y 1) := Fin.ext (by
    have h5 : (y 1).val < 32 := (y 1).isLt
    show (z 1).val % 32 = (y 1).val; omega)
  unfold A18 Win.G18
  rw [e1, e2]
  congr 1
  rw [Fin.ext h2, Fin.ext h3]

theorem idx18 : ∀ t : Fin cfg0.N, win0_16.index t = ![t.val / 8, t.val % 8, 0, 0] := by decide +kernel

theorem arr18 (c : Dev nD) (r : PUnit × MemSt nD τ sig (Elt F)) (h : Pipeline.RDat.FramePost (cfgs 0) (fun c => rdat m c) (V m) r) :
    r.2.mem ((c : Thread nD τ).loc main_v22_5) = A18 m c := by
  obtain ⟨after, hL, hA⟩ := h.exists_exact c
  refine (hA 16).trans ?_
  refine Pipeline.Dat.arrAt_eq_of_covers _ 16 _ (by decide +kernel) fun t hf y => ?_
  have hX := (dats m 0 c).toRRel_leaves (w := 16) rfl (hL 16 t hf)
  have hX : after 16 t = (winAt m c t).G18  := hX
  blk_simp
  refine (congrFun hX y).trans (G18_blk m c t y _ ?_ ?_ ?_ ?_)
  · have b : (y 0).val < 1 := (y 0).isLt
    blk_simp [idx18]; try omega
  · blk_simp [idx18]
  · blk_simp [idx18]; try omega
  · blk_simp [idx18]; try omega

theorem G20_blk (c : Dev nD) (t : Fin cfg0.N) (y : S1x32x256x128.Idx) (z : S5x256x256x128.Idx) (h0 : (z 0).val = t.val / 8)
    (h1 : (z 1).val = t.val % 8 * 32 + (y 1).val) (h2 : (z 2).val = (y 2).val) (h3 : (z 3).val = (y 3).val) :
    (winAt m c t).G20 rowsIota y = A20 m c z := by
  have e1 : ptOf (z 0) (z 1) = t := Fin.ext (by
    have := t.isLt
    have hN : cfg0.N = 40 := rfl
    have h5 : (y 1).val < 32 := (y 1).isLt
    show 8 * (z 0).val + (z 1).val / 32 = t.val; omega)
  have e2 : rowTrip (z 1) = tripOf (y 1) := Fin.ext (by
    have h5 : (y 1).val < 32 := (y 1).isLt
    show (z 1).val % 32 = (y 1).val; omega)
  unfold A20 Win.G20
  rw [e1, e2]
  congr 1
  rw [Fin.ext h2, Fin.ext h3]

theorem idx20 : ∀ t : Fin cfg0.N, win0_18.index t = ![t.val / 8, t.val % 8, 0, 0] := by decide +kernel

theorem arr20 (c : Dev nD) (r : PUnit × MemSt nD τ sig (Elt F)) (h : Pipeline.RDat.FramePost (cfgs 0) (fun c => rdat m c) (V m) r) :
    r.2.mem ((c : Thread nD τ).loc main_v22_7) = A20 m c := by
  obtain ⟨after, hL, hA⟩ := h.exists_exact c
  refine (hA 18).trans ?_
  refine Pipeline.Dat.arrAt_eq_of_covers _ 18 _ (by decide +kernel) fun t hf y => ?_
  have hX := (dats m 0 c).toRRel_leaves (w := 18) rfl (hL 18 t hf)
  have hX : after 18 t = (winAt m c t).G20 rowsIota := hX
  blk_simp
  refine (congrFun hX y).trans (G20_blk m c t y _ ?_ ?_ ?_ ?_)
  · have b : (y 0).val < 1 := (y 0).isLt
    blk_simp [idx20]; try omega
  · blk_simp [idx20]
  · blk_simp [idx20]; try omega
  · blk_simp [idx20]; try omega

theorem G21_blk (c : Dev nD) (t : Fin cfg0.N) (y : S1x32x256.Idx) (z : S5x256x256.Idx) (h0 : (z 0).val = t.val / 8)
    (h1 : (z 1).val = t.val % 8 * 32 + (y 1).val) (h2 : (z 2).val = (y 2).val) :
    (winAt m c t).G21 rowsIota y = A21 m c z := by
  have e1 : ptOf (z 0) (z 1) = t := Fin.ext (by
    have := t.isLt
    have hN : cfg0.N = 40 := rfl
    have h5 : (y 1).val < 32 := (y 1).isLt
    show 8 * (z 0).val + (z 1).val / 32 = t.val; omega)
  have e2 : rowTrip (z 1) = tripOf (y 1) := Fin.ext (by
    have h5 : (y 1).val < 32 := (y 1).isLt
    show (z 1).val % 32 = (y 1).val; omega)
  unfold A21 Win.G21
  rw [e1, e2]
  congr 1
  rw [Fin.ext h2]

theorem idx21 : ∀ t : Fin cfg0.N, win0_19.index t = ![t.val / 8, t.val % 8, 0] := by decide +kernel

theorem arr21 (c : Dev nD) (r : PUnit × MemSt nD τ sig (Elt F)) (h : Pipeline.RDat.FramePost (cfgs 0) (fun c => rdat m c) (V m) r) :
    r.2.mem ((c : Thread nD τ).loc main_v22_8) = A21 m c := by
  obtain ⟨after, hL, hA⟩ := h.exists_exact c
  refine (hA 19).trans ?_
  refine Pipeline.Dat.arrAt_eq_of_covers _ 19 _ (by decide +kernel) fun t hf y => ?_
  have hX := (dats m 0 c).toRRel_leaves (w := 19) rfl (hL 19 t hf)
  have hX : after 19 t = (winAt m c t).G21 rowsIota := hX
  blk_simp
  refine (congrFun hX y).trans (G21_blk m c t y _ ?_ ?_ ?_)
  · have b : (y 0).val < 1 := (y 0).isLt
    blk_simp [idx21]; try omega
  · blk_simp [idx21]
  · blk_simp [idx21]; try omega

theorem L19_blk (c : Dev nD) (t : Fin cfg0.N) (y : S1x128x256.Idx) (z : S5x128x256.Idx) (h0 : (z 0).val = t.val / 8)
    (h1 : (z 1).val = (y 1).val) (h2 : (z 2).val = (y 2).val) :
    (winAt m c (rowPt t (y 2))).vs (rowTrip (y 2)) (ix2 (y 1) 0) = A19 m c z := by
  have e1 : ptOf (z 0) (z 2) = rowPt t (y 2) := Fin.ext (by
    show 8 * (z 0).val + (z 2).val / 32 = t.val / 8 * 8 + (y 2).val / 32; omega)
  have e2 : rowTrip (z 2) = rowTrip (y 2) := Fin.ext (by
    show (z 2).val % 32 = (y 2).val % 32; omega)
  unfold A19
  rw [e1, e2, show z 1 = y 1 from Fin.ext h1]

theorem idx19 : ∀ t : Fin cfg0.N, win0_17.index t = ![t.val / 8, 0, 0] := by decide +kernel

theorem arr19 (c : Dev nD) (r : PUnit × MemSt nD τ sig (Elt F)) (h : Pipeline.RDat.FramePost (cfgs 0) (fun c => rdat m c) (V m) r) :
    r.2.mem ((c : Thread nD τ).loc main_v22_6) = A19 m c := by
  obtain ⟨after, hL, hA⟩ := h.exists_exact c
  refine (hA 17).trans ?_
  refine Pipeline.Dat.arrAt_eq_of_covers _ 17 _ (by decide +kernel) fun t hf y => ?_
  have h7 := flush17 t hf
  have hX := (dats m 0 c).toRRel_leaves (w := 17) rfl (hL 17 t hf)
  have hX : ∀ (r : Fin 128) (x : Fin 256), x.val < 32 * (t.val % 8 + 1) →
      (after 17 t : S1x128x256.Idx → Elt F .f32) (ix3 0 r x) = (winAt m c (rowPt t x)).vs (rowTrip x) (ix2 r 0) := hX
  have e0 : (y : S1x128x256.Idx) = ix3 (n0 := 1) (n1 := 128) (n2 := 256) 0 (y 1) (y 2) := (eq_ix3 (y : S1x128x256.Idx)).trans (congrArg (fun a => ix3 (n0 := 1) (n1 := 128) (n2 := 256) a (y 1) (y 2)) (Fin.ext (by have h := (y 0).isLt; exact Nat.lt_one_iff.mp h)))
  blk_simp
  have hx := hX (y 1) (y 2) (by have h : (y 2).val < 256 := (y 2).isLt; omega)
  refine (congrArg (after 17 t) e0).trans (hx.trans (L19_blk m c t y _ ?_ ?_ ?_))
  · have b : (y 0).val < 1 := (y 0).isLt
    blk_simp [idx19]; try omega
  · blk_simp [idx19]; try omega
  · blk_simp [idx19]; try omega

end Cert.KernelIdeal.Hand.Val

end
-- ==== Proof.SpecA.lean ====
/-
  What the attend call's arrays hold, in the words of the specification.
-/
module

public import proofs.«01_k».proof.Proof.Spec
public import proofs.«01_k».proof.Defs

@[expose] public section

noncomputable section

namespace Cert.Spec

open Idealize.ShloMosaic

variable (A : Arg)

/-- The residual output. -/
def Arg.a13 : Cert.KernelIdeal.S5x256x256x128.Idx → EReal := fun x => A.out (x 0) (x 1) (x 2) (x 3)
/-- The queries' codes. -/
def Arg.a14 : Cert.KernelIdeal.S5x256x128x256.Idx → BitVec 8 := fun x => i8 (A.rco (x 0) (x 1) (x 3) (hd (x 2)) A.wq A.sq (pl (x 2)))
/-- The queries' scales. -/
def Arg.a15 : Cert.KernelIdeal.S5x256x4x256.Idx → EReal := fun x => A.rsc (x 0) (x 1) (x 3) (x 2) A.wq A.sq
/-- The keys' codes. -/
def Arg.a16 : Cert.KernelIdeal.S5x256x128x256.Idx → BitVec 8 := fun x => i8 (A.rco (x 0) (x 1) (x 3) (hd (x 2)) A.wk A.sk (pl (x 2)))
/-- The keys' scales. -/
def Arg.a17 : Cert.KernelIdeal.S5x256x4x256.Idx → EReal := fun x => A.rsc (x 0) (x 1) (x 3) (x 2) A.wk A.sk
/-- The values' codes. -/
def Arg.a18 : Cert.KernelIdeal.S5x256x128x256.Idx → BitVec 8 := fun x => i8 (A.vco (x 0) (x 1) (x 3) (hd (x 2)) (pl (x 2)))
/-- The values' scales. -/
def Arg.a19 : Cert.KernelIdeal.S5x128x256.Idx → EReal := fun x => A.vsc (x 0) (x 2) (hd (x 1)) (pl (x 1))
/-- The gated rows' codes. -/
def Arg.a20 : Cert.KernelIdeal.S5x256x256x128.Idx → BitVec 8 := fun x => i8 (A.yco (x 0) (x 1) (x 2) (x 3))
/-- The gated rows' scales. -/
def Arg.a21 : Cert.KernelIdeal.S5x256x256.Idx → EReal := fun x => A.ysc (x 0) (x 1) (x 2)

end Cert.Spec

end
-- ==== Proof.KPost.lean ====
/-
  The kernel's launch at the extended reals: the nine arrays it leaves are the specification's, and its arguments are kept.
-/
module

public import proofs.«01_k».proof.Proof.KWin
public import proofs.«01_k».proof.Proof.KVal
public import proofs.«01_k».proof.Proof.KArr
public import proofs.«01_k».proof.Proof.SpecA

@[expose] public section

set_option maxRecDepth 16384

noncomputable section

namespace Cert.KernelIdeal.Hand.Val

open Cert.KernelIdeal Cert.KernelIdeal.Gen Cert.KernelIdeal.Hand Cert.Spec
open Idealize.ShloMosaic Idealize.ShloMosaic.TcCoe Idealize.SL.Sem

variable (m : (ℓ : Loc nD τ sig) → Buf (Elt Ideal) ℓ) (ρ : Dev nD → PrngReg) (c : Dev nD)

/-- A row's windows fit the arguments. -/
theorem fits_row (b : Fin 5) (i : Fin 256) : Fits (winAt m c (ptOf b i)) (rowTrip i) (argK m c) b i := by
  have e := fits m c (ptOf b i) ⟨i.val % 32, Nat.mod_lt _ (by decide)⟩
  have hb : bOf (ptOf b i) = b := Fin.ext (by show (8 * b.val + i.val / 32) / 8 = b.val; omega)
  have hi : iOf (ptOf b i) ⟨i.val % 32, Nat.mod_lt _ (by decide)⟩ = i := Fin.ext (by show (8 * b.val + i.val / 32) % 8 * 32 + i.val % 32 = i.val; omega)
  rw [hb, hi] at e
  exact e

theorem a13_eq (T : Tame (argK m c)) : A13 m c = (argK m c).a13 := funext fun x => T13_at (fits_row m c (x 0) (x 1)) T (x 3) (x 2)
theorem a14_eq (T : Tame (argK m c)) : A14 m c = (argK m c).a14 := funext fun x => T14_at (fits_row m c (x 0) (x 1)) T (x 2) (x 3)
theorem a15_eq (T : Tame (argK m c)) : A15 m c = (argK m c).a15 := funext fun x => T15_at (fits_row m c (x 0) (x 1)) T (x 2) (x 3)
theorem a16_eq (T : Tame (argK m c)) : A16 m c = (argK m c).a16 := funext fun x => T16_at (fits_row m c (x 0) (x 1)) T (x 2) (x 3)
theorem a17_eq (T : Tame (argK m c)) : A17 m c = (argK m c).a17 := funext fun x => T17_at (fits_row m c (x 0) (x 1)) T (x 2) (x 3)
theorem a18_eq (T : Tame (argK m c)) : A18 m c = (argK m c).a18 := funext fun x => T18_at (fits_row m c (x 0) (x 1)) T (x 2) (x 3)
theorem a19_eq (T : Tame (argK m c)) : A19 m c = (argK m c).a19 := funext fun x => vs_at (fits_row m c (x 0) (x 2)) T (x 1)
theorem a20_eq (T : Tame (argK m c)) : A20 m c = (argK m c).a20 := funext fun x => T20_at (fits_row m c (x 0) (x 1)) T (x 3) (x 2)
theorem a21_eq (T : Tame (argK m c)) : A21 m c = (argK m c).a21 := funext fun x => T21_at (fits_row m c (x 0) (x 1)) T (x 2)

/-- A launch's end, one device's arrays. -/
def Post (m : (ℓ : Loc nD τ sig) → Buf (Elt Ideal) ℓ) (r : PUnit × MemSt nD τ sig (Elt Ideal)) : Prop := ∀ c : Dev nD,
      r.2.mem ((c.tc : Thread nD τ).loc main_v22_0) = (argK m c).a13
      ∧ r.2.mem ((c.tc : Thread nD τ).loc main_v22_1) = (argK m c).a14
      ∧ r.2.mem ((c.tc : Thread nD τ).loc main_v22_2) = (argK m c).a15
      ∧ r.2.mem ((c.tc : Thread nD τ).loc main_v22_3) = (argK m c).a16
      ∧ r.2.mem ((c.tc : Thread nD τ).loc main_v22_4) = (argK m c).a17
      ∧ r.2.mem ((c.tc : Thread nD τ).loc main_v22_5) = (argK m c).a18
      ∧ r.2.mem ((c.tc : Thread nD τ).loc main_v22_6) = (argK m c).a19
      ∧ r.2.mem ((c.tc : Thread nD τ).loc main_v22_7) = (argK m c).a20
      ∧ r.2.mem ((c.tc : Thread nD τ).loc main_v22_8) = (argK m c).a21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)

set_option maxHeartbeats 4000000 in
theorem post (T : ∀ c, Tame (argK m c)) (r : PUnit × MemSt nD τ sig (Elt Ideal)) (h : Pipeline.RDat.FramePost (cfgs 0) (fun c => rdat m c) (V m) r) : Post m r := fun c =>
  ⟨(arr13 m c r h).trans (a13_eq m c (T c)), (arr14 m c r h).trans (a14_eq m c (T c)), (arr15 m c r h).trans (a15_eq m c (T c)), (arr16 m c r h).trans (a16_eq m c (T c)), (arr17 m c r h).trans (a17_eq m c (T c)), (arr18 m c r h).trans (a18_eq m c (T c)), (arr19 m c r h).trans (a19_eq m c (T c)), (arr20 m c r h).trans (a20_eq m c (T c)), (arr21 m c r h).trans (a21_eq m c (T c)),
   (Pipeline.RDat.FramePost.arr_in h c 0 rfl).trans ((A_eq m c 0).trans (V_main_arg0 m c)), (Pipeline.RDat.FramePost.arr_in h c 1 rfl).trans ((A_eq m c 1).trans (V_main_arg1 m c)), (Pipeline.RDat.FramePost.arr_in h c 2 rfl).trans ((A_eq m c 2).trans (V_main_arg2 m c)), (Pipeline.RDat.FramePost.arr_in h c 3 rfl).trans ((A_eq m c 3).trans (V_main_arg3 m c)), (Pipeline.RDat.FramePost.arr_in h c 4 rfl).trans ((A_eq m c 4).trans (V_main_arg4 m c)), ((h c).2 main_arg5 (Pipeline.mem_restRefs_of main_arg5 (by decide) (by decide))).trans (V_main_arg5 m c), ((h c).2 main_arg6 (Pipeline.mem_restRefs_of main_arg6 (by decide) (by decide))).trans (V_main_arg6 m c), ((h c).2 main_arg7 (Pipeline.mem_restRefs_of main_arg7 (by decide) (by decide))).trans (V_main_arg7 m c), ((h c).2 main_arg8 (Pipeline.mem_restRefs_of main_arg8 (by decide) (by decide))).trans (V_main_arg8 m c), ((h c).2 main_arg9 (Pipeline.mem_restRefs_of main_arg9 (by decide) (by decide))).trans (V_main_arg9 m c), ((h c).2 main_arg10 (Pipeline.mem_restRefs_of main_arg10 (by decide) (by decide))).trans (V_main_arg10 m c), ((h c).2 main_arg11 (Pipeline.mem_restRefs_of main_arg11 (by decide) (by decide))).trans (V_main_arg11 m c), ((h c).2 main_arg12 (Pipeline.mem_restRefs_of main_arg12 (by decide) (by decide))).trans (V_main_arg12 m c), ((h c).2 main_arg13 (Pipeline.mem_restRefs_of main_arg13 (by decide) (by decide))).trans (V_main_arg13 m c), ((h c).2 main_arg14 (Pipeline.mem_restRefs_of main_arg14 (by decide) (by decide))).trans (V_main_arg14 m c), ((h c).2 main_arg15 (Pipeline.mem_restRefs_of main_arg15 (by decide) (by decide))).trans (V_main_arg15 m c), ((h c).2 main_arg16 (Pipeline.mem_restRefs_of main_arg16 (by decide) (by decide))).trans (V_main_arg16 m c)⟩

/-- The kernel's run, with its results. -/
theorem run_post (T : ∀ c, Tame (argK m c)) : θ_run defs (onTc (τ := τ) (main (F := Ideal))) (s₀ m ρ) (Post m) :=
  (θ_run defs _ _).mono (fun r h => post m T r h.1) (run_main m ρ)

end Cert.KernelIdeal.Hand.Val

end
-- ==== Proof.RVal.lean ====
/-
  The reference's named intermediates at an index.
-/
module

public import proofs.«01_k».proof.Proof.Gen.ReferenceIdeal.Run
public import proofs.«01_k».proof.Proof.Row
public import Idealize.ShloMosaic.Lib.Pointwise
public import Idealize.ShloMosaic.PureOps.Reduce

@[expose] public section

set_option maxRecDepth 16384

noncomputable section

namespace Cert.ReferenceIdeal.Hand

open Cert.ReferenceIdeal Cert.ReferenceIdeal.Gen Cert.ReferenceIdeal.Value Cert.Spec
open Idealize.ShloMosaic Idealize.ShloMosaic.TcCoe

/-- The arguments' elements. -/
def argOf (V0 : Valuation τ sig (Elt Ideal)) : Arg where
  x a b c d := (V0 (Proc.devRef .tc main_arg0) : S5x256x256x128.Idx → EReal) (ix4 a b c d)
  c a b c d := (V0 (Proc.devRef .tc main_arg1) : S5x256x256x128.Idx → BitVec 8) (ix4 a b c d)
  s a b c := (V0 (Proc.devRef .tc main_arg2) : S5x256x256.Idx → EReal) (ix3 a b c)
  ma a b c := (V0 (Proc.devRef .tc main_arg3) : S5x256x256.Idx → BitVec 8) (ix3 a b c)
  bi a b c d := (V0 (Proc.devRef .tc main_arg4) : S5x4x256x256.Idx → EReal) (ix4 a b c d)
  wq a b c := (V0 (Proc.devRef .tc main_arg5) : S128x4x32.Idx → BitVec 8) (ix3 a b c)
  sq a b := (V0 (Proc.devRef .tc main_arg6) : S4x32.Idx → EReal) (ix2 a b)
  wk a b c := (V0 (Proc.devRef .tc main_arg7) : S128x4x32.Idx → BitVec 8) (ix3 a b c)
  sk a b := (V0 (Proc.devRef .tc main_arg8) : S4x32.Idx → EReal) (ix2 a b)
  wv a b c := (V0 (Proc.devRef .tc main_arg9) : S128x4x32.Idx → BitVec 8) (ix3 a b c)
  sv a b := (V0 (Proc.devRef .tc main_arg10) : S4x32.Idx → EReal) (ix2 a b)
  wg a b c := (V0 (Proc.devRef .tc main_arg11) : S128x4x32.Idx → BitVec 8) (ix3 a b c)
  sg a b := (V0 (Proc.devRef .tc main_arg12) : S4x32.Idx → EReal) (ix2 a b)
  bg a b := (V0 (Proc.devRef .tc main_arg13) : S4x32.Idx → EReal) (ix2 a b)
  wo a b c := (V0 (Proc.devRef .tc main_arg14) : S4x32x128.Idx → BitVec 8) (ix3 a b c)
  so a := (V0 (Proc.devRef .tc main_arg15) : S128.Idx → EReal) (ix1 a)
  bo a := (V0 (Proc.devRef .tc main_arg16) : S128.Idx → EReal) (ix1 a)

variable (b : Fin 5) (i j x : Fin 256) (h : Fin 4) (d : Fin 32) (r n : Fin 128)

theorem g13 (a1 : IVec S5x256x256x128 8) (a2 : FVec Ideal S5x256x256 .f32) (a5 : IVec S128x4x32 8) (a6 : FVec Ideal S4x32 .f32) :
    (mulf (mulf (Host.dotGeneral dot_S5x256x256x128_S128x4x32_S5x256x256x4x32_3_0_012_12_n_n none (truncf .bf16 (sitofp .f32 (extsi 32 a1 natLt_8_32)) bitsLt_bf16_f32) (truncf .bf16 (sitofp .f32 (extsi 32 a5 natLt_8_32)) bitsLt_bf16_f32)) (broadcastInDim S5x256x256x4x32 ![0, 1, 2, 3, 4] bcast_S5x256x256x1x1_S5x256x256x4x32_0_1_2_3_4 (broadcastInDim S5x256x256x1x1 ![0, 1, 2] bcast_S5x256x256_S5x256x256x1x1_0_1_2 a2))) (broadcastInDim S5x256x256x4x32 ![0, 1, 2, 3, 4] bcast_S1x1x1x4x32_S5x256x256x4x32_0_1_2_3_4 (broadcastInDim S1x1x1x4x32 ![3, 4] bcast_S4x32_S1x1x1x4x32_3_4 a6)) : S5x256x256x4x32.Idx → EReal) (ix5 b i j h d) = (∑ x, num (a1 (ix4 b i j x)) * num (a5 (ix3 x h d))) * a2 (ix3 b i j) * a6 (ix2 h d) := by
  pointwise []
  simp only [sitofp_ext]

theorem v13_at (V0 : Valuation τ sig (Elt Ideal)) :
    (res_main_v13 V0 : S5x256x256x4x32.Idx → EReal) (ix5 b i j h d) = (argOf V0).proj b i j h (argOf V0).wq (argOf V0).sq d := by
  unfold res_main_v13 res_main_v3
  exact g13 b i j h d _ _ _ _

theorem v23_at (V0 : Valuation τ sig (Elt Ideal)) :
    (res_main_v23 V0 : S5x256x256x4x32.Idx → EReal) (ix5 b i j h d) = (argOf V0).proj b i j h (argOf V0).wk (argOf V0).sk d := by
  unfold res_main_v23 res_main_v3
  exact g13 b i j h d _ _ _ _

theorem v33_at (V0 : Valuation τ sig (Elt Ideal)) :
    (res_main_v33 V0 : S5x256x256x4x32.Idx → EReal) (ix5 b i j h d) = (argOf V0).proj b i j h (argOf V0).wv (argOf V0).sv d := by
  unfold res_main_v33 res_main_v3
  exact g13 b i j h d _ _ _ _

theorem red4 (v : S5x256x256x4x32.Idx → EReal) :
    Host.reduce (α := EReal) max v (fun _ => Ideal.ofBits .f32 0xFF800000#32) reducesTo_S5x256x256x4x32_S5x256x256x4_d4 h_S_ (ix4 b i j h)
      = Finset.univ.fold max (Ideal.ofBits .f32 0xFF800000#32) fun d : Fin 32 => v (ix5 b i j h d) := by
  rw [Host.reduce_eq_fold_single (α := EReal) max v _ _ (by decide) h_S_]
  congr 1; funext d; simp only [Function.comp]; congr 1; funext a; fin_cases a <;> rfl

theorem red2 (v : S5x256x256x4x32.Idx → EReal) :
    Host.reduce (α := EReal) max v (fun _ => Ideal.ofBits .f32 0xFF800000#32) reducesTo_S5x256x256x4x32_S5x256x4x32_d2 h_S_ (ix4 b i h d)
      = Finset.univ.fold max (Ideal.ofBits .f32 0xFF800000#32) fun j : Fin 256 => v (ix5 b i j h d) := by
  rw [Host.reduce_eq_fold_single (α := EReal) max v _ _ (by decide) h_S_]
  congr 1; funext d; simp only [Function.comp]; congr 1; funext a; fin_cases a <;> rfl

theorem redS (v : S5x256x4x256x256.Idx → EReal) :
    Host.reduce (α := EReal) max v (fun _ => Ideal.ofBits .f32 0xFF800000#32) reducesTo_S5x256x4x256x256_S5x256x4x256_d4 h_S_ (ix4 b i h j)
      = Finset.univ.fold max (Ideal.ofBits .f32 0xFF800000#32) fun x : Fin 256 => v (ix5 b i h j x) := by
  rw [Host.reduce_eq_fold_single (α := EReal) max v _ _ (by decide) h_S_]
  congr 1; funext d; simp only [Function.comp]; congr 1; funext a; fin_cases a <;> rfl

theorem redY (v : S5x256x256x128.Idx → EReal) :
    Host.reduce (α := EReal) max v (fun _ => Ideal.ofBits .f32 0xFF800000#32) reducesTo_S5x256x256x128_S5x256x256_d3 h_S_ (ix3 b i j)
      = Finset.univ.fold max (Ideal.ofBits .f32 0xFF800000#32) fun r : Fin 128 => v (ix4 b i j r) := by
  rw [Host.reduce_eq_fold_single (α := EReal) max v _ _ (by decide) h_S_]
  congr 1; funext d; simp only [Function.comp]; congr 1; funext a; fin_cases a <;> rfl

theorem g60 (m : FVec Ideal S5x256x256x4x1 .f32) :
    (select (cmpf .oeq m (broadcastInDim S5x256x256x4x1 ![] bcast_S_S5x256x256x4x1 (constant S_ .f32 0x00000000#32))) (broadcastInDim S5x256x256x4x1 ![] bcast_S_S5x256x256x4x1 (id (constant S_ .f32 0x3F800000#32 : FVec Ideal S_ .f32))) (Host.divf m (broadcastInDim S5x256x256x4x1 ![] bcast_S_S5x256x256x4x1 (constant S_ .f32 0x42FE0000#32))) : S5x256x256x4x1.Idx → EReal) (ix5 b i j h 0) = scale (m (ix5 b i j h 0)) := by
  simp only [id_eq]
  pointwise []
  simp only [bits_0, bits_1, bits_127]
  rfl

theorem g90 (m : FVec Ideal S5x256x1x4x32 .f32) :
    (select (cmpf .oeq m (broadcastInDim S5x256x1x4x32 ![] bcast_S_S5x256x1x4x32 (constant S_ .f32 0x00000000#32))) (broadcastInDim S5x256x1x4x32 ![] bcast_S_S5x256x1x4x32 (id (constant S_ .f32 0x3F800000#32 : FVec Ideal S_ .f32))) (Host.divf m (broadcastInDim S5x256x1x4x32 ![] bcast_S_S5x256x1x4x32 (constant S_ .f32 0x42FE0000#32))) : S5x256x1x4x32.Idx → EReal) (ix5 b i 0 h d) = scale (m (ix5 b i 0 h d)) := by
  simp only [id_eq]
  pointwise []
  simp only [bits_0, bits_1, bits_127]
  rfl

theorem g158 (m : FVec Ideal S5x256x256x1 .f32) :
    (select (cmpf .oeq m (broadcastInDim S5x256x256x1 ![] bcast_S_S5x256x256x1 (constant S_ .f32 0x00000000#32))) (broadcastInDim S5x256x256x1 ![] bcast_S_S5x256x256x1 (id (constant S_ .f32 0x3F800000#32 : FVec Ideal S_ .f32))) (Host.divf m (broadcastInDim S5x256x256x1 ![] bcast_S_S5x256x256x1 (constant S_ .f32 0x42FE0000#32))) : S5x256x256x1.Idx → EReal) (ix4 b i j 0) = scale (m (ix4 b i j 0)) := by
  simp only [id_eq]
  pointwise []
  simp only [bits_0, bits_1, bits_127]
  rfl

theorem g66 (q : FVec Ideal S5x256x256x4x32 .f32) (s : FVec Ideal S5x256x256x4x1 .f32) :
    (trunci 8 (fptosi 32 (minimumf (broadcastInDim S5x256x256x4x32 ![] bcast_S_S5x256x256x4x32 (id (constant S_ .f32 0x42FE0000#32 : FVec Ideal S_ .f32))) (maximumf (broadcastInDim S5x256x256x4x32 ![] bcast_S_S5x256x256x4x32 (id (constant S_ .f32 0xC2FE0000#32 : FVec Ideal S_ .f32))) (Host.roundeven (Host.divf q (broadcastInDim S5x256x256x4x32 ![0, 1, 2, 3, 4] bcast_S5x256x256x4x1_S5x256x256x4x32_0_1_2_3_4 s)))))) natLt_8_32 : S5x256x256x4x32.Idx → BitVec 8) (ix5 b i j h d) = i8 (code (Ideal.div (q (ix5 b i j h d)) (s (ix5 b i j h 0)))) := by
  simp only [id_eq]
  pointwise []
  rw [bits_127, bits_m127]
  rfl

theorem g96 (q : FVec Ideal S5x256x256x4x32 .f32) (s : FVec Ideal S5x256x1x4x32 .f32) :
    (trunci 8 (fptosi 32 (minimumf (broadcastInDim S5x256x256x4x32 ![] bcast_S_S5x256x256x4x32 (id (constant S_ .f32 0x42FE0000#32 : FVec Ideal S_ .f32))) (maximumf (broadcastInDim S5x256x256x4x32 ![] bcast_S_S5x256x256x4x32 (id (constant S_ .f32 0xC2FE0000#32 : FVec Ideal S_ .f32))) (Host.roundeven (Host.divf q (broadcastInDim S5x256x256x4x32 ![0, 1, 2, 3, 4] bcast_S5x256x1x4x32_S5x256x256x4x32_0_1_2_3_4 s)))))) natLt_8_32 : S5x256x256x4x32.Idx → BitVec 8) (ix5 b i j h d) = i8 (code (Ideal.div (q (ix5 b i j h d)) (s (ix5 b i 0 h d)))) := by
  simp only [id_eq]
  pointwise []
  rw [bits_127, bits_m127]
  rfl

theorem g55b (m : FVec Ideal S5x256x256x4 .f32) :
    (broadcastInDim S5x256x256x4x1 ![0, 1, 2, 3] bcast_S5x256x256x4_S5x256x256x4x1_0_1_2_3 m : S5x256x256x4x1.Idx → EReal) (ix5 b i j h 0) = m (ix4 b i j h) := by
  pointwise []

theorem g55 (q : FVec Ideal S5x256x256x4x32 .f32) :
    (broadcastInDim S5x256x256x4x1 ![0, 1, 2, 3] bcast_S5x256x256x4_S5x256x256x4x1_0_1_2_3 (Host.reduce (FloatOps.maximumf (F := Ideal) (φ := .f32)) (Host.absf q : FVec Ideal _ .f32) (constant S_ .f32 0xFF800000#32 : FVec Ideal S_ .f32) reducesTo_S5x256x256x4x32_S5x256x256x4_d4 h_S_) : S5x256x256x4x1.Idx → EReal) (ix5 b i j h 0) = top (fun d => mag (q (ix5 b i j h d))) := by
  refine (g55b b i j h _).trans ((red4 b i j h (Host.absf q)).trans ?_)
  rw [bits_bot]; rfl

theorem g85b (m : FVec Ideal S5x256x4x32 .f32) :
    (broadcastInDim S5x256x1x4x32 ![0, 1, 3, 4] bcast_S5x256x4x32_S5x256x1x4x32_0_1_3_4 m : S5x256x1x4x32.Idx → EReal) (ix5 b i 0 h d) = m (ix4 b i h d) := by
  pointwise []

theorem g85 (q : FVec Ideal S5x256x256x4x32 .f32) :
    (broadcastInDim S5x256x1x4x32 ![0, 1, 3, 4] bcast_S5x256x4x32_S5x256x1x4x32_0_1_3_4 (Host.reduce (FloatOps.maximumf (F := Ideal) (φ := .f32)) (Host.absf q : FVec Ideal _ .f32) (constant S_ .f32 0xFF800000#32 : FVec Ideal S_ .f32) reducesTo_S5x256x256x4x32_S5x256x4x32_d2 h_S_) : S5x256x1x4x32.Idx → EReal) (ix5 b i 0 h d) = top (fun j => mag (q (ix5 b i j h d))) := by
  refine (g85b b i h d _).trans ((red2 b i h d (Host.absf q)).trans ?_)
  rw [bits_bot]; rfl

theorem g153b (m : FVec Ideal S5x256x256 .f32) :
    (broadcastInDim S5x256x256x1 ![0, 1, 2] bcast_S5x256x256_S5x256x256x1_0_1_2 m : S5x256x256x1.Idx → EReal) (ix4 b i j 0) = m (ix3 b i j) := by
  pointwise []

theorem g153 (q : FVec Ideal S5x256x256x128 .f32) :
    (broadcastInDim S5x256x256x1 ![0, 1, 2] bcast_S5x256x256_S5x256x256x1_0_1_2 (Host.reduce (FloatOps.maximumf (F := Ideal) (φ := .f32)) (Host.absf q : FVec Ideal _ .f32) (constant S_ .f32 0xFF800000#32 : FVec Ideal S_ .f32) reducesTo_S5x256x256x128_S5x256x256_d3 h_S_) : S5x256x256x1.Idx → EReal) (ix4 b i j 0) = top (fun r => mag (q (ix4 b i j r))) := by
  refine (g153b b i j _).trans ((redY b i j (Host.absf q)).trans ?_)
  rw [bits_bot]; rfl

theorem g67 (s : FVec Ideal S5x256x256x4x1 .f32) :
    ((shapeCast _ s shapeCasts_S5x256x256x4x1_S5x256x256x4 : FVec Ideal S5x256x256x4 .f32) : S5x256x256x4.Idx → EReal) (ix4 b i j h) = s (ix5 b i j h 0) := by
  pointwise []

theorem g97 (s : FVec Ideal S5x256x1x4x32 .f32) :
    ((shapeCast _ s shapeCasts_S5x256x1x4x32_S5x256x4x32 : FVec Ideal S5x256x4x32 .f32) : S5x256x4x32.Idx → EReal) (ix4 b i h d) = s (ix5 b i 0 h d) := by
  pointwise []

theorem v60_at (V0 : Valuation τ sig (Elt Ideal)) :
    (res_main_v60 V0 : S5x256x256x4x1.Idx → EReal) (ix5 b i j h 0) = (argOf V0).rsc b i j h (argOf V0).wq (argOf V0).sq := by
  unfold res_main_v60 res_main_v55
  exact (g60 b i j h _).trans (congrArg scale ((g55 b i j h _).trans (congrArg top (funext fun d => congrArg mag (v13_at b i j h d V0)))))

theorem v67_at (V0 : Valuation τ sig (Elt Ideal)) :
    (res_main_v67 V0 : S5x256x256x4.Idx → EReal) (ix4 b i j h) = (argOf V0).rsc b i j h (argOf V0).wq (argOf V0).sq := by
  unfold res_main_v67
  exact (g67 b i j h _).trans (v60_at b i j h V0)

theorem v66_at (V0 : Valuation τ sig (Elt Ideal)) :
    (res_main_v66 V0 : S5x256x256x4x32.Idx → BitVec 8) (ix5 b i j h d) = i8 ((argOf V0).rco b i j h (argOf V0).wq (argOf V0).sq d) := by
  unfold res_main_v66
  refine (g66 b i j h d _ _).trans ?_
  rw [v13_at, v60_at]
  rfl

theorem v75_at (V0 : Valuation τ sig (Elt Ideal)) :
    (res_main_v75 V0 : S5x256x256x4x1.Idx → EReal) (ix5 b i j h 0) = (argOf V0).rsc b i j h (argOf V0).wk (argOf V0).sk := by
  unfold res_main_v75 res_main_v70
  exact (g60 b i j h _).trans (congrArg scale ((g55 b i j h _).trans (congrArg top (funext fun d => congrArg mag (v23_at b i j h d V0)))))

theorem v82_at (V0 : Valuation τ sig (Elt Ideal)) :
    (res_main_v82 V0 : S5x256x256x4.Idx → EReal) (ix4 b i j h) = (argOf V0).rsc b i j h (argOf V0).wk (argOf V0).sk := by
  unfold res_main_v82
  exact (g67 b i j h _).trans (v75_at b i j h V0)

theorem v81_at (V0 : Valuation τ sig (Elt Ideal)) :
    (res_main_v81 V0 : S5x256x256x4x32.Idx → BitVec 8) (ix5 b i j h d) = i8 ((argOf V0).rco b i j h (argOf V0).wk (argOf V0).sk d) := by
  unfold res_main_v81
  refine (g66 b i j h d _ _).trans ?_
  rw [v23_at, v75_at]
  rfl

theorem v90_at (V0 : Valuation τ sig (Elt Ideal)) :
    (res_main_v90 V0 : S5x256x1x4x32.Idx → EReal) (ix5 b i 0 h d) = (argOf V0).vsc b i h d := by
  unfold res_main_v90 res_main_v85
  exact (g90 b i h d _).trans (congrArg scale ((g85 b i h d _).trans (congrArg top (funext fun j => congrArg mag (v33_at b i j h d V0)))))

theorem v97_at (V0 : Valuation τ sig (Elt Ideal)) :
    (res_main_v97 V0 : S5x256x4x32.Idx → EReal) (ix4 b i h d) = (argOf V0).vsc b i h d := by
  unfold res_main_v97
  exact (g97 b i h d _).trans (v90_at b i h d V0)

theorem v96_at (V0 : Valuation τ sig (Elt Ideal)) :
    (res_main_v96 V0 : S5x256x256x4x32.Idx → BitVec 8) (ix5 b i j h d) = i8 ((argOf V0).vco b i j h d) := by
  unfold res_main_v96
  refine (g96 b i j h d _ _).trans ?_
  rw [v33_at, v90_at]
  rfl

theorem g125 (a3 : IVec S5x256x256 8) (a4 : FVec Ideal S5x4x256x256 .f32) (q k : IVec S5x256x256x4x32 8) (qs ks : FVec Ideal S5x256x256x4 .f32) :
    (select (broadcastInDim S5x256x4x256x256 ![0, 1, 2, 3, 4] bcast_S5x256x1x1x256_S5x256x4x256x256_0_1_2_3_4 (cmpi .ne (broadcastInDim S5x256x1x1x256 ![0, 1, 4] bcast_S5x256x256_S5x256x1x1x256_0_1_4 a3) (broadcastInDim S5x256x1x1x256 ![] bcast_S_S5x256x1x1x256 (constantI S_ 8 0#8)))) (Host.divf (addf (Host.divf (mulf (mulf (Host.dotGeneral dot_S5x256x256x4x32_S5x256x256x4x32_S5x256x4x256x256_4_4_2_2_013_013 none (truncf .bf16 (sitofp .f32 (extsi 32 q natLt_8_32)) bitsLt_bf16_f32) (truncf .bf16 (sitofp .f32 (extsi 32 k natLt_8_32)) bitsLt_bf16_f32)) (broadcastInDim S5x256x4x256x256 ![0, 1, 2, 3, 4] bcast_S5x256x4x256x1_S5x256x4x256x256_0_1_2_3_4 (broadcastInDim S5x256x4x256x1 ![0, 1, 2, 3] bcast_S5x256x4x256_S5x256x4x256x1_0_1_2_3 (transpose S5x256x4x256 [0, 1, 3, 2] qs transposes_S5x256x256x4_S5x256x4x256_0_1_3_2)))) (broadcastInDim S5x256x4x256x256 ![0, 1, 2, 3, 4] bcast_S5x256x4x1x256_S5x256x4x256x256_0_1_2_3_4 (broadcastInDim S5x256x4x1x256 ![0, 1, 2, 4] bcast_S5x256x4x256_S5x256x4x1x256_0_1_2_4 (transpose S5x256x4x256 [0, 1, 3, 2] ks transposes_S5x256x256x4_S5x256x4x256_0_1_3_2)))) (broadcastInDim S5x256x4x256x256 ![] bcast_S_S5x256x4x256x256 (Host.sqrt (constant S_ .f32 0x42000000#32)))) (broadcastInDim S5x256x4x256x256 ![0, 1, 2, 3, 4] bcast_S5x1x4x256x256_S5x256x4x256x256_0_1_2_3_4 (broadcastInDim S5x1x4x256x256 ![0, 2, 3, 4] bcast_S5x4x256x256_S5x1x4x256x256_0_2_3_4 a4))) (broadcastInDim S5x256x4x256x256 ![] bcast_S_S5x256x4x256x256 (Host.log (constant S_ .f32 0x40000000#32)))) (broadcastInDim S5x256x4x256x256 ![] bcast_S_S5x256x4x256x256 (id (constant S_ .f32 0xFF800000#32 : FVec Ideal S_ .f32))) : S5x256x4x256x256.Idx → EReal) (ix5 b i h j x) = if a3 (ix3 b i x) ≠ 0 then Ideal.div (Ideal.div ((∑ d, num (q (ix5 b i j h d)) * num (k (ix5 b i x h d))) * qs (ix4 b i j h) * ks (ix4 b i x h)) ((Real.sqrt 32 : ℝ) : EReal) + a4 (ix4 b h j x)) ((Real.log 2 : ℝ) : EReal) else ⊥ := by
  simp only [id_eq]
  pointwise []
  simp only [sitofp_ext, bits_32, bits_2, bits_bot, sqrt_32, log_2]
  exact sel_ne _ _ _ _

theorem v125_at (V0 : Valuation τ sig (Elt Ideal)) :
    (res_main_v125 V0 : S5x256x4x256x256.Idx → EReal) (ix5 b i h j x) = (argOf V0).s2 b i j h x := by
  unfold res_main_v125
  rw [g125]
  simp only [v66_at, v81_at, v67_at, v82_at, Arg.num_rco]
  rfl

theorem g134m (q : FVec Ideal S5x256x4x256x256 .f32) (m : FVec Ideal S5x256x4x256 .f32) :
    (Host.exp (mulf (subf q (broadcastInDim S5x256x4x256x256 ![0, 1, 2, 3, 4] bcast_S5x256x4x256x1_S5x256x4x256x256_0_1_2_3_4 (Host.ceil (broadcastInDim S5x256x4x256x1 ![0, 1, 2, 3] bcast_S5x256x4x256_S5x256x4x256x1_0_1_2_3 m)))) (broadcastInDim S5x256x4x256x256 ![] bcast_S_S5x256x4x256x256 (Host.log (constant S_ .f32 0x40000000#32)))) : S5x256x4x256x256.Idx → EReal) (ix5 b i h j x) = Ideal.exp ((q (ix5 b i h j x) - Ideal.liftRound Int.ceil (m (ix4 b i h j))) * ((Real.log 2 : ℝ) : EReal)) := by
  pointwise []
  simp only [bits_2, log_2]

theorem v134_at (V0 : Valuation τ sig (Elt Ideal)) :
    (res_main_v134 V0 : S5x256x4x256x256.Idx → EReal) (ix5 b i h j x) = (argOf V0).p b i j h x := by
  unfold res_main_v134
  refine (g134m b i j x h _ _).trans ?_
  have e := redS b i j h (res_main_v125 V0)
  rw [bits_bot] at e
  simp only [v125_at] at e ⊢
  exact congrArg (fun m => Ideal.exp (((argOf V0).s2 b i j h x - Ideal.liftRound Int.ceil m) * ((Real.log 2 : ℝ) : EReal))) e

theorem g150 (v : IVec S5x256x256x4x32 8) (p : FVec Ideal S5x256x4x256x256 .f32) (vs : FVec Ideal S5x256x4x32 .f32) (a13 : FVec Ideal S4x32 .f32) (G : FVec Ideal S5x256x256x4x32 .f32) :
    ((shapeCast _ (mulf (Host.divf (mulf (transpose S5x256x256x4x32 [0, 1, 4, 2, 3] (Host.dotGeneral dot_S5x256x256x4x32_S5x256x4x256x256_S5x256x4x32x256_2_4_4_3_013_012 none (truncf .bf16 (sitofp .f32 (extsi 32 v natLt_8_32)) bitsLt_bf16_f32) (truncf .bf16 p bitsLt_bf16_f32)) transposes_S5x256x4x32x256_S5x256x256x4x32_0_1_4_2_3) (broadcastInDim S5x256x256x4x32 ![0, 1, 2, 3, 4] bcast_S5x256x1x4x32_S5x256x256x4x32_0_1_2_3_4 (broadcastInDim S5x256x1x4x32 ![0, 1, 3, 4] bcast_S5x256x4x32_S5x256x1x4x32_0_1_3_4 vs))) (broadcastInDim S5x256x256x4x32 ![0, 1, 2, 3, 4] bcast_S5x256x256x4x1_S5x256x256x4x32_0_1_2_3_4 (broadcastInDim S5x256x256x4x1 ![0, 1, 2, 3] bcast_S5x256x256x4_S5x256x256x4x1_0_1_2_3 (transpose S5x256x256x4 [0, 1, 3, 2] (Host.reduceAdd p (constant S_ .f32 0x00000000#32) reducesTo_S5x256x4x256x256_S5x256x4x256_d4 h_S_) transposes_S5x256x4x256_S5x256x256x4_0_1_3_2)))) (Host.divf (broadcastInDim S5x256x256x4x32 ![] bcast_S_S5x256x256x4x32 (constant S_ .f32 0x3F800000#32)) (addf (broadcastInDim S5x256x256x4x32 ![] bcast_S_S5x256x256x4x32 (constant S_ .f32 0x3F800000#32)) (Host.exp (Host.negf (addf G (broadcastInDim S5x256x256x4x32 ![0, 1, 2, 3, 4] bcast_S1x1x1x4x32_S5x256x256x4x32_0_1_2_3_4 (broadcastInDim S1x1x1x4x32 ![3, 4] bcast_S4x32_S1x1x1x4x32_3_4 a13))))))) : FVec Ideal S5x256x256x4x32 .f32) shapeCasts_S5x256x256x4x32_S5x256x256x128 : FVec Ideal S5x256x256x128 .f32) : S5x256x256x128.Idx → EReal) (ix4 b i j r) = Ideal.div ((∑ x, num (v (ix5 b i x (hd r) (pl r))) * p (ix5 b i (hd r) j x)) * vs (ix4 b i (hd r) (pl r))) (∑ x, p (ix5 b i (hd r) j x)) * Ideal.div 1 (1 + Ideal.exp (-(G (ix5 b i j (hd r) (pl r)) + a13 (ix2 (hd r) (pl r))))) := by
  pointwise []
  simp only [sitofp_ext, bits_1]
  rfl

theorem v150_at (V0 : Valuation τ sig (Elt Ideal)) :
    (res_main_v150 V0 : S5x256x256x128.Idx → EReal) (ix4 b i j r) = (argOf V0).y b i j (hd r) (pl r) := by
  unfold res_main_v150 res_main_v3
  refine (g150 b i j r _ _ _ _ _).trans ?_
  rw [g13]
  simp only [v96_at, v134_at, v97_at, Arg.num_vco]
  rfl

theorem v158_at (V0 : Valuation τ sig (Elt Ideal)) :
    (res_main_v158 V0 : S5x256x256x1.Idx → EReal) (ix4 b i j 0) = (argOf V0).ysc b i j := by
  unfold res_main_v158 res_main_v153
  exact (g158 b i j _).trans (congrArg scale ((g153 b i j _).trans (congrArg top (funext fun r => congrArg mag (v150_at b i j r V0)))))

theorem g164 (y : FVec Ideal S5x256x256x128 .f32) (s : FVec Ideal S5x256x256x1 .f32) :
    (trunci 8 (fptosi 32 (minimumf (broadcastInDim S5x256x256x128 ![] bcast_S_S5x256x256x128 (id (constant S_ .f32 0x42FE0000#32 : FVec Ideal S_ .f32))) (maximumf (broadcastInDim S5x256x256x128 ![] bcast_S_S5x256x256x128 (id (constant S_ .f32 0xC2FE0000#32 : FVec Ideal S_ .f32))) (Host.roundeven (Host.divf y (broadcastInDim S5x256x256x128 ![0, 1, 2, 3] bcast_S5x256x256x1_S5x256x256x128_0_1_2_3 s)))))) natLt_8_32 : S5x256x256x128.Idx → BitVec 8) (ix4 b i j r) = i8 (code (Ideal.div (y (ix4 b i j r)) (s (ix4 b i j 0)))) := by
  simp only [id_eq]
  pointwise []
  rw [bits_127, bits_m127]
  rfl

theorem v164_at (V0 : Valuation τ sig (Elt Ideal)) :
    (trunci 8 (fptosi 32 (minimumf (broadcastInDim S5x256x256x128 ![] bcast_S_S5x256x256x128 (id (constant S_ .f32 0x42FE0000#32 : FVec Ideal S_ .f32))) (maximumf (broadcastInDim S5x256x256x128 ![] bcast_S_S5x256x256x128 (id (constant S_ .f32 0xC2FE0000#32 : FVec Ideal S_ .f32))) (Host.roundeven (Host.divf (res_main_v150 V0) (broadcastInDim S5x256x256x128 ![0, 1, 2, 3] bcast_S5x256x256x1_S5x256x256x128_0_1_2_3 (res_main_v158 V0))))))) natLt_8_32 : S5x256x256x128.Idx → BitVec 8) (ix4 b i j r) = i8 ((argOf V0).yco b i j r) := by
  refine (g164 b i j r _ _).trans ?_
  rw [v150_at, v158_at]
  rfl

theorem g165 (s : FVec Ideal S5x256x256x1 .f32) :
    (shapeCast S5x256x256 s shapeCasts_S5x256x256x1_S5x256x256 : S5x256x256.Idx → EReal) (ix3 b i j) = s (ix4 b i j 0) := by
  pointwise []

theorem v165_at (V0 : Valuation τ sig (Elt Ideal)) :
    (shapeCast _ (res_main_v158 V0) shapeCasts_S5x256x256x1_S5x256x256 : S5x256x256.Idx → EReal) (ix3 b i j) = (argOf V0).ysc b i j := by
  exact (g165 b i j _).trans (v158_at b i j V0)

theorem g184 (Y : IVec S5x256x256x128 8) (s : FVec Ideal S5x256x256x1 .f32) (a0 : FVec Ideal S5x256x256x128 .bf16) (a14 : IVec S4x32x128 8) (a15 a16 : FVec Ideal S128 .f32) (u : Fin 128 → EReal) (w : EReal) (hY : ∀ r, num (Y (ix4 b i j r)) = u r) (hs : s (ix4 b i j 0) = w) :
    (truncf .bf16 (addf (extf .f32 a0 bitsLt_bf16_f32) (addf (mulf (mulf (Host.dotGeneral dot_S5x256x256x4x32_S4x32x128_S5x256x256x128_43_10_012_2_n_n none (shapeCast _ (truncf .bf16 (sitofp .f32 (extsi 32 (Y) natLt_8_32)) bitsLt_bf16_f32) shapeCasts_S5x256x256x128_S5x256x256x4x32) (truncf .bf16 (sitofp .f32 (extsi 32 a14 natLt_8_32)) bitsLt_bf16_f32)) (broadcastInDim S5x256x256x128 ![0, 1, 2, 3] bcast_S5x256x256x1_S5x256x256x128_0_1_2_3 (broadcastInDim S5x256x256x1 ![0, 1, 2] bcast_S5x256x256_S5x256x256x1_0_1_2 (shapeCast S5x256x256 s shapeCasts_S5x256x256x1_S5x256x256)))) (broadcastInDim S5x256x256x128 ![0, 1, 2, 3] bcast_S1x1x1x128_S5x256x256x128_0_1_2_3 (broadcastInDim S1x1x1x128 ![3] bcast_S128_S1x1x1x128_3 a15))) (broadcastInDim S5x256x256x128 ![0, 1, 2, 3] bcast_S1x1x1x128_S5x256x256x128_0_1_2_3 (broadcastInDim S1x1x1x128 ![3] bcast_S128_S1x1x1x128_3 a16)))) bitsLt_bf16_f32 : S5x256x256x128.Idx → EReal) (ix4 b i j n) = a0 (ix4 b i j n) + ((∑ r, u r * num (a14 (ix3 (hd r) (pl r) n))) * w * a15 (ix1 n) + a16 (ix1 n)) := by
  pointwise []
  simp only [sitofp_ext]
  rw [hs, sum_rows (fun r => u r * num (a14 (ix3 (hd r) (pl r) n)))]
  refine congrArg (fun S => a0 (ix4 b i j n) + (S * w * a15 (ix1 n) + a16 (ix1 n))) ?_
  refine Finset.sum_congr rfl fun e _ => Finset.sum_congr rfl fun k _ => ?_
  rw [hd_mk, pl_mk, hY]

theorem v184_at (V0 : Valuation τ sig (Elt Ideal)) :
    (truncf .bf16 (addf (extf .f32 (V0 (Proc.devRef .tc main_arg0)) bitsLt_bf16_f32) (addf (mulf (mulf (Host.dotGeneral dot_S5x256x256x4x32_S4x32x128_S5x256x256x128_43_10_012_2_n_n none (shapeCast _ (truncf .bf16 (sitofp .f32 (extsi 32 (trunci 8 (fptosi 32 (minimumf (broadcastInDim S5x256x256x128 ![] bcast_S_S5x256x256x128 (id (constant S_ .f32 0x42FE0000#32 : FVec Ideal S_ .f32))) (maximumf (broadcastInDim S5x256x256x128 ![] bcast_S_S5x256x256x128 (id (constant S_ .f32 0xC2FE0000#32 : FVec Ideal S_ .f32))) (Host.roundeven (Host.divf (res_main_v150 V0) (broadcastInDim S5x256x256x128 ![0, 1, 2, 3] bcast_S5x256x256x1_S5x256x256x128_0_1_2_3 (res_main_v158 V0))))))) natLt_8_32) natLt_8_32)) bitsLt_bf16_f32) shapeCasts_S5x256x256x128_S5x256x256x4x32) (truncf .bf16 (sitofp .f32 (extsi 32 (V0 (Proc.devRef .tc main_arg14)) natLt_8_32)) bitsLt_bf16_f32)) (broadcastInDim S5x256x256x128 ![0, 1, 2, 3] bcast_S5x256x256x1_S5x256x256x128_0_1_2_3 (broadcastInDim S5x256x256x1 ![0, 1, 2] bcast_S5x256x256_S5x256x256x1_0_1_2 (shapeCast _ (res_main_v158 V0) shapeCasts_S5x256x256x1_S5x256x256)))) (broadcastInDim S5x256x256x128 ![0, 1, 2, 3] bcast_S1x1x1x128_S5x256x256x128_0_1_2_3 (broadcastInDim S1x1x1x128 ![3] bcast_S128_S1x1x1x128_3 (V0 (Proc.devRef .tc main_arg15))))) (broadcastInDim S5x256x256x128 ![0, 1, 2, 3] bcast_S1x1x1x128_S5x256x256x128_0_1_2_3 (broadcastInDim S1x1x1x128 ![3] bcast_S128_S1x1x1x128_3 (V0 (Proc.devRef .tc main_arg16)))))) bitsLt_bf16_f32 : S5x256x256x128.Idx → EReal) (ix4 b i j n) = (argOf V0).out b i j n := by
  exact g184 b i j n _ _ _ _ _ _ _ _ (fun r => (congrArg num (v164_at b i j r V0)).trans (Arg.num_yco _ b i j r)) (v158_at b i j V0)

theorem g186 (q : IVec S5x256x256x4x32 8) :
    (shapeCast S5x256x128x256 (transpose S5x256x4x32x256 [0, 1, 3, 4, 2] q transposes_S5x256x256x4x32_S5x256x4x32x256_0_1_3_4_2) shapeCasts_S5x256x4x32x256_S5x256x128x256 : S5x256x128x256.Idx → BitVec 8) (ix4 b i r j) = q (ix5 b i j (hd r) (pl r)) := by
  pointwise []
  rfl

theorem v186_at (V0 : Valuation τ sig (Elt Ideal)) :
    (shapeCast _ (transpose S5x256x4x32x256 [0, 1, 3, 4, 2] (res_main_v66 V0) transposes_S5x256x256x4x32_S5x256x4x32x256_0_1_3_4_2) shapeCasts_S5x256x4x32x256_S5x256x128x256 : S5x256x128x256.Idx → BitVec 8) (ix4 b i r j) = i8 ((argOf V0).rco b i j (hd r) (argOf V0).wq (argOf V0).sq (pl r)) := by
  exact (g186 b i j r _).trans (v66_at b i j (hd r) (pl r) V0)

theorem v189_at (V0 : Valuation τ sig (Elt Ideal)) :
    (shapeCast _ (transpose S5x256x4x32x256 [0, 1, 3, 4, 2] (res_main_v81 V0) transposes_S5x256x256x4x32_S5x256x4x32x256_0_1_3_4_2) shapeCasts_S5x256x4x32x256_S5x256x128x256 : S5x256x128x256.Idx → BitVec 8) (ix4 b i r j) = i8 ((argOf V0).rco b i j (hd r) (argOf V0).wk (argOf V0).sk (pl r)) := by
  exact (g186 b i j r _).trans (v81_at b i j (hd r) (pl r) V0)

theorem v192_at (V0 : Valuation τ sig (Elt Ideal)) :
    (shapeCast _ (transpose S5x256x4x32x256 [0, 1, 3, 4, 2] (res_main_v96 V0) transposes_S5x256x256x4x32_S5x256x4x32x256_0_1_3_4_2) shapeCasts_S5x256x4x32x256_S5x256x128x256 : S5x256x128x256.Idx → BitVec 8) (ix4 b i r j) = i8 ((argOf V0).vco b i j (hd r) (pl r)) := by
  exact (g186 b i j r _).trans (v96_at b i j (hd r) (pl r) V0)

theorem g187 (q : FVec Ideal S5x256x256x4 .f32) :
    (transpose S5x256x4x256 [0, 1, 3, 2] q transposes_S5x256x256x4_S5x256x4x256_0_1_3_2 : S5x256x4x256.Idx → EReal) (ix4 b i h j) = q (ix4 b i j h) := by
  pointwise []

theorem v187_at (V0 : Valuation τ sig (Elt Ideal)) :
    (transpose S5x256x4x256 [0, 1, 3, 2] (res_main_v67 V0) transposes_S5x256x256x4_S5x256x4x256_0_1_3_2 : S5x256x4x256.Idx → EReal) (ix4 b i h j) = (argOf V0).rsc b i j h (argOf V0).wq (argOf V0).sq := by
  exact (g187 b i j h _).trans (v67_at b i j h V0)

theorem v190_at (V0 : Valuation τ sig (Elt Ideal)) :
    (transpose S5x256x4x256 [0, 1, 3, 2] (res_main_v82 V0) transposes_S5x256x256x4_S5x256x4x256_0_1_3_2 : S5x256x4x256.Idx → EReal) (ix4 b i h j) = (argOf V0).rsc b i j h (argOf V0).wk (argOf V0).sk := by
  exact (g187 b i j h _).trans (v82_at b i j h V0)

theorem g194 (q : FVec Ideal S5x256x4x32 .f32) :
    (shapeCast S5x128x256 (transpose S5x4x32x256 [0, 2, 3, 1] q transposes_S5x256x4x32_S5x4x32x256_0_2_3_1) shapeCasts_S5x4x32x256_S5x128x256 : S5x128x256.Idx → EReal) (ix3 b r i) = q (ix4 b i (hd r) (pl r)) := by
  pointwise []
  rfl

theorem v194_at (V0 : Valuation τ sig (Elt Ideal)) :
    (shapeCast _ (transpose S5x4x32x256 [0, 2, 3, 1] (res_main_v97 V0) transposes_S5x256x4x32_S5x4x32x256_0_2_3_1) shapeCasts_S5x4x32x256_S5x128x256 : S5x128x256.Idx → EReal) (ix3 b r i) = (argOf V0).vsc b i (hd r) (pl r) := by
  exact (g194 b i r _).trans (v97_at b i (hd r) (pl r) V0)

end Cert.ReferenceIdeal.Hand

end
-- ==== Proof.RPost.lean ====
/-
  The reference's run at the extended reals: its nine results are the specification's, and its arguments are kept.
-/
module

public import proofs.«01_k».proof.Proof.RVal
public import proofs.«01_k».proof.Proof.SpecA

@[expose] public section

set_option maxRecDepth 16384

noncomputable section

namespace Cert.ReferenceIdeal.Hand

open Cert.ReferenceIdeal Cert.ReferenceIdeal.Gen Cert.ReferenceIdeal.Value Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

theorem e4 {n0 n1 n2 n3 : ℕ} (x : (⟨4, ![n0, n1, n2, n3]⟩ : Shape).Idx) : x = ix4 (x 0) (x 1) (x 2) (x 3) := by
  funext a; match a with | 0 => rfl | 1 => rfl | 2 => rfl | 3 => rfl
theorem e3 {n0 n1 n2 : ℕ} (x : (⟨3, ![n0, n1, n2]⟩ : Shape).Idx) : x = ix3 (x 0) (x 1) (x 2) := by
  funext a; match a with | 0 => rfl | 1 => rfl | 2 => rfl

theorem ext4 {α : Type} {n0 n1 n2 n3 : ℕ} {f g : (⟨4, ![n0, n1, n2, n3]⟩ : Shape).Idx → α} (h : ∀ a b c d, f (ix4 a b c d) = g (ix4 a b c d)) : f = g :=
  funext fun x => by rw [e4 x]; exact h _ _ _ _
theorem ext3 {α : Type} {n0 n1 n2 : ℕ} {f g : (⟨3, ![n0, n1, n2]⟩ : Shape).Idx → α} (h : ∀ a b c, f (ix3 a b c) = g (ix3 a b c)) : f = g :=
  funext fun x => by rw [e3 x]; exact h _ _ _

/-- A run's end, one device's arrays. -/
def Post (m : (ℓ : Loc nD τ sig) → Buf (Elt Ideal) ℓ) (r : PUnit × MemSt nD τ sig (Elt Ideal)) : Prop := ∀ c : Dev nD,
      r.2.mem ((c.tc : Thread nD τ).loc main_v184) = (argOf (launchContents m c)).a13
      ∧ r.2.mem ((c.tc : Thread nD τ).loc main_v186) = (argOf (launchContents m c)).a14
      ∧ r.2.mem ((c.tc : Thread nD τ).loc main_v187) = (argOf (launchContents m c)).a15
      ∧ r.2.mem ((c.tc : Thread nD τ).loc main_v189) = (argOf (launchContents m c)).a16
      ∧ r.2.mem ((c.tc : Thread nD τ).loc main_v190) = (argOf (launchContents m c)).a17
      ∧ r.2.mem ((c.tc : Thread nD τ).loc main_v192) = (argOf (launchContents m c)).a18
      ∧ r.2.mem ((c.tc : Thread nD τ).loc main_v194) = (argOf (launchContents m c)).a19
      ∧ r.2.mem ((c.tc : Thread nD τ).loc main_v164) = (argOf (launchContents m c)).a20
      ∧ r.2.mem ((c.tc : Thread nD τ).loc main_v165) = (argOf (launchContents m c)).a21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)

set_option maxHeartbeats 4000000 in
/-- The reference's run, with its results. -/
theorem run_post : θ_run defs (onTc (τ := τ) (main (F := Ideal))) ⟨m, fun _ => 0, ρ⟩ (Post m) :=
  (θ_run defs _ _).mono (fun r h c => by
    obtain ⟨h0, h1, h2, h3, h4, h5, h6, h7, h8, hr⟩ := h c
    exact ⟨h0.trans (ext4 fun p q s t => v184_at p q s t (launchContents m c)),
      h1.trans (ext4 fun p q s t => v186_at p q t s (launchContents m c)),
      h2.trans (ext4 fun p q s t => v187_at p q t s (launchContents m c)),
      h3.trans (ext4 fun p q s t => v189_at p q t s (launchContents m c)),
      h4.trans (ext4 fun p q s t => v190_at p q t s (launchContents m c)),
      h5.trans (ext4 fun p q s t => v192_at p q t s (launchContents m c)),
      h6.trans (ext3 fun p q s => v194_at p s q (launchContents m c)),
      h7.trans (ext4 fun p q s t => v164_at p q s t (launchContents m c)),
      h8.trans (ext3 fun p q s => v165_at p q s (launchContents m c)), hr⟩) (run m ρ)

end Cert.ReferenceIdeal.Hand

end
-- ==== Proof.LnSpec.lean ====
/-
  The layer norm's mathematics at a place of a row, and the kernel's way of writing it.
-/
module

public import proofs.«01_k».proof.Proof.RowK

@[expose] public section

noncomputable section

namespace Cert.Spec

open Idealize.ShloMosaic

/-- The stabiliser both programs add to the variance. -/
def eps : EReal := Ideal.ofBits .f32 925353388#32

theorem eps_pos : ∃ e : ℝ, 0 < e ∧ eps = (e : EReal) := by
  refine ⟨_, ?_, by simp [eps, Ideal.ofBits, Ideal.ieee]; rfl⟩
  positivity

theorem bits_128 : Ideal.ofBits .f32 1124073472#32 = ((128 : ℝ) : EReal) := by
  simp [Ideal.ofBits, Ideal.ieee]; norm_cast; norm_num
theorem bits_inv128 : Ideal.ofBits .f32 1006632960#32 = ((1 / 128 : ℝ) : EReal) := by
  simp [Ideal.ofBits, Ideal.ieee]; norm_cast; norm_num

/-- The arguments of the layer norm, element by element. -/
structure LnArg where
  x : Fin 5 → Fin 256 → Fin 256 → Fin 128 → EReal
  g : Fin 128 → EReal
  be : Fin 128 → EReal
  w : Fin 128 → Fin 4 → EReal

/-- A row less its mean. -/
def lnC (x : Fin 128 → EReal) (d : Fin 128) : EReal := x d - Ideal.div (∑ k, x k) ((128 : ℝ) : EReal)
/-- A row normalised. -/
def lnV (x g be : Fin 128 → EReal) (d : Fin 128) : EReal :=
  Ideal.div (lnC x d) (Ideal.sqrt (Ideal.div (∑ k, lnC x k * lnC x k) ((128 : ℝ) : EReal) + eps)) * g d + be d
/-- Its scale, its codes and its bias of a head. -/
def lnS (v : Fin 128 → EReal) : EReal := scale (top fun d => mag (v d))
def lnQ (v : Fin 128 → EReal) (d : Fin 128) : EReal := code (Ideal.div (v d) (lnS v))
def lnB (v w : Fin 128 → EReal) : EReal := (∑ d, w d * num (i8 (lnQ v d))) * lnS v

namespace LnArg
variable (A : LnArg) (b : Fin 5) (i j : Fin 256)
def v : Fin 128 → EReal := lnV (A.x b i j) A.g A.be
def s : EReal := lnS (A.v b i j)
def q (d : Fin 128) : BitVec 8 := i8 (lnQ (A.v b i j) d)
def bias (h : Fin 4) : EReal := lnB (A.v b i j) fun d => A.w d h
end LnArg

/-- The centring weight of two places. -/
def cen (d k : Fin 128) : EReal := (if d = k then 1 else 0) - ((1 / 128 : ℝ) : EReal)
/-- The kernel's centred row and its normalised row. -/
def knC (c : Fin 128 → Fin 128 → EReal) (x : Fin 128 → EReal) (d : Fin 128) : EReal := ∑ k, c d k * x k
def knV (c : Fin 128 → Fin 128 → EReal) (x g be : Fin 128 → EReal) (d : Fin 128) : EReal :=
  knC c x d * Ideal.rsqrt ((∑ k, knC c x k * knC c x k) * ((1 / 128 : ℝ) : EReal) + eps) * g d + be d
/-- The kernel's bias of a head: the weight and what two subtractions leave of it. -/
def knB (v w : Fin 128 → EReal) : EReal :=
  ((∑ d, w d * lnQ v d) + (∑ d, (w d - w d) * lnQ v d) + ∑ d, ((w d - w d) - (w d - w d)) * lnQ v d) * lnS v

theorem knC_eq (x : Fin 128 → EReal) (hx : ∀ k, Fin' (x k)) (d : Fin 128) : knC cen x d = lnC x d := by
  choose r hr using hx
  have e : ∀ k, cen d k * x k = ((((if d = k then (1 : ℝ) else 0) - 1 / 128) * r k : ℝ) : EReal) := fun k => by
    unfold cen
    rw [hr k]
    split_ifs <;> norm_cast
  unfold knC lnC
  simp only [e, ← coe_sum, Ideal.div_coe (show (128 : ℝ) ≠ 0 by norm_num)]
  simp only [hr, ← coe_sum]
  rw [← EReal.coe_mul, ← EReal.coe_sub]
  congr 1
  simp only [sub_mul, Finset.sum_sub_distrib, ite_mul, one_mul, zero_mul, Finset.sum_ite_eq, Finset.mem_univ, if_true, ← Finset.mul_sum]
  ring_nf

theorem lnC_fin (x : Fin 128 → EReal) (hx : ∀ k, Fin' (x k)) (d : Fin 128) : Fin' (lnC x d) := by
  obtain ⟨s, hs⟩ := Fin'.sum x hx
  obtain ⟨a, ha⟩ := hx d
  refine ⟨a - s * (1 / 128), ?_⟩
  unfold lnC
  rw [Ideal.div_coe (show (128 : ℝ) ≠ 0 by norm_num), hs, ha]
  norm_cast

theorem knV_eq (x g be : Fin 128 → EReal) (hx : ∀ k, Fin' (x k)) (d : Fin 128) : knV cen x g be d = lnV x g be d := by
  unfold knV lnV
  simp only [knC_eq x hx]
  obtain ⟨e, he, ee⟩ := eps_pos
  choose c hc using lnC_fin x hx
  have hs : (∑ k, lnC x k * lnC x k) = ((∑ k, c k * c k : ℝ) : EReal) := by
    rw [coe_sum]
    exact Finset.sum_congr rfl fun k _ => by rw [hc k, EReal.coe_mul]
  have h0 : 0 ≤ ∑ k, c k * c k := Finset.sum_nonneg fun k _ => mul_self_nonneg _
  have hp : 0 < (∑ k, c k * c k) * (1 / 128) + e := by positivity
  rw [Ideal.div_coe (show (128 : ℝ) ≠ 0 by norm_num), hs, ee, hc d, ← EReal.coe_mul, ← EReal.coe_add, Ideal.rsqrt_coe, Ideal.sqrt_coe,
    if_neg (not_lt.mpr hp.le), if_neg hp.ne', if_neg (not_lt.mpr hp.le), Ideal.div_coe (Real.sqrt_pos.mpr hp).ne', one_div (Real.sqrt _)]

/-- A weight other than +inf: the two parts that the subtractions leave add nothing to its product with a code. -/
theorem split_mul (w : EReal) (hw : w ≠ ⊤) (q : ℝ) :
    w * (q : EReal) + (w - w) * (q : EReal) + ((w - w) - (w - w)) * (q : EReal) = w * (q : EReal) := by
  induction w using EReal.rec with
  | coe r => rw [← EReal.coe_sub, sub_self, EReal.coe_zero, sub_zero, zero_mul, add_zero, add_zero]
  | top => exact absurd rfl hw
  | bot =>
    have e : (⊥ : EReal) - ⊥ = ⊥ := rfl
    rw [e, e]
    rcases lt_trichotomy q 0 with h | h | h
    · rw [EReal.bot_mul_coe_of_neg h]; rfl
    · rw [h, EReal.coe_zero, mul_zero, add_zero, add_zero]
    · rw [EReal.bot_mul_coe_of_pos h]; rfl

theorem knB_eq (v w : Fin 128 → EReal) (hw : ∀ d, w d ≠ ⊤) : knB v w = lnB v w := by
  unfold knB lnB
  rw [← Finset.sum_add_distrib, ← Finset.sum_add_distrib]
  congr 1
  refine Finset.sum_congr rfl fun d _ => ?_
  obtain ⟨q, hq⟩ : Fin' (lnQ v d) := Fin'.code _
  rw [show num (i8 (lnQ v d)) = lnQ v d from num_i8 _, hq, split_mul _ (hw d)]

/-- The kernel's code, which multiplies by the scale's inverse. -/
theorem knQ_eq (v : Fin 128 → EReal) (d : Fin 128) : code (v d * Ideal.div 1 (lnS v)) = lnQ v d := by
  unfold lnQ lnS
  rw [div_one _ _ (scale_ne _)]

end Cert.Spec

end
-- ==== Proof.LnKer.lean ====
/-
  The layer norm kernel's payloads at an index, one row's for all eight.
-/
module

public import proofs.«01_k».proof.Proof.LnSpec
public import proofs.«01_k».proof.Proof.Gen.LnQuantIdeal
public import proofs.«01_k».proof.Proof.Gen.LnQuantIdeal.Value
public import Idealize.ShloMosaic.Lib.Pipeline.ValueKit
public import Idealize.ShloMosaic.Lib.Pointwise

@[expose] public section

set_option maxRecDepth 16384

noncomputable section

namespace Cert.LnQuantIdeal.Hand

open Cert.LnQuantIdeal Cert.LnQuantIdeal.Gen Cert.Spec
open Idealize.ShloMosaic Idealize.ShloMosaic.TcCoe

variable (C : Vec Ideal S128x128 .bf16) (X : Vec Ideal S1x1x256x128 .bf16) (G B : Vec Ideal S128x256 .f32) (W : Vec Ideal S8x128 .f32)
variable (j : Fin 256) (d : Fin 128) (h : Fin 4)

/-- A column of the row, normalised. -/
abbrev col : Fin 128 → EReal := knV (fun d k => C (ix2 d k)) (fun k => X (ix4 0 0 j k)) (fun d => G (ix2 d j)) (fun d => B (ix2 d j))

theorem p2 : k0_pay2 C X G B (ix2 d j) = col C X G B j d := by
  pointwise [k0_pay2]
  simp only [bits_inv128]
  rfl
theorem p3 : k0_pay3 C X G B (ix2 0 j) = lnS (col C X G B j) := by
  pointwise [k0_pay3]
  simp only [bits_0, bits_1, bits_127, bits_bot, p2]
  rfl
theorem p5 : k0_pay5 (Scalar.ofBits .f32 0x42FE0000#32) (k0_pay4 C X G B) (ix2 d j) = lnQ (col C X G B j) d := by
  rw [← knQ_eq]
  pointwise [k0_pay5, k0_pay4]
  simp only [bits_127, bits_m127, bits_1, p2, p3]
  rfl
theorem p5' : k0_pay5 (Ideal.ofBits .f32 1123942400#32) (k0_pay4 C X G B) (ix2 d j) = lnQ (col C X G B j) d := p5 C X G B j d
theorem p6 : k0_pay6 (Scalar.ofBits .f32 0x42FE0000#32) (k0_pay4 C X G B) (ix4 0 0 j d) = i8 (lnQ (col C X G B j) d) := by
  pointwise [k0_pay6]
  rw [p5']
  rfl
theorem p7 : k0_pay7 (k0_pay3 C X G B) (ix3 0 0 j) = lnS (col C X G B j) := by
  pointwise [k0_pay7]
  exact p3 C X G B j
theorem p8 : k0_pay8 (k0_pay3 C X G B) (Scalar.ofBits .f32 0x42FE0000#32) (k0_pay4 C X G B) W (ix4 0 h 0 j)
    = knB (col C X G B j) fun d => W (ix2 ⟨h.val, by omega⟩ d) := by
  pointwise [k0_pay8]
  simp only [p3, p5']
  have e : 16 + h.val - 8 - 8 = h.val := by omega
  have n0 : h.val < 8 := by omega
  have n1 : ¬ 16 + h.val < 8 := by omega
  have n2 : ¬ 16 + h.val - 8 < 8 := by omega
  simp only [e, n0, n1, n2, dif_pos, dif_neg, not_false_eq_true]
  rfl

end Cert.LnQuantIdeal.Hand

end
-- ==== Proof.LnOut.lean ====
/-
  The blocks a point of the layer norm kernel writes, at an index.
-/
module

public import proofs.«01_k».proof.Proof.LnKer

@[expose] public section

set_option maxRecDepth 200000

noncomputable section

namespace Cert.LnQuantIdeal.Hand

open Cert.LnQuantIdeal Cert.LnQuantIdeal.Gen Cert.Spec
open Idealize.ShloMosaic Idealize.ShloMosaic.TcCoe

variable (x0 : Vec Ideal S1x8x256x128 .bf16) (x1 : Vec Ideal S128x128 .bf16) (x2 x3 : Vec Ideal S128x256 .f32) (x4 : Vec Ideal S8x128 .f32)

/-- A column of one of the eight rows, normalised. -/
abbrev colB (r : Fin 8) (j : Fin 256) : Fin 128 → EReal :=
  knV (fun d k => x1 (ix2 d k)) (fun k => x0 (ix4 0 r j k)) (fun d => x2 (ix2 d j)) (fun d => x3 (ix2 d j))

def B5 : S1x8x256x128.Idx → BitVec 8 := fun y => i8 (lnQ (colB x0 x1 x2 x3 (y 1) (y 2)) (y 3))
def B6 : S1x8x256.Idx → EReal := fun y => lnS (colB x0 x1 x2 x3 (y 1) (y 2))
def B7 : S1x4x8x256.Idx → EReal := fun y => knB (colB x0 x1 x2 x3 (y 2) (y 3)) fun d => x4 (ix2 ⟨(y 1).val, (y 1).isLt.trans (by decide : 4 < 8)⟩ d)

theorem one_row (r x : ℕ) (h : x < 1) : r + x = r := by omega

section Rows

variable (R : Fin 8) (X : Vec Ideal S1x1x256x128 .bf16) (hX : ∀ j k, X (ix4 0 0 j k) = x0 (ix4 0 R j k))
include hX

theorem col_row (j : Fin 256) : col (View.ld x1 r0_0) X (View.ld x2 r0_2) (View.ld x3 r0_2) j = colB x0 x1 x2 x3 R j := by
  have e1 : View.ld x1 r0_0 = x1 := View.ld_unit_lit _ _ (by decide)
  have e2 : View.ld x2 r0_2 = x2 := View.ld_unit_lit _ _ (by decide)
  have e3 : View.ld x3 r0_2 = x3 := View.ld_unit_lit _ _ (by decide)
  rw [e1, e2, e3]
  unfold col colB
  rw [show (fun k => X (ix4 0 0 j k)) = fun k => x0 (ix4 0 R j k) from funext fun k => hX j k]

theorem row5' (j : Fin 256) (d : Fin 128) :
    k0_pay6 (Scalar.ofBits .f32 0x42FE0000#32) (k0_pay4 (View.ld x1 r0_0) X (View.ld x2 r0_2) (View.ld x3 r0_2)) (ix4 0 0 j d) = i8 (lnQ (colB x0 x1 x2 x3 R j) d) := by
  rw [← col_row x0 x1 x2 x3 R X hX]
  exact p6 _ _ _ _ _ _
theorem row6' (j : Fin 256) :
    k0_pay7 (k0_pay3 (View.ld x1 r0_0) X (View.ld x2 r0_2) (View.ld x3 r0_2)) (ix3 0 0 j) = lnS (colB x0 x1 x2 x3 R j) := by
  rw [← col_row x0 x1 x2 x3 R X hX]
  exact p7 _ _ _ _ _
theorem row7' (h : Fin 4) (j : Fin 256) :
    k0_pay8 (k0_pay3 (View.ld x1 r0_0) X (View.ld x2 r0_2) (View.ld x3 r0_2)) (Scalar.ofBits .f32 0x42FE0000#32)
      (k0_pay4 (View.ld x1 r0_0) X (View.ld x2 r0_2) (View.ld x3 r0_2)) (View.ld x4 r0_4) (ix4 0 h 0 j)
      = knB (colB x0 x1 x2 x3 R j) fun d => x4 (ix2 ⟨h.val, h.isLt.trans (by decide : 4 < 8)⟩ d) := by
  have e4 : View.ld x4 r0_4 = x4 := View.ld_unit_lit _ _ (by decide)
  rw [← col_row x0 x1 x2 x3 R X hX, e4]
  exact p8 _ _ _ _ _ _ _

theorem row5 (x : S1x1x256x128.Idx) (y : S1x8x256x128.Idx) (h1 : (y 1).val = R.val) (h2 : (y 2).val = (x 2).val) (h3 : (y 3).val = (x 3).val) :
    k0_pay6 (Scalar.ofBits .f32 0x42FE0000#32) (k0_pay4 (View.ld x1 r0_0) X (View.ld x2 r0_2) (View.ld x3 r0_2)) x = B5 x0 x1 x2 x3 y := by
  have ex : x = ix4 0 0 (x 2) (x 3) := funext fun a => by
    match a with
    | 0 => exact Subsingleton.elim (α := Fin 1) _ _
    | 1 => exact Subsingleton.elim (α := Fin 1) _ _
    | 2 => rfl
    | 3 => rfl
  have key : ∀ (a : Fin 8) (b e : Fin 256) (f d : Fin 128), a = R → b = e → f = d → i8 (lnQ (colB x0 x1 x2 x3 R e) d) = i8 (lnQ (colB x0 x1 x2 x3 a b) f) := by
    rintro _ _ _ _ _ rfl rfl rfl; rfl
  exact (congrArg _ ex).trans ((row5' x0 x1 x2 x3 R X hX (x 2) (x 3)).trans (key (y 1) (y 2) (x 2) (y 3) (x 3) (Fin.ext h1) (Fin.ext h2) (Fin.ext h3)))

theorem row6 (x : S1x1x256.Idx) (y : S1x8x256.Idx) (h1 : (y 1).val = R.val) (h2 : (y 2).val = (x 2).val) :
    k0_pay7 (k0_pay3 (View.ld x1 r0_0) X (View.ld x2 r0_2) (View.ld x3 r0_2)) x = B6 x0 x1 x2 x3 y := by
  have ex : x = ix3 0 0 (x 2) := funext fun a => by
    match a with
    | 0 => exact Subsingleton.elim (α := Fin 1) _ _
    | 1 => exact Subsingleton.elim (α := Fin 1) _ _
    | 2 => rfl
  have key : ∀ (a : Fin 8) (b e : Fin 256), a = R → b = e → lnS (colB x0 x1 x2 x3 R e) = lnS (colB x0 x1 x2 x3 a b) := by
    rintro _ _ _ rfl rfl; rfl
  exact (congrArg _ ex).trans ((row6' x0 x1 x2 x3 R X hX (x 2)).trans (key (y 1) (y 2) (x 2) (Fin.ext h1) (Fin.ext h2)))

theorem row7 (x : S1x4x1x256.Idx) (y : S1x4x8x256.Idx) (h1 : (y 1).val = (x 1).val) (h2 : (y 2).val = R.val) (h3 : (y 3).val = (x 3).val) :
    k0_pay8 (k0_pay3 (View.ld x1 r0_0) X (View.ld x2 r0_2) (View.ld x3 r0_2)) (Scalar.ofBits .f32 0x42FE0000#32)
      (k0_pay4 (View.ld x1 r0_0) X (View.ld x2 r0_2) (View.ld x3 r0_2)) (View.ld x4 r0_4) x = B7 x0 x1 x2 x3 x4 y := by
  have ex : x = ix4 0 (x 1) 0 (x 3) := funext fun a => by
    match a with
    | 0 => exact Subsingleton.elim (α := Fin 1) _ _
    | 1 => rfl
    | 2 => exact Subsingleton.elim (α := Fin 1) _ _
    | 3 => rfl
  have key : ∀ (a : Fin 8) (b e : Fin 256) (f g : Fin 4), a = R → b = e → f = g →
      (knB (colB x0 x1 x2 x3 R e) fun d => x4 (ix2 ⟨g.val, g.isLt.trans (by decide : 4 < 8)⟩ d)) = knB (colB x0 x1 x2 x3 a b) fun d => x4 (ix2 ⟨f.val, f.isLt.trans (by decide : 4 < 8)⟩ d) := by
    rintro _ _ _ _ _ rfl rfl rfl; rfl
  exact (congrArg _ ex).trans ((row7' x0 x1 x2 x3 x4 R X hX (x 1) (x 3)).trans (key (y 2) (y 3) (x 3) (y 1) (x 1) (Fin.ext h2) (Fin.ext h3) (Fin.ext h1)))

end Rows

theorem ldX0 (j : Fin 256) (k : Fin 128) : View.ld x0 r0_1 (ix4 0 0 j k) = x0 (ix4 0 0 j k) :=
  View.ld_unit_apply_of _ _ _ _ _ (ix4 0 0 j k) fun a => by
    match a with
    | 0 => rfl
    | 1 => rfl
    | 2 => show j.val = 0 + j.val; omega
    | 3 => show k.val = 0 + k.val; omega
theorem ldX1 (j : Fin 256) (k : Fin 128) : View.ld x0 r0_6 (ix4 0 0 j k) = x0 (ix4 0 1 j k) :=
  View.ld_unit_apply_of _ _ _ _ _ (ix4 0 1 j k) fun a => by
    match a with
    | 0 => rfl
    | 1 => rfl
    | 2 => show j.val = 0 + j.val; omega
    | 3 => show k.val = 0 + k.val; omega
theorem ldX2 (j : Fin 256) (k : Fin 128) : View.ld x0 r0_9 (ix4 0 0 j k) = x0 (ix4 0 2 j k) :=
  View.ld_unit_apply_of _ _ _ _ _ (ix4 0 2 j k) fun a => by
    match a with
    | 0 => rfl
    | 1 => rfl
    | 2 => show j.val = 0 + j.val; omega
    | 3 => show k.val = 0 + k.val; omega
theorem ldX3 (j : Fin 256) (k : Fin 128) : View.ld x0 r0_12 (ix4 0 0 j k) = x0 (ix4 0 3 j k) :=
  View.ld_unit_apply_of _ _ _ _ _ (ix4 0 3 j k) fun a => by
    match a with
    | 0 => rfl
    | 1 => rfl
    | 2 => show j.val = 0 + j.val; omega
    | 3 => show k.val = 0 + k.val; omega
theorem ldX4 (j : Fin 256) (k : Fin 128) : View.ld x0 r0_15 (ix4 0 0 j k) = x0 (ix4 0 4 j k) :=
  View.ld_unit_apply_of _ _ _ _ _ (ix4 0 4 j k) fun a => by
    match a with
    | 0 => rfl
    | 1 => rfl
    | 2 => show j.val = 0 + j.val; omega
    | 3 => show k.val = 0 + k.val; omega
theorem ldX5 (j : Fin 256) (k : Fin 128) : View.ld x0 r0_18 (ix4 0 0 j k) = x0 (ix4 0 5 j k) :=
  View.ld_unit_apply_of _ _ _ _ _ (ix4 0 5 j k) fun a => by
    match a with
    | 0 => rfl
    | 1 => rfl
    | 2 => show j.val = 0 + j.val; omega
    | 3 => show k.val = 0 + k.val; omega
theorem ldX6 (j : Fin 256) (k : Fin 128) : View.ld x0 r0_21 (ix4 0 0 j k) = x0 (ix4 0 6 j k) :=
  View.ld_unit_apply_of _ _ _ _ _ (ix4 0 6 j k) fun a => by
    match a with
    | 0 => rfl
    | 1 => rfl
    | 2 => show j.val = 0 + j.val; omega
    | 3 => show k.val = 0 + k.val; omega
theorem ldX7 (j : Fin 256) (k : Fin 128) : View.ld x0 r0_24 (ix4 0 0 j k) = x0 (ix4 0 7 j k) :=
  View.ld_unit_apply_of _ _ _ _ _ (ix4 0 7 j k) fun a => by
    match a with
    | 0 => rfl
    | 1 => rfl
    | 2 => show j.val = 0 + j.val; omega
    | 3 => show k.val = 0 + k.val; omega

theorem q5_7 (x : S1x1x256x128.Idx) : (k0_pay76 (k0_pay91 x0 x1 x2 x3 x4) (k0_pay92 x0 x1 x2 x3 x4) (k0_pay93 x0 x1 x2 x3 x4) (k0_pay94 x0 x1 x2 x3 x4)) x = B5 x0 x1 x2 x3 (r0_24.idx x) :=
  row5 x0 x1 x2 x3 7 (View.ld x0 r0_24) (ldX7 x0) x (r0_24.idx x)
    ((Rect.idx_unit_val (s := S1x8x256x128) ![0, 7, 0, 0] S1x1x256x128.size inb_S1x8x256x128_S1x1x256x128_0_7_0_0 x 1).trans (one_row 7 _ (x 1).isLt)) ((Rect.idx_unit_val (s := S1x8x256x128) ![0, 7, 0, 0] S1x1x256x128.size inb_S1x8x256x128_S1x1x256x128_0_7_0_0 x 2).trans (Nat.zero_add _)) ((Rect.idx_unit_val (s := S1x8x256x128) ![0, 7, 0, 0] S1x1x256x128.size inb_S1x8x256x128_S1x1x256x128_0_7_0_0 x 3).trans (Nat.zero_add _))
theorem q5_6 (x : S1x1x256x128.Idx) : (k0_pay64 (k0_pay89 x0 x1 x2 x3 x4) (k0_pay90 x0 x1 x2 x3 x4) (Scalar.ofBits .f32 0x00000000#32)) x = B5 x0 x1 x2 x3 (r0_21.idx x) :=
  row5 x0 x1 x2 x3 6 (View.ld x0 r0_21) (ldX6 x0) x (r0_21.idx x)
    ((Rect.idx_unit_val (s := S1x8x256x128) ![0, 6, 0, 0] S1x1x256x128.size inb_S1x8x256x128_S1x1x256x128_0_6_0_0 x 1).trans (one_row 6 _ (x 1).isLt)) ((Rect.idx_unit_val (s := S1x8x256x128) ![0, 6, 0, 0] S1x1x256x128.size inb_S1x8x256x128_S1x1x256x128_0_6_0_0 x 2).trans (Nat.zero_add _)) ((Rect.idx_unit_val (s := S1x8x256x128) ![0, 6, 0, 0] S1x1x256x128.size inb_S1x8x256x128_S1x1x256x128_0_6_0_0 x 3).trans (Nat.zero_add _))
theorem q5_5 (x : S1x1x256x128.Idx) : (k0_pay50 (k0_pay88 x0 x1 x2 x3 x4) (View.ld x3 r0_2)) x = B5 x0 x1 x2 x3 (r0_18.idx x) :=
  row5 x0 x1 x2 x3 5 (View.ld x0 r0_18) (ldX5 x0) x (r0_18.idx x)
    ((Rect.idx_unit_val (s := S1x8x256x128) ![0, 5, 0, 0] S1x1x256x128.size inb_S1x8x256x128_S1x1x256x128_0_5_0_0 x 1).trans (one_row 5 _ (x 1).isLt)) ((Rect.idx_unit_val (s := S1x8x256x128) ![0, 5, 0, 0] S1x1x256x128.size inb_S1x8x256x128_S1x1x256x128_0_5_0_0 x 2).trans (Nat.zero_add _)) ((Rect.idx_unit_val (s := S1x8x256x128) ![0, 5, 0, 0] S1x1x256x128.size inb_S1x8x256x128_S1x1x256x128_0_5_0_0 x 3).trans (Nat.zero_add _))
theorem q5_4 (x : S1x1x256x128.Idx) : (k0_pay40 (k0_pay87 x0 x1 x2 x3 x4) (View.ld x2 r0_2) (View.ld x3 r0_2)) x = B5 x0 x1 x2 x3 (r0_15.idx x) :=
  row5 x0 x1 x2 x3 4 (View.ld x0 r0_15) (ldX4 x0) x (r0_15.idx x)
    ((Rect.idx_unit_val (s := S1x8x256x128) ![0, 4, 0, 0] S1x1x256x128.size inb_S1x8x256x128_S1x1x256x128_0_4_0_0 x 1).trans (one_row 4 _ (x 1).isLt)) ((Rect.idx_unit_val (s := S1x8x256x128) ![0, 4, 0, 0] S1x1x256x128.size inb_S1x8x256x128_S1x1x256x128_0_4_0_0 x 2).trans (Nat.zero_add _)) ((Rect.idx_unit_val (s := S1x8x256x128) ![0, 4, 0, 0] S1x1x256x128.size inb_S1x8x256x128_S1x1x256x128_0_4_0_0 x 3).trans (Nat.zero_add _))
theorem q5_3 (x : S1x1x256x128.Idx) : (k0_pay32 (k0_pay85 x0 x1 x2 x3 x4) (k0_pay86 x0 x1 x2 x3 x4) (View.ld x2 r0_2) (View.ld x3 r0_2)) x = B5 x0 x1 x2 x3 (r0_12.idx x) :=
  row5 x0 x1 x2 x3 3 (View.ld x0 r0_12) (ldX3 x0) x (r0_12.idx x)
    ((Rect.idx_unit_val (s := S1x8x256x128) ![0, 3, 0, 0] S1x1x256x128.size inb_S1x8x256x128_S1x1x256x128_0_3_0_0 x 1).trans (one_row 3 _ (x 1).isLt)) ((Rect.idx_unit_val (s := S1x8x256x128) ![0, 3, 0, 0] S1x1x256x128.size inb_S1x8x256x128_S1x1x256x128_0_3_0_0 x 2).trans (Nat.zero_add _)) ((Rect.idx_unit_val (s := S1x8x256x128) ![0, 3, 0, 0] S1x1x256x128.size inb_S1x8x256x128_S1x1x256x128_0_3_0_0 x 3).trans (Nat.zero_add _))
theorem q5_2 (x : S1x1x256x128.Idx) : (k0_pay23 (k0_pay83 x0 x1 x2 x3 x4) (View.ld x2 r0_2) (View.ld x3 r0_2)) x = B5 x0 x1 x2 x3 (r0_9.idx x) :=
  row5 x0 x1 x2 x3 2 (View.ld x0 r0_9) (ldX2 x0) x (r0_9.idx x)
    ((Rect.idx_unit_val (s := S1x8x256x128) ![0, 2, 0, 0] S1x1x256x128.size inb_S1x8x256x128_S1x1x256x128_0_2_0_0 x 1).trans (one_row 2 _ (x 1).isLt)) ((Rect.idx_unit_val (s := S1x8x256x128) ![0, 2, 0, 0] S1x1x256x128.size inb_S1x8x256x128_S1x1x256x128_0_2_0_0 x 2).trans (Nat.zero_add _)) ((Rect.idx_unit_val (s := S1x8x256x128) ![0, 2, 0, 0] S1x1x256x128.size inb_S1x8x256x128_S1x1x256x128_0_2_0_0 x 3).trans (Nat.zero_add _))
theorem q5_1 (x : S1x1x256x128.Idx) : (k0_pay15 (k0_pay14 (k0_pay81 x0 x1 x2 x3 x4) (View.ld x0 r0_6) (View.ld x2 r0_2) (View.ld x3 r0_2))) x = B5 x0 x1 x2 x3 (r0_6.idx x) :=
  row5 x0 x1 x2 x3 1 (View.ld x0 r0_6) (ldX1 x0) x (r0_6.idx x)
    ((Rect.idx_unit_val (s := S1x8x256x128) ![0, 1, 0, 0] S1x1x256x128.size inb_S1x8x256x128_S1x1x256x128_0_1_0_0 x 1).trans (one_row 1 _ (x 1).isLt)) ((Rect.idx_unit_val (s := S1x8x256x128) ![0, 1, 0, 0] S1x1x256x128.size inb_S1x8x256x128_S1x1x256x128_0_1_0_0 x 2).trans (Nat.zero_add _)) ((Rect.idx_unit_val (s := S1x8x256x128) ![0, 1, 0, 0] S1x1x256x128.size inb_S1x8x256x128_S1x1x256x128_0_1_0_0 x 3).trans (Nat.zero_add _))
theorem q5_0 (x : S1x1x256x128.Idx) : (k0_pay6 (Scalar.ofBits .f32 0x42FE0000#32) (k0_pay80 x0 x1 x2 x3 x4)) x = B5 x0 x1 x2 x3 (r0_1.idx x) :=
  row5 x0 x1 x2 x3 0 (View.ld x0 r0_1) (ldX0 x0) x (r0_1.idx x)
    ((Rect.idx_unit_val (s := S1x8x256x128) ![0, 0, 0, 0] S1x1x256x128.size inb_S1x8x256x128_S1x1x256x128_0_0_0_0 x 1).trans (one_row 0 _ (x 1).isLt)) ((Rect.idx_unit_val (s := S1x8x256x128) ![0, 0, 0, 0] S1x1x256x128.size inb_S1x8x256x128_S1x1x256x128_0_0_0_0 x 2).trans (Nat.zero_add _)) ((Rect.idx_unit_val (s := S1x8x256x128) ![0, 0, 0, 0] S1x1x256x128.size inb_S1x8x256x128_S1x1x256x128_0_0_0_0 x 3).trans (Nat.zero_add _))
theorem out5_at : out0_5 x0 x1 x2 x3 x4 = B5 x0 x1 x2 x3 := by
  funext y
  unfold out0_5
  refine View.canon_apply_of_pieces _ _ ?_ y (View.cover_of_tiled_head _ _ _ rfl y)
  refine List.forall_mem_cons.mpr ⟨q5_7 x0 x1 x2 x3 x4, ?_⟩
  refine List.forall_mem_cons.mpr ⟨q5_6 x0 x1 x2 x3 x4, ?_⟩
  refine List.forall_mem_cons.mpr ⟨q5_5 x0 x1 x2 x3 x4, ?_⟩
  refine List.forall_mem_cons.mpr ⟨q5_4 x0 x1 x2 x3 x4, ?_⟩
  refine List.forall_mem_cons.mpr ⟨q5_3 x0 x1 x2 x3 x4, ?_⟩
  refine List.forall_mem_cons.mpr ⟨q5_2 x0 x1 x2 x3 x4, ?_⟩
  refine List.forall_mem_cons.mpr ⟨q5_1 x0 x1 x2 x3 x4, ?_⟩
  refine List.forall_mem_cons.mpr ⟨q5_0 x0 x1 x2 x3 x4, ?_⟩
  exact fun _ h => nomatch h
theorem q6_7 (x : S1x1x256.Idx) : (k0_pay77 (k0_pay92 x0 x1 x2 x3 x4) (k0_pay93 x0 x1 x2 x3 x4) (k0_pay94 x0 x1 x2 x3 x4)) x = B6 x0 x1 x2 x3 (r0_25.idx x) :=
  row6 x0 x1 x2 x3 7 (View.ld x0 r0_24) (ldX7 x0) x (r0_25.idx x)
    ((Rect.idx_unit_val (s := S1x8x256) ![0, 7, 0] S1x1x256.size inb_S1x8x256_S1x1x256_0_7_0 x 1).trans (one_row 7 _ (x 1).isLt)) ((Rect.idx_unit_val (s := S1x8x256) ![0, 7, 0] S1x1x256.size inb_S1x8x256_S1x1x256_0_7_0 x 2).trans (Nat.zero_add _))
theorem q6_6 (x : S1x1x256.Idx) : (k0_pay65 (k0_pay90 x0 x1 x2 x3 x4) (Scalar.ofBits .f32 0x00000000#32)) x = B6 x0 x1 x2 x3 (r0_22.idx x) :=
  row6 x0 x1 x2 x3 6 (View.ld x0 r0_21) (ldX6 x0) x (r0_22.idx x)
    ((Rect.idx_unit_val (s := S1x8x256) ![0, 6, 0] S1x1x256.size inb_S1x8x256_S1x1x256_0_6_0 x 1).trans (one_row 6 _ (x 1).isLt)) ((Rect.idx_unit_val (s := S1x8x256) ![0, 6, 0] S1x1x256.size inb_S1x8x256_S1x1x256_0_6_0 x 2).trans (Nat.zero_add _))
theorem q6_5 (x : S1x1x256.Idx) : (k0_pay51 (k0_pay88 x0 x1 x2 x3 x4) (View.ld x3 r0_2)) x = B6 x0 x1 x2 x3 (r0_19.idx x) :=
  row6 x0 x1 x2 x3 5 (View.ld x0 r0_18) (ldX5 x0) x (r0_19.idx x)
    ((Rect.idx_unit_val (s := S1x8x256) ![0, 5, 0] S1x1x256.size inb_S1x8x256_S1x1x256_0_5_0 x 1).trans (one_row 5 _ (x 1).isLt)) ((Rect.idx_unit_val (s := S1x8x256) ![0, 5, 0] S1x1x256.size inb_S1x8x256_S1x1x256_0_5_0 x 2).trans (Nat.zero_add _))
theorem q6_4 (x : S1x1x256.Idx) : (k0_pay41 (k0_pay87 x0 x1 x2 x3 x4) (View.ld x2 r0_2) (View.ld x3 r0_2)) x = B6 x0 x1 x2 x3 (r0_16.idx x) :=
  row6 x0 x1 x2 x3 4 (View.ld x0 r0_15) (ldX4 x0) x (r0_16.idx x)
    ((Rect.idx_unit_val (s := S1x8x256) ![0, 4, 0] S1x1x256.size inb_S1x8x256_S1x1x256_0_4_0 x 1).trans (one_row 4 _ (x 1).isLt)) ((Rect.idx_unit_val (s := S1x8x256) ![0, 4, 0] S1x1x256.size inb_S1x8x256_S1x1x256_0_4_0 x 2).trans (Nat.zero_add _))
theorem q6_3 (x : S1x1x256.Idx) : (k0_pay33 (k0_pay85 x0 x1 x2 x3 x4) (k0_pay86 x0 x1 x2 x3 x4) (View.ld x2 r0_2) (View.ld x3 r0_2)) x = B6 x0 x1 x2 x3 (r0_13.idx x) :=
  row6 x0 x1 x2 x3 3 (View.ld x0 r0_12) (ldX3 x0) x (r0_13.idx x)
    ((Rect.idx_unit_val (s := S1x8x256) ![0, 3, 0] S1x1x256.size inb_S1x8x256_S1x1x256_0_3_0 x 1).trans (one_row 3 _ (x 1).isLt)) ((Rect.idx_unit_val (s := S1x8x256) ![0, 3, 0] S1x1x256.size inb_S1x8x256_S1x1x256_0_3_0 x 2).trans (Nat.zero_add _))
theorem q6_2 (x : S1x1x256.Idx) : (k0_pay24 (k0_pay84 x0 x1 x2 x3 x4)) x = B6 x0 x1 x2 x3 (r0_10.idx x) :=
  row6 x0 x1 x2 x3 2 (View.ld x0 r0_9) (ldX2 x0) x (r0_10.idx x)
    ((Rect.idx_unit_val (s := S1x8x256) ![0, 2, 0] S1x1x256.size inb_S1x8x256_S1x1x256_0_2_0 x 1).trans (one_row 2 _ (x 1).isLt)) ((Rect.idx_unit_val (s := S1x8x256) ![0, 2, 0] S1x1x256.size inb_S1x8x256_S1x1x256_0_2_0 x 2).trans (Nat.zero_add _))
theorem q6_1 (x : S1x1x256.Idx) : (k0_pay16 (k0_pay82 x0 x1 x2 x3 x4)) x = B6 x0 x1 x2 x3 (r0_7.idx x) :=
  row6 x0 x1 x2 x3 1 (View.ld x0 r0_6) (ldX1 x0) x (r0_7.idx x)
    ((Rect.idx_unit_val (s := S1x8x256) ![0, 1, 0] S1x1x256.size inb_S1x8x256_S1x1x256_0_1_0 x 1).trans (one_row 1 _ (x 1).isLt)) ((Rect.idx_unit_val (s := S1x8x256) ![0, 1, 0] S1x1x256.size inb_S1x8x256_S1x1x256_0_1_0 x 2).trans (Nat.zero_add _))
theorem q6_0 (x : S1x1x256.Idx) : (k0_pay7 (k0_pay79 x0 x1 x2 x3 x4)) x = B6 x0 x1 x2 x3 (r0_3.idx x) :=
  row6 x0 x1 x2 x3 0 (View.ld x0 r0_1) (ldX0 x0) x (r0_3.idx x)
    ((Rect.idx_unit_val (s := S1x8x256) ![0, 0, 0] S1x1x256.size inb_S1x8x256_S1x1x256_0_0_0 x 1).trans (one_row 0 _ (x 1).isLt)) ((Rect.idx_unit_val (s := S1x8x256) ![0, 0, 0] S1x1x256.size inb_S1x8x256_S1x1x256_0_0_0 x 2).trans (Nat.zero_add _))
theorem out6_at : out0_6 x0 x1 x2 x3 x4 = B6 x0 x1 x2 x3 := by
  funext y
  unfold out0_6
  refine View.canon_apply_of_pieces _ _ ?_ y (View.cover_of_tiled_head _ _ _ rfl y)
  refine List.forall_mem_cons.mpr ⟨q6_7 x0 x1 x2 x3 x4, ?_⟩
  refine List.forall_mem_cons.mpr ⟨q6_6 x0 x1 x2 x3 x4, ?_⟩
  refine List.forall_mem_cons.mpr ⟨q6_5 x0 x1 x2 x3 x4, ?_⟩
  refine List.forall_mem_cons.mpr ⟨q6_4 x0 x1 x2 x3 x4, ?_⟩
  refine List.forall_mem_cons.mpr ⟨q6_3 x0 x1 x2 x3 x4, ?_⟩
  refine List.forall_mem_cons.mpr ⟨q6_2 x0 x1 x2 x3 x4, ?_⟩
  refine List.forall_mem_cons.mpr ⟨q6_1 x0 x1 x2 x3 x4, ?_⟩
  refine List.forall_mem_cons.mpr ⟨q6_0 x0 x1 x2 x3 x4, ?_⟩
  exact fun _ h => nomatch h
theorem q7_7 (x : S1x4x1x256.Idx) : (k0_pay1 (k0_pay78 (k0_pay91 x0 x1 x2 x3 x4) (k0_pay92 x0 x1 x2 x3 x4) (k0_pay93 x0 x1 x2 x3 x4) (k0_pay94 x0 x1 x2 x3 x4) (View.ld x4 r0_4))) x = B7 x0 x1 x2 x3 x4 (r0_26.idx x) :=
  row7 x0 x1 x2 x3 x4 7 (View.ld x0 r0_24) (ldX7 x0) x (r0_26.idx x)
    ((Rect.idx_unit_val (s := S1x4x8x256) ![0, 0, 7, 0] S1x4x1x256.size inb_S1x4x8x256_S1x4x1x256_0_0_7_0 x 1).trans (Nat.zero_add _)) ((Rect.idx_unit_val (s := S1x4x8x256) ![0, 0, 7, 0] S1x4x1x256.size inb_S1x4x8x256_S1x4x1x256_0_0_7_0 x 2).trans (one_row 7 _ (x 2).isLt)) ((Rect.idx_unit_val (s := S1x4x8x256) ![0, 0, 7, 0] S1x4x1x256.size inb_S1x4x8x256_S1x4x1x256_0_0_7_0 x 3).trans (Nat.zero_add _))
theorem q7_6 (x : S1x4x1x256.Idx) : (k0_pay68 (k0_pay62 (k0_pay90 x0 x1 x2 x3 x4) (Scalar.ofBits .f32 0x00000000#32)) (k0_pay66 (k0_pay89 x0 x1 x2 x3 x4) (k0_pay90 x0 x1 x2 x3 x4) (Scalar.ofBits .f32 0x00000000#32) (View.ld x4 r0_4)) (k0_pay67 (k0_pay89 x0 x1 x2 x3 x4) (k0_pay90 x0 x1 x2 x3 x4) (Scalar.ofBits .f32 0x00000000#32) (View.ld x4 r0_4))) x = B7 x0 x1 x2 x3 x4 (r0_23.idx x) :=
  row7 x0 x1 x2 x3 x4 6 (View.ld x0 r0_21) (ldX6 x0) x (r0_23.idx x)
    ((Rect.idx_unit_val (s := S1x4x8x256) ![0, 0, 6, 0] S1x4x1x256.size inb_S1x4x8x256_S1x4x1x256_0_0_6_0 x 1).trans (Nat.zero_add _)) ((Rect.idx_unit_val (s := S1x4x8x256) ![0, 0, 6, 0] S1x4x1x256.size inb_S1x4x8x256_S1x4x1x256_0_0_6_0 x 2).trans (one_row 6 _ (x 2).isLt)) ((Rect.idx_unit_val (s := S1x4x8x256) ![0, 0, 6, 0] S1x4x1x256.size inb_S1x4x8x256_S1x4x1x256_0_0_6_0 x 3).trans (Nat.zero_add _))
theorem q7_5 (x : S1x4x1x256.Idx) : (k0_pay59 (k0_pay47 (k0_pay88 x0 x1 x2 x3 x4) (View.ld x3 r0_2)) (k0_pay49 (k0_pay88 x0 x1 x2 x3 x4) (View.ld x3 r0_2)) (k0_pay56 (View.ld x4 r0_4)) (k0_pay57 (View.ld x4 r0_4)) (k0_pay58 (View.ld x4 r0_4))) x = B7 x0 x1 x2 x3 x4 (r0_20.idx x) :=
  row7 x0 x1 x2 x3 x4 5 (View.ld x0 r0_18) (ldX5 x0) x (r0_20.idx x)
    ((Rect.idx_unit_val (s := S1x4x8x256) ![0, 0, 5, 0] S1x4x1x256.size inb_S1x4x8x256_S1x4x1x256_0_0_5_0 x 1).trans (Nat.zero_add _)) ((Rect.idx_unit_val (s := S1x4x8x256) ![0, 0, 5, 0] S1x4x1x256.size inb_S1x4x8x256_S1x4x1x256_0_0_5_0 x 2).trans (one_row 5 _ (x 2).isLt)) ((Rect.idx_unit_val (s := S1x4x8x256) ![0, 0, 5, 0] S1x4x1x256.size inb_S1x4x8x256_S1x4x1x256_0_0_5_0 x 3).trans (Nat.zero_add _))
theorem q7_4 (x : S1x4x1x256.Idx) : (k0_pay44 (k0_pay37 (k0_pay87 x0 x1 x2 x3 x4) (View.ld x2 r0_2) (View.ld x3 r0_2)) (k0_pay39 (k0_pay87 x0 x1 x2 x3 x4) (View.ld x2 r0_2) (View.ld x3 r0_2)) (k0_pay42 (View.ld x4 r0_4)) (k0_pay43 (View.ld x4 r0_4))) x = B7 x0 x1 x2 x3 x4 (r0_17.idx x) :=
  row7 x0 x1 x2 x3 x4 4 (View.ld x0 r0_15) (ldX4 x0) x (r0_17.idx x)
    ((Rect.idx_unit_val (s := S1x4x8x256) ![0, 0, 4, 0] S1x4x1x256.size inb_S1x4x8x256_S1x4x1x256_0_0_4_0 x 1).trans (Nat.zero_add _)) ((Rect.idx_unit_val (s := S1x4x8x256) ![0, 0, 4, 0] S1x4x1x256.size inb_S1x4x8x256_S1x4x1x256_0_0_4_0 x 2).trans (one_row 4 _ (x 2).isLt)) ((Rect.idx_unit_val (s := S1x4x8x256) ![0, 0, 4, 0] S1x4x1x256.size inb_S1x4x8x256_S1x4x1x256_0_0_4_0 x 3).trans (Nat.zero_add _))
theorem q7_3 (x : S1x4x1x256.Idx) : (k0_pay34 (k0_pay29 (k0_pay85 x0 x1 x2 x3 x4) (k0_pay86 x0 x1 x2 x3 x4) (View.ld x2 r0_2) (View.ld x3 r0_2)) (k0_pay31 (k0_pay85 x0 x1 x2 x3 x4) (k0_pay86 x0 x1 x2 x3 x4) (View.ld x2 r0_2) (View.ld x3 r0_2)) (View.ld x4 r0_4)) x = B7 x0 x1 x2 x3 x4 (r0_14.idx x) :=
  row7 x0 x1 x2 x3 x4 3 (View.ld x0 r0_12) (ldX3 x0) x (r0_14.idx x)
    ((Rect.idx_unit_val (s := S1x4x8x256) ![0, 0, 3, 0] S1x4x1x256.size inb_S1x4x8x256_S1x4x1x256_0_0_3_0 x 1).trans (Nat.zero_add _)) ((Rect.idx_unit_val (s := S1x4x8x256) ![0, 0, 3, 0] S1x4x1x256.size inb_S1x4x8x256_S1x4x1x256_0_0_3_0 x 2).trans (one_row 3 _ (x 2).isLt)) ((Rect.idx_unit_val (s := S1x4x8x256) ![0, 0, 3, 0] S1x4x1x256.size inb_S1x4x8x256_S1x4x1x256_0_0_3_0 x 3).trans (Nat.zero_add _))
theorem q7_2 (x : S1x4x1x256.Idx) : (k0_pay25 (k0_pay84 x0 x1 x2 x3 x4) (k0_pay22 (k0_pay83 x0 x1 x2 x3 x4) (View.ld x2 r0_2) (View.ld x3 r0_2)) (View.ld x4 r0_4)) x = B7 x0 x1 x2 x3 x4 (r0_11.idx x) :=
  row7 x0 x1 x2 x3 x4 2 (View.ld x0 r0_9) (ldX2 x0) x (r0_11.idx x)
    ((Rect.idx_unit_val (s := S1x4x8x256) ![0, 0, 2, 0] S1x4x1x256.size inb_S1x4x8x256_S1x4x1x256_0_0_2_0 x 1).trans (Nat.zero_add _)) ((Rect.idx_unit_val (s := S1x4x8x256) ![0, 0, 2, 0] S1x4x1x256.size inb_S1x4x8x256_S1x4x1x256_0_0_2_0 x 2).trans (one_row 2 _ (x 2).isLt)) ((Rect.idx_unit_val (s := S1x4x8x256) ![0, 0, 2, 0] S1x4x1x256.size inb_S1x4x8x256_S1x4x1x256_0_0_2_0 x 3).trans (Nat.zero_add _))
theorem q7_1 (x : S1x4x1x256.Idx) : (k0_pay17 (k0_pay82 x0 x1 x2 x3 x4) (k0_pay13 (k0_pay81 x0 x1 x2 x3 x4) (View.ld x0 r0_6) (View.ld x2 r0_2) (View.ld x3 r0_2)) (View.ld x4 r0_4)) x = B7 x0 x1 x2 x3 x4 (r0_8.idx x) :=
  row7 x0 x1 x2 x3 x4 1 (View.ld x0 r0_6) (ldX1 x0) x (r0_8.idx x)
    ((Rect.idx_unit_val (s := S1x4x8x256) ![0, 0, 1, 0] S1x4x1x256.size inb_S1x4x8x256_S1x4x1x256_0_0_1_0 x 1).trans (Nat.zero_add _)) ((Rect.idx_unit_val (s := S1x4x8x256) ![0, 0, 1, 0] S1x4x1x256.size inb_S1x4x8x256_S1x4x1x256_0_0_1_0 x 2).trans (one_row 1 _ (x 2).isLt)) ((Rect.idx_unit_val (s := S1x4x8x256) ![0, 0, 1, 0] S1x4x1x256.size inb_S1x4x8x256_S1x4x1x256_0_0_1_0 x 3).trans (Nat.zero_add _))
theorem q7_0 (x : S1x4x1x256.Idx) : (k0_pay8 (k0_pay79 x0 x1 x2 x3 x4) (Scalar.ofBits .f32 0x42FE0000#32) (k0_pay80 x0 x1 x2 x3 x4) (View.ld x4 r0_4)) x = B7 x0 x1 x2 x3 x4 (r0_5.idx x) :=
  row7 x0 x1 x2 x3 x4 0 (View.ld x0 r0_1) (ldX0 x0) x (r0_5.idx x)
    ((Rect.idx_unit_val (s := S1x4x8x256) ![0, 0, 0, 0] S1x4x1x256.size inb_S1x4x8x256_S1x4x1x256_0_0_0_0 x 1).trans (Nat.zero_add _)) ((Rect.idx_unit_val (s := S1x4x8x256) ![0, 0, 0, 0] S1x4x1x256.size inb_S1x4x8x256_S1x4x1x256_0_0_0_0 x 2).trans (one_row 0 _ (x 2).isLt)) ((Rect.idx_unit_val (s := S1x4x8x256) ![0, 0, 0, 0] S1x4x1x256.size inb_S1x4x8x256_S1x4x1x256_0_0_0_0 x 3).trans (Nat.zero_add _))
theorem out7_at : out0_7 x0 x1 x2 x3 x4 = B7 x0 x1 x2 x3 x4 := by
  funext y
  unfold out0_7
  refine View.canon_apply_of_pieces _ _ ?_ y (View.cover_of_tiled_head _ _ _ rfl y)
  refine List.forall_mem_cons.mpr ⟨q7_7 x0 x1 x2 x3 x4, ?_⟩
  refine List.forall_mem_cons.mpr ⟨q7_6 x0 x1 x2 x3 x4, ?_⟩
  refine List.forall_mem_cons.mpr ⟨q7_5 x0 x1 x2 x3 x4, ?_⟩
  refine List.forall_mem_cons.mpr ⟨q7_4 x0 x1 x2 x3 x4, ?_⟩
  refine List.forall_mem_cons.mpr ⟨q7_3 x0 x1 x2 x3 x4, ?_⟩
  refine List.forall_mem_cons.mpr ⟨q7_2 x0 x1 x2 x3 x4, ?_⟩
  refine List.forall_mem_cons.mpr ⟨q7_1 x0 x1 x2 x3 x4, ?_⟩
  refine List.forall_mem_cons.mpr ⟨q7_0 x0 x1 x2 x3 x4, ?_⟩
  exact fun _ h => nomatch h

end Cert.LnQuantIdeal.Hand

end
-- ==== Proof.LnRef.lean ====
/-
  The layer norm reference's results at an index.
-/
module

public import proofs.«01_k».proof.Proof.LnSpec
public import proofs.«01_k».proof.Proof.RPost
public import proofs.«01_k».proof.Proof.Gen.LnReferenceIdeal
public import proofs.«01_k».proof.Proof.Gen.LnReferenceIdeal.Run
public import Idealize.ShloMosaic.Lib.Pointwise
public import Idealize.ShloMosaic.PureOps.Reduce

@[expose] public section

set_option maxRecDepth 16384

noncomputable section

namespace Cert.LnReferenceIdeal.Hand

open Cert.LnReferenceIdeal Cert.LnReferenceIdeal.Gen Cert.LnReferenceIdeal.Value Cert.Spec
open Idealize.ShloMosaic Idealize.ShloMosaic.TcCoe

variable (x : FVec Ideal S5x256x256x128 .bf16) (g e : FVec Ideal S128 .f32) (w : FVec Ideal S128x4 .f32)
variable (b : Fin 5) (i j : Fin 256) (h : Fin 4) (d : Fin 128)

/-- The rows less their means. -/
def rC : FVec Ideal S5x256x256x128 .f32 :=
  subf (extf .f32 x bitsLt_bf16_f32) (broadcastInDim S5x256x256x128 ![0, 1, 2, 3] bcast_S5x256x256x1_S5x256x256x128_0_1_2_3 (Host.divf (broadcastInDim S5x256x256x1 ![0, 1, 2] bcast_S5x256x256_S5x256x256x1_0_1_2 (Host.reduceAdd (extf .f32 x bitsLt_bf16_f32) (constant S_ .f32 0x00000000#32) reducesTo_S5x256x256x128_S5x256x256_d3 h_S_)) (broadcastInDim S5x256x256x1 ![] bcast_S_S5x256x256x1 (constant S_ .f32 0x43000000#32))))
/-- The rows normalised, from the rows less their means. -/
def rV (c : FVec Ideal S5x256x256x128 .f32) : FVec Ideal S5x256x256x128 .f32 :=
  addf (mulf (Host.divf c (broadcastInDim S5x256x256x128 ![0, 1, 2, 3] bcast_S5x256x256x1_S5x256x256x128_0_1_2_3 (Host.sqrt (addf (Host.divf (broadcastInDim S5x256x256x1 ![0, 1, 2] bcast_S5x256x256_S5x256x256x1_0_1_2 (Host.reduceAdd (mulf c c) (constant S_ .f32 0x00000000#32) reducesTo_S5x256x256x128_S5x256x256_d3 h_S_)) (broadcastInDim S5x256x256x1 ![] bcast_S_S5x256x256x1 (constant S_ .f32 0x43000000#32))) (broadcastInDim S5x256x256x1 ![] bcast_S_S5x256x256x1 (constant S_ .f32 0x3727C5AC#32)))))) (broadcastInDim S5x256x256x128 ![0, 1, 2, 3] bcast_S1x1x1x128_S5x256x256x128_0_1_2_3 (broadcastInDim S1x1x1x128 ![3] bcast_S128_S1x1x1x128_3 g))) (broadcastInDim S5x256x256x128 ![0, 1, 2, 3] bcast_S1x1x1x128_S5x256x256x128_0_1_2_3 (broadcastInDim S1x1x1x128 ![3] bcast_S128_S1x1x1x128_3 e))
/-- The greatest magnitudes of rows. -/
def rM (v : FVec Ideal S5x256x256x128 .f32) : FVec Ideal S5x256x256x1 .f32 :=
  broadcastInDim S5x256x256x1 ![0, 1, 2] bcast_S5x256x256_S5x256x256x1_0_1_2 (Host.reduce FloatOps.maximumf (Host.absf v) (constant S_ .f32 0xFF800000#32) reducesTo_S5x256x256x128_S5x256x256_d3 h_S_)
/-- The scales of greatest magnitudes. -/
def rS (m : FVec Ideal S5x256x256x1 .f32) : FVec Ideal S5x256x256x1 .f32 :=
  select (cmpf .oeq m (broadcastInDim S5x256x256x1 ![] bcast_S_S5x256x256x1 (constant S_ .f32 0x00000000#32))) (broadcastInDim S5x256x256x1 ![] bcast_S_S5x256x256x1 (id (constant S_ .f32 0x3F800000#32 : FVec Ideal S_ .f32))) (Host.divf m (broadcastInDim S5x256x256x1 ![] bcast_S_S5x256x256x1 (constant S_ .f32 0x42FE0000#32)))
/-- The codes of rows under scales. -/
def rQ (v : FVec Ideal S5x256x256x128 .f32) (s : FVec Ideal S5x256x256x1 .f32) : IVec S5x256x256x128 8 :=
  trunci 8 (fptosi 32 (minimumf (broadcastInDim S5x256x256x128 ![] bcast_S_S5x256x256x128 (id (constant S_ .f32 0x42FE0000#32 : FVec Ideal S_ .f32))) (maximumf (broadcastInDim S5x256x256x128 ![] bcast_S_S5x256x256x128 (id (constant S_ .f32 0xC2FE0000#32 : FVec Ideal S_ .f32))) (Host.roundeven (Host.divf v (broadcastInDim S5x256x256x128 ![0, 1, 2, 3] bcast_S5x256x256x1_S5x256x256x128_0_1_2_3 s)))))) natLt_8_32

/-- A row of an array. -/
abbrev row (v : FVec Ideal S5x256x256x128 .f32) : Fin 128 → EReal := fun d => v (ix4 b i j d)

theorem rC_at : rC x (ix4 b i j d) = lnC (fun d => x (ix4 b i j d)) d := by
  pointwise [rC]
  simp only [bits_128]
  rfl
theorem rV_at (c : FVec Ideal S5x256x256x128 .f32) : rV g e c (ix4 b i j d) =
    Ideal.div (c (ix4 b i j d)) (Ideal.sqrt (Ideal.div (∑ k, c (ix4 b i j k) * c (ix4 b i j k)) ((128 : ℝ) : EReal) + eps)) * g (ix1 d) + e (ix1 d) := by
  pointwise [rV]
  simp only [bits_128]
  rfl
theorem rV_eq : row b i j (rV g e (rC x)) = lnV (fun d => x (ix4 b i j d)) (fun d => g (ix1 d)) (fun d => e (ix1 d)) := by
  funext d
  unfold row lnV
  rw [rV_at]
  simp only [rC_at]
theorem red (v : S5x256x256x128.Idx → EReal) :
    Host.reduce (α := EReal) max v (fun _ => Ideal.ofBits .f32 0xFF800000#32) reducesTo_S5x256x256x128_S5x256x256_d3 h_S_ (ix3 b i j)
      = Finset.univ.fold max (Ideal.ofBits .f32 0xFF800000#32) fun r : Fin 128 => v (ix4 b i j r) := by
  rw [Host.reduce_eq_fold_single (α := EReal) max v _ _ (by decide) h_S_]
  congr 1; funext d; simp only [Function.comp]; congr 1; funext a; fin_cases a <;> rfl
theorem wide (m : FVec Ideal S5x256x256 .f32) :
    (broadcastInDim S5x256x256x1 ![0, 1, 2] bcast_S5x256x256_S5x256x256x1_0_1_2 m : S5x256x256x1.Idx → EReal) (ix4 b i j 0) = m (ix3 b i j) := by
  pointwise []
theorem rM_at (v : FVec Ideal S5x256x256x128 .f32) : rM v (ix4 b i j 0) = top fun d => mag (v (ix4 b i j d)) := by
  unfold rM
  refine (wide b i j _).trans ((red b i j (Host.absf v)).trans ?_)
  rw [bits_bot]; rfl
theorem rS_at (m : FVec Ideal S5x256x256x1 .f32) : rS m (ix4 b i j 0) = scale (m (ix4 b i j 0)) := by
  unfold rS
  simp only [id_eq]
  pointwise []
  simp only [bits_0, bits_1, bits_127]
  rfl
theorem rQ_at (v : FVec Ideal S5x256x256x128 .f32) (s : FVec Ideal S5x256x256x1 .f32) :
    rQ v s (ix4 b i j d) = i8 (code (Ideal.div (v (ix4 b i j d)) (s (ix4 b i j 0)))) := by
  unfold rQ
  simp only [id_eq]
  pointwise []
  rw [bits_127, bits_m127]
  rfl
/-- The bias of codes under scales. -/
def rB (q : IVec S5x256x256x128 8) (s : FVec Ideal S5x256x256 .f32) : FVec Ideal S5x4x256x256 .f32 :=
  mulf (transpose S5x4x256x256 [1, 0, 2, 3] (Host.dotGeneral dot_S128x4_S5x256x256x128_S4x5x256x256_0_3_1_012_n_n (some .fp32) w (sitofp .f32 (extsi 32 q natLt_8_32))) transposes_S4x5x256x256_S5x4x256x256_1_0_2_3) (broadcastInDim S5x4x256x256 ![0, 1, 2, 3] bcast_S5x1x256x256_S5x4x256x256_0_1_2_3 (broadcastInDim S5x1x256x256 ![0, 2, 3] bcast_S5x256x256_S5x1x256x256_0_2_3 s))
theorem rB_at (q : IVec S5x256x256x128 8) (s : FVec Ideal S5x256x256 .f32) :
    rB w q s (ix4 b h i j) = (∑ d, w (ix2 d h) * num (q (ix4 b i j d))) * s (ix3 b i j) := by
  pointwise [rB]
  simp only [sitofp_ext]
/-- The scales as they are returned. -/
def rT (s : FVec Ideal S5x256x256x1 .f32) : FVec Ideal S5x256x256 .f32 := shapeCast S5x256x256 s shapeCasts_S5x256x256x1_S5x256x256
theorem rT_at (s : FVec Ideal S5x256x256x1 .f32) : rT s (ix3 b i j) = s (ix4 b i j 0) := by
  pointwise [rT]
  try rfl

/-- The arrays of a layer norm. -/
def _root_.Cert.Spec.LnArg.aS (A : LnArg) : S5x256x256.Idx → EReal := fun y => A.s (y 0) (y 1) (y 2)
def _root_.Cert.Spec.LnArg.aQ (A : LnArg) : S5x256x256x128.Idx → BitVec 8 := fun y => A.q (y 0) (y 1) (y 2) (y 3)
def _root_.Cert.Spec.LnArg.aB (A : LnArg) : S5x4x256x256.Idx → EReal := fun y => A.bias (y 0) (y 2) (y 3) (y 1)

/-- The arguments' elements. -/
abbrev argsOf : LnArg where
  x a b d e := x (ix4 a b d e)
  g a := g (ix1 a)
  be a := e (ix1 a)
  w a b := w (ix2 a b)

theorem s_at : rT (rS (rM (rV g e (rC x)))) = (argsOf x g e w).aS := by
  refine Cert.ReferenceIdeal.Hand.ext3 fun b i j => ?_
  rw [rT_at, rS_at, rM_at]
  show lnS (row b i j (rV g e (rC x))) = _
  rw [rV_eq]
  rfl
theorem q_at : rQ (rV g e (rC x)) (rS (rM (rV g e (rC x)))) = (argsOf x g e w).aQ := by
  refine Cert.ReferenceIdeal.Hand.ext4 fun b i j d => ?_
  rw [rQ_at, rS_at, rM_at]
  show i8 (lnQ (row b i j (rV g e (rC x))) d) = _
  rw [rV_eq]
  rfl
theorem b_at : rB w (rQ (rV g e (rC x)) (rS (rM (rV g e (rC x))))) (rT (rS (rM (rV g e (rC x))))) = (argsOf x g e w).aB := by
  refine Cert.ReferenceIdeal.Hand.ext4 fun b h i j => ?_
  rw [rB_at, q_at x g e w, s_at x g e w]
  rfl

variable (m : (ℓ : Loc nD τ sig) → Buf (Elt Ideal) ℓ) (ρ : Dev nD → PrngReg) (c : Dev nD)

/-- The arguments' elements at launch. -/
def argR : LnArg := argsOf (m ((c.tc : Thread nD τ).loc main_arg0)) (m ((c.tc : Thread nD τ).loc main_arg1)) (m ((c.tc : Thread nD τ).loc main_arg2)) (m ((c.tc : Thread nD τ).loc main_arg3))

theorem out2 : res_out2 m c = (argR m c).aS := by
  refine Eq.trans ?_ (s_at _ _ _ _)
  unfold res_out2 res_main_v37
  delta rT rS rM rV rC
  rfl
theorem out1 : res_out1 m c = (argR m c).aQ := by
  refine Eq.trans ?_ (q_at _ _ _ _)
  unfold res_out1 res_main_v36
  delta rQ rS rM rV rC
  rfl
theorem out0 : res_out0 m c = (argR m c).aB := by
  refine Eq.trans ?_ (b_at _ _ _ _)
  unfold res_out0 res_main_v44
  delta rB rQ rT rS rM rV rC
  rfl

end Cert.LnReferenceIdeal.Hand

end
-- ==== Proof.LnFit.lean ====
/-
  The layer norm kernel's windows at a point, element by element: the arguments'.
-/
module

public import proofs.«01_k».proof.Proof.LnKer
public import proofs.«01_k».proof.Proof.LnRef
public import Idealize.ShloMosaic.Lib.Claim

@[expose] public section

set_option maxRecDepth 16384

noncomputable section

namespace Cert.LnQuantIdeal.Hand

open Cert.LnQuantIdeal Cert.LnQuantIdeal.Gen Cert.Spec
open Idealize.ShloMosaic Idealize.ShloMosaic.TcCoe

variable (m : (ℓ : Loc nD τ sig) → Buf (Elt Ideal) ℓ) (c : Dev nD) (t : Fin cfg0.N) (r : Fin 8) (j : Fin 256) (d k : Fin 128) (h : Fin 4)

/-- The arguments' elements. -/
def argL : LnArg := Cert.LnReferenceIdeal.Hand.argsOf (m ((c.tc : Thread nD τ).loc main_arg0)) (m ((c.tc : Thread nD τ).loc main_arg1))
  (m ((c.tc : Thread nD τ).loc main_arg2)) (m ((c.tc : Thread nD τ).loc main_arg3))

/-- The batch and the row of a point's eight. -/
def bOf (t : Fin cfg0.N) : Fin 5 := ⟨t.val / 32, by have := t.isLt; have h : cfg0.N = 160 := rfl; omega⟩
def iOf (t : Fin cfg0.N) (r : Fin 8) : Fin 256 := ⟨t.val % 32 * 8 + r.val, by omega⟩

theorem ix_0 : ∀ t : Fin cfg0.N, win0_0.index t = ![t.val / 32, t.val % 32, 0, 0] := by decide +kernel
theorem ix_1 : ∀ t : Fin cfg0.N, win0_1.index t = ![0, 0] := by decide +kernel
theorem ix_2 : ∀ t : Fin cfg0.N, win0_2.index t = ![0, 0] := by decide +kernel
theorem ix_3 : ∀ t : Fin cfg0.N, win0_3.index t = ![0, 0] := by decide +kernel
theorem ix_4 : ∀ t : Fin cfg0.N, win0_4.index t = ![0, 0] := by decide +kernel
theorem ix_5 : ∀ t : Fin cfg0.N, win0_5.index t = ![t.val / 32, t.val % 32, 0, 0] := by decide +kernel
theorem ix_6 : ∀ t : Fin cfg0.N, win0_6.index t = ![t.val / 32, t.val % 32, 0] := by decide +kernel
theorem ix_7 : ∀ t : Fin cfg0.N, win0_7.index t = ![t.val / 32, 0, t.val % 32, 0] := by decide +kernel

theorem ib_0 : (iblk m c 0 t : S1x8x256x128.Idx → EReal) (ix4 0 r j k) = (argL m c).x (bOf t) (iOf t r) j k := by
  show _ = (m ((c : Thread nD τ).loc main_arg0) : S5x256x256x128.Idx → EReal) (ix4 (bOf t) (iOf t r) j k)
  rw [← V_main_arg0 m c]
  have e := ix_0 t
  blk_ext [iblk, bOf, iOf, e]
theorem ib_1 : (iblk m c 1 t : S128x128.Idx → EReal) = V m c main_v8 := by
  funext y
  have e := ix_1 t
  blk_ext [iblk, e]
theorem ib_2 : (iblk m c 2 t : S128x256.Idx → EReal) = V m c main_v12 := by
  funext y
  have e := ix_2 t
  blk_ext [iblk, e]
theorem ib_3 : (iblk m c 3 t : S128x256.Idx → EReal) = V m c main_v14 := by
  funext y
  have e := ix_3 t
  blk_ext [iblk, e]
theorem ib_4 : (iblk m c 4 t : S8x128.Idx → EReal) = V m c main_v10 := by
  funext y
  have e := ix_4 t
  blk_ext [iblk, e]

/-- The centring matrix, computed on the host. -/
def C8 : FVec Ideal S128x128 .bf16 := truncf .bf16 (subf (uitofp .f32 (cmpi .eq (addi (iotaInDim S128x128 32 0) (broadcastInDim S128x128 ![] bcast_S_S128x128 (constantI S_ 32 0#32))) (iotaInDim S128x128 32 1)))
  (broadcastInDim S128x128 ![] bcast_S_S128x128 (constant S_ .f32 0x3C000000#32))) bitsLt_bf16_f32
def G12 (g : FVec Ideal S128 .f32) : FVec Ideal S128x256 .f32 := broadcastInDim S128x256 ![0, 1] bcast_S128x1_S128x256_0_1 (shapeCast S128x1 g shapeCasts_S128_S128x1)

theorem eye_at : (FloatOps.uitofp (F := Ideal) .f32 (IntOp.cmpi CmpIPredicate.eq (IntOp.addi (BitVec.ofNat 32 d.val) 0#32) (BitVec.ofNat 32 k.val)) : EReal) = if d = k then 1 else 0 := by
  have e : IntOp.cmpi CmpIPredicate.eq (IntOp.addi (BitVec.ofNat 32 d.val) 0#32) (BitVec.ofNat 32 k.val) = if d = k then 1#1 else 0#1 := by
    show BitVec.ofBool (BitVec.ofNat 32 d.val + 0#32 == BitVec.ofNat 32 k.val) = _
    rw [BitVec.add_zero]
    by_cases f : d = k
    · rw [if_pos f, f, beq_self_eq_true]; rfl
    · have n : BitVec.ofNat 32 d.val ≠ BitVec.ofNat 32 k.val := fun g => f (Fin.ext (by
        have q := congrArg BitVec.toNat g
        rw [BitVec.toNat_ofNat, BitVec.toNat_ofNat] at q
        omega))
      rw [if_neg f, beq_eq_false_iff_ne.mpr n]; rfl
  rw [e]
  by_cases f : d = k
  · rw [if_pos f, if_pos f]
    show (((1#1 : BitVec 1).toNat : ℝ) : EReal) = 1
    norm_num
  · rw [if_neg f, if_neg f]
    show (((0#1 : BitVec 1).toNat : ℝ) : EReal) = 0
    norm_num
theorem C8_at : C8 (ix2 d k) = cen d k := by
  pointwise [C8]
  simp only [bits_inv128]
  exact congrArg (· - ((1 / 128 : ℝ) : EReal)) (eye_at d k)
theorem G12_at (g : FVec Ideal S128 .f32) : G12 g (ix2 d j) = g (ix1 d) := by
  pointwise [G12]
  try rfl

theorem V8_eq : (V m c main_v8 : S128x128.Idx → EReal) = C8 := by
  entry_read
  try rfl
theorem V12_eq : (V m c main_v12 : S128x256.Idx → EReal) = G12 (m ((c.tc : Thread nD τ).loc main_arg1)) := by
  entry_read
  try rfl
theorem V14_eq : (V m c main_v14 : S128x256.Idx → EReal) = G12 (m ((c.tc : Thread nD τ).loc main_arg2)) := by
  entry_read
  try rfl
/-- The bias weights transposed, four rows of zeros under them. -/
def W10 (w : FVec Ideal S128x4 .f32) : FVec Ideal S8x128 .f32 :=
  pad S8x128 ![0, 0] ![4, 0] ![0, 0] (transpose S4x128 [1, 0] w transposes_S128x4_S4x128_1_0) (sitofp .f32 (constantI S_ 32 0#32)) pads_S4x128_S8x128_040_000 h_S_
theorem V10_eq : (V m c main_v10 : S8x128.Idx → EReal) = W10 (m ((c.tc : Thread nD τ).loc main_arg3)) := by
  rfl
theorem W10_at (w : FVec Ideal S128x4 .f32) : W10 w (ix2 ⟨h.val, h.isLt.trans (by decide)⟩ d) = w (ix2 d h) := by
  pointwise [W10]

end Cert.LnQuantIdeal.Hand

end
-- ==== Proof.LnPre.lean ====
/-
  What the layer norm's precondition says of the arguments' elements.
-/
module

public import proofs.«01_k».proof.Defs
public import proofs.«01_k».proof.Proof.PreT

@[expose] public section

set_option maxRecDepth 16384

noncomputable section

namespace Cert.Pre_weights_below_inf

open Idealize.ShloMosaic

instance facts : Facts where
  h_S_ := by decide
  bcast_S_S128x4 := by decide
  reducesTo_S128x4_S_d0_1 := by decide

instance : Subsingleton S_.Idx := ⟨fun x y => funext fun a => nomatch a⟩

variable (a0 : FVec Ideal S5x256x256x128 .bf16) (a1 a2 : FVec Ideal S128 .f32) (a3 : FVec Ideal S128x4 .f32)

/-- No weight is +inf. -/
theorem part (i0 : S_.Idx) (e : fn (F := Ideal) a0 a1 a2 a3 i0 = 1#1) (i) : (a3 i : EReal) ≠ ⊤ := by
  have h : Ideal.cmp .olt (a3 i : EReal) (Ideal.ofBits .f32 0x7F800000#32) = 1#1 := Host.reduce_andi_all _ _ _ _ _ e i
  rw [Cert.Spec.bits_top] at h
  exact ((Ideal.cmp_olt_eq_one _ _).1 h).ne

end Cert.Pre_weights_below_inf

end
-- ==== Proof.LnInf.lean ====
/-
  The layer norm of a row with an infinity in it: both programs give the shift.
-/
module

public import proofs.«01_k».proof.Proof.LnSpec

@[expose] public section

noncomputable section

namespace Cert.Spec

open Idealize.ShloMosaic

theorem not_fin {v : EReal} (h : ¬ Fin' v) : v = ⊤ ∨ v = ⊥ := by
  induction v using EReal.rec with
  | bot => exact .inr rfl
  | top => exact .inl rfl
  | coe r => exact absurd ⟨r, rfl⟩ h
theorem top_not : ¬ Fin' (⊤ : EReal) := fun ⟨_, h⟩ => EReal.coe_ne_top _ h.symm
theorem bot_not : ¬ Fin' (⊥ : EReal) := fun ⟨_, h⟩ => EReal.coe_ne_bot _ h.symm

/-- A finite sum has finite terms. -/
theorem fin_add {a b : EReal} (h : Fin' (a + b)) : Fin' a ∧ Fin' b := by
  induction a using EReal.rec with
  | bot => exact absurd (by simpa using h) bot_not
  | top =>
    induction b using EReal.rec with
    | bot => exact absurd (by simpa using h) bot_not
    | top => exact absurd (by simpa using h) top_not
    | coe r => exact absurd (by simpa using h) top_not
  | coe q =>
    induction b using EReal.rec with
    | bot => exact absurd (by simpa using h) bot_not
    | top => exact absurd (by simpa using h) top_not
    | coe r => exact ⟨⟨q, rfl⟩, ⟨r, rfl⟩⟩
theorem fin_sum {n : ℕ} (f : Fin n → EReal) (h : Fin' (∑ k, f k)) (k : Fin n) : Fin' (f k) := by
  rw [← Finset.add_sum_erase _ f (Finset.mem_univ k)] at h
  exact (fin_add h).1
theorem fin_neg {a : EReal} (h : Fin' (-a)) : Fin' a := by
  obtain ⟨r, e⟩ := h
  exact ⟨-r, by rw [EReal.coe_neg, ← e, neg_neg]⟩
/-- A finite product with a number other than zero has a finite factor. -/
theorem fin_mul {r : ℝ} (hr : r ≠ 0) {a : EReal} (h : Fin' ((r : EReal) * a)) : Fin' a := by
  induction a using EReal.rec with
  | coe q => exact ⟨q, rfl⟩
  | bot =>
    rcases lt_or_gt_of_ne hr with g | g
    · rw [EReal.coe_mul_bot_of_neg g] at h; exact absurd h top_not
    · rw [EReal.coe_mul_bot_of_pos g] at h; exact absurd h bot_not
  | top =>
    rcases lt_or_gt_of_ne hr with g | g
    · rw [EReal.coe_mul_top_of_neg g] at h; exact absurd h bot_not
    · rw [EReal.coe_mul_top_of_pos g] at h; exact absurd h top_not

theorem cen_coe (d k : Fin 128) : ∃ r : ℝ, r ≠ 0 ∧ cen d k = (r : EReal) := by
  unfold cen
  by_cases e : d = k
  · refine ⟨1 - 1 / 128, by norm_num, ?_⟩
    rw [if_pos e, EReal.coe_sub, EReal.coe_one]
  · refine ⟨0 - 1 / 128, by norm_num, ?_⟩
    rw [if_neg e, EReal.coe_sub, EReal.coe_zero]

variable (x g be : Fin 128 → EReal) (hx : ¬ ∀ k, Fin' (x k)) (d : Fin 128)
include hx

theorem knC_inf : ¬ Fin' (knC cen x d) := fun h => hx fun k => by
  obtain ⟨r, hr, e⟩ := cen_coe d k
  have := fin_sum _ h k
  rw [e] at this
  exact fin_mul hr this
theorem lnC_inf : ¬ Fin' (lnC x d) := fun h => hx fun k => by
  unfold lnC at h
  rw [Ideal.div_coe (show (128 : ℝ) ≠ 0 by norm_num), sub_eq_add_neg, mul_comm] at h
  exact fin_sum _ (fin_mul (r := 1 / 128) (by norm_num) (fin_neg (fin_add h).2)) k

omit hx in
theorem sq_inf (c : Fin 128 → EReal) (hc : ∀ k, ¬ Fin' (c k)) : ∑ k, c k * c k = ⊤ := by
  have e : ∀ k, c k * c k = ⊤ := fun k => by
    rcases not_fin (hc k) with h | h <;> rw [h] <;> simp
  have n : ¬ Fin' (∑ k, c k * c k) := fun h => by
    have := fin_sum _ h 0
    rw [e] at this
    exact top_not this
  rcases not_fin n with h | h
  · exact h
  · have p : (0 : EReal) ≤ ∑ k, c k * c k := Finset.sum_nonneg fun k _ => by rw [e k]; exact le_top
    rw [h] at p
    exact absurd p (by simp)

theorem lnV_inf : lnV x g be d = be d := by
  obtain ⟨e, he, ee⟩ := eps_pos
  unfold lnV
  rw [sq_inf _ (lnC_inf x hx), ee, Ideal.div_coe (show (128 : ℝ) ≠ 0 by norm_num), EReal.top_mul_coe_of_pos (by norm_num), EReal.top_add_coe]
  rw [show Ideal.sqrt ⊤ = ⊤ from rfl, Ideal.div, if_neg (by simp), EReal.inv_top, mul_zero, zero_mul, zero_add]
theorem knV_inf : knV cen x g be d = be d := by
  obtain ⟨e, he, ee⟩ := eps_pos
  unfold knV
  rw [sq_inf _ (knC_inf x hx), ee, EReal.top_mul_coe_of_pos (by norm_num), EReal.top_add_coe]
  rw [show Ideal.rsqrt ⊤ = 0 from rfl, mul_zero, zero_mul, zero_add]

omit hx in
/-- The kernel's normalised row is the mathematics', whatever the row. -/
theorem knV_all : knV cen x g be d = lnV x g be d := by
  by_cases h : ∀ k, Fin' (x k)
  · exact knV_eq x g be h d
  · rw [lnV_inf x g be h, knV_inf x g be h]

end Cert.Spec

end
-- ==== Proof.LnArr.lean ====
/-
  The layer norm call's result arrays, element by element.
-/
module

public import proofs.«01_k».proof.Proof.LnOut
public import proofs.«01_k».proof.Proof.LnFit
public import proofs.«01_k».proof.Proof.LnPre
public import proofs.«01_k».proof.Proof.LnInf

@[expose] public section

set_option maxRecDepth 16384

noncomputable section

namespace Cert.LnQuantIdeal.Hand

open Cert.LnQuantIdeal Cert.LnQuantIdeal.Gen Cert.Spec
open Idealize.ShloMosaic Idealize.ShloMosaic.TcCoe

variable (m : (ℓ : Loc nD τ sig) → Buf (Elt Ideal) ℓ) (c : Dev nD) (t : Fin cfg0.N)

/-- What the precondition gives: no bias weight is +inf. -/
def Below (A : LnArg) : Prop := ∀ d h, A.w d h ≠ ⊤

theorem below (h : Cert.Pre_LnQuantIdeal_weights_below_inf m) : Below (argL m c) := fun d k =>
  Cert.Pre_weights_below_inf.part _ _ _ _ (fun a => nomatch a) (congrFun (h c) _) (ix2 d k)

theorem colB_eq (r : Fin 8) (j : Fin 256) :
    colB (iblk m c 0 t) (iblk m c 1 t) (iblk m c 2 t) (iblk m c 3 t) r j = (argL m c).v (bOf t) (iOf t r) j := by
  funext d
  have e1 : (fun d k => (iblk m c 1 t : S128x128.Idx → EReal) (ix2 d k)) = cen := by
    funext d k
    rw [ib_1, V8_eq]
    exact C8_at d k
  have e0 : (fun k => (iblk m c 0 t : S1x8x256x128.Idx → EReal) (ix4 0 r j k)) = fun k => (argL m c).x (bOf t) (iOf t r) j k := by
    funext k
    exact ib_0 m c t r j k
  have e2 : (fun d => (iblk m c 2 t : S128x256.Idx → EReal) (ix2 d j)) = (argL m c).g := by
    funext d
    rw [ib_2, V12_eq]
    exact G12_at j d _
  have e3 : (fun d => (iblk m c 3 t : S128x256.Idx → EReal) (ix2 d j)) = (argL m c).be := by
    funext d
    rw [ib_3, V14_eq]
    exact G12_at j d _
  refine Eq.trans ?_ (knV_all _ _ _ d)
  show knV (fun d k => (iblk m c 1 t : S128x128.Idx → EReal) (ix2 d k)) (fun k => (iblk m c 0 t : S1x8x256x128.Idx → EReal) (ix4 0 r j k))
    (fun d => (iblk m c 2 t : S128x256.Idx → EReal) (ix2 d j)) (fun d => (iblk m c 3 t : S128x256.Idx → EReal) (ix2 d j)) d = _
  rw [e1, e0, e2, e3]

theorem w_eq (h : Fin 4) : (fun d => (iblk m c 4 t : S8x128.Idx → EReal) (ix2 ⟨h.val, h.isLt.trans (by decide : 4 < 8)⟩ d)) = fun d => (argL m c).w d h := by
  funext d
  rw [ib_4, V10_eq]
  exact W10_at d h _

theorem blk5 (y : S1x8x256x128.Idx) (z : S5x256x256x128.Idx) (h0 : (z 0).val = t.val / 32) (h1 : (z 1).val = t.val % 32 * 8 + (y 1).val)
    (h2 : (z 2).val = (y 2).val) (h3 : (z 3).val = (y 3).val) :
    out0_5 (iblk m c 0 t) (iblk m c 1 t) (iblk m c 2 t) (iblk m c 3 t) (iblk m c 4 t) y = (argL m c).aQ z := by
  refine (congrFun (out5_at _ _ _ _ _) y).trans ?_
  unfold B5 LnArg.aQ
  rw [show z 0 = bOf t from Fin.ext h0, show z 1 = iOf t (y 1) from Fin.ext h1, show z 2 = y 2 from Fin.ext h2, show z 3 = y 3 from Fin.ext h3]
  exact congrArg (fun v => i8 (lnQ v (y 3))) (colB_eq m c t (y 1) (y 2))
theorem blk6 (y : S1x8x256.Idx) (z : S5x256x256.Idx) (h0 : (z 0).val = t.val / 32) (h1 : (z 1).val = t.val % 32 * 8 + (y 1).val)
    (h2 : (z 2).val = (y 2).val) :
    out0_6 (iblk m c 0 t) (iblk m c 1 t) (iblk m c 2 t) (iblk m c 3 t) (iblk m c 4 t) y = (argL m c).aS z := by
  refine (congrFun (out6_at _ _ _ _ _) y).trans ?_
  unfold B6 LnArg.aS
  rw [show z 0 = bOf t from Fin.ext h0, show z 1 = iOf t (y 1) from Fin.ext h1, show z 2 = y 2 from Fin.ext h2]
  exact congrArg (fun v => lnS v) (colB_eq m c t (y 1) (y 2))
theorem blk7 (hf : Below (argL m c)) (y : S1x4x8x256.Idx) (z : S5x4x256x256.Idx) (h0 : (z 0).val = t.val / 32) (h1 : (z 1).val = (y 1).val)
    (h2 : (z 2).val = t.val % 32 * 8 + (y 2).val) (h3 : (z 3).val = (y 3).val) :
    out0_7 (iblk m c 0 t) (iblk m c 1 t) (iblk m c 2 t) (iblk m c 3 t) (iblk m c 4 t) y = (argL m c).aB z := by
  refine (congrFun (out7_at _ _ _ _ _) y).trans ?_
  unfold B7 LnArg.aB
  rw [show z 0 = bOf t from Fin.ext h0, show z 1 = y 1 from Fin.ext h1, show z 2 = iOf t (y 2) from Fin.ext h2, show z 3 = y 3 from Fin.ext h3]
  refine (congrArg₂ knB (colB_eq m c t (y 2) (y 3)) (w_eq m c t (y 1))).trans ?_
  exact knB_eq _ _ fun d => hf d (y 1)

theorem arr5 : (dats m 0 c).arrAt 5 cfg0.N = (argL m c).aQ := by
  refine Pipeline.Dat.arrAt_eq_of_covers _ 5 _ (by decide +kernel) fun t _ y => ?_
  blk_simp
  refine (congrFun (after0_5 m c t) y).trans (blk5 m c t y _ ?_ ?_ ?_ ?_)
  · have b : (y 0).val < 1 := (y 0).isLt
    blk_simp [ix_5]; try omega
  · blk_simp [ix_5]
  · blk_simp [ix_5]; try omega
  · blk_simp [ix_5]; try omega
theorem arr6 : (dats m 0 c).arrAt 6 cfg0.N = (argL m c).aS := by
  refine Pipeline.Dat.arrAt_eq_of_covers _ 6 _ (by decide +kernel) fun t _ y => ?_
  blk_simp
  refine (congrFun (after0_6 m c t) y).trans (blk6 m c t y _ ?_ ?_ ?_)
  · have b : (y 0).val < 1 := (y 0).isLt
    blk_simp [ix_6]; try omega
  · blk_simp [ix_6]
  · blk_simp [ix_6]; try omega
theorem arr7 (hf : Below (argL m c)) : (dats m 0 c).arrAt 7 cfg0.N = (argL m c).aB := by
  refine Pipeline.Dat.arrAt_eq_of_covers _ 7 _ (by decide +kernel) fun t _ y => ?_
  blk_simp
  refine (congrFun (after0_7 m c t) y).trans (blk7 m c t hf y _ ?_ ?_ ?_ ?_)
  · have b : (y 0).val < 1 := (y 0).isLt
    blk_simp [ix_7]; try omega
  · blk_simp [ix_7]; try omega
  · blk_simp [ix_7]; try omega
  · blk_simp [ix_7]; try omega

/-- The call's run: its three results and its arguments. -/
theorem run_post (ρ : Dev nD → PrngReg) (hr : ∀ c, Below (argL m c)) :
    θ_run defs (onTc (τ := τ) (main (F := Ideal))) ⟨m, fun _ => 0, ρ⟩ fun r => ∀ c : Dev nD,
      r.2.mem ((c.tc : Thread nD τ).loc main_v15_2) = (argL m c).aB
      ∧ r.2.mem ((c.tc : Thread nD τ).loc main_v15_0) = (argL m c).aQ
      ∧ r.2.mem ((c.tc : Thread nD τ).loc main_v15_1) = (argL m c).aS
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).2.2.1.trans (arr7 m c (hr c)), (h c).1.trans (arr5 m c), (h c).2.1.trans (arr6 m c), (h c).2.2.2⟩)
    (Cert.LnQuantIdeal.Value.run_blocks m ρ)

end Cert.LnQuantIdeal.Hand

namespace Cert.LnReferenceIdeal.Hand

open Cert.LnReferenceIdeal Cert.LnReferenceIdeal.Gen Cert.Spec
open Idealize.ShloMosaic Idealize.ShloMosaic.TcCoe

/-- The reference's run: its three results and its arguments. -/
theorem run_post (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = (argR m c).aB
      ∧ r.2.mem ((c.tc : Thread nD τ).loc main_v36) = (argR m c).aQ
      ∧ r.2.mem ((c.tc : Thread nD τ).loc main_v37) = (argR m c).aS
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out0 m c), (h c).2.1.trans (out1 m c), (h c).2.2.1.trans (out2 m c), (h c).2.2.2⟩)
    (Cert.LnReferenceIdeal.Value.run (F := Ideal) m ρ)

end Cert.LnReferenceIdeal.Hand

end
-- ==== Proof.lean ====
module

public import proofs.«01_k».proof.Defs
public import proofs.«01_k».proof.Proof.KRun
public import proofs.«01_k».proof.Proof.KIRun
public import proofs.«01_k».proof.Proof.PreT
public import proofs.«01_k».proof.Proof.KPost
public import proofs.«01_k».proof.Proof.RPost
public import proofs.«01_k».proof.Proof.LnArr
public import proofs.«01_k».proof.Proof.Gen.LnQuant
public import proofs.«01_k».proof.Proof.Gen.LnQuant.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel terminates, keeps its arguments and ends with every counter at zero. -/
theorem frame_k : Cert.quiescent_Kernel := fun m g _ => Cert.Kernel.Hand.quiescent (F := Bits) m g

/-- The same of its reading at the extended reals. -/
theorem frame_ki : Cert.quiescent_KernelIdeal := fun m g _ => Cert.KernelIdeal.Hand.quiescent (F := Ideal) m g

/-- The reference's run keeps its arguments; it has no semaphore. -/
theorem frame_r : Cert.quiescent_ReferenceIdeal := fun m g _ =>
  (θ_run Cert.ReferenceIdeal.defs _ _).mono (fun r h => ⟨fun c => (h c).2.2.2.2.2.2.2.2.2,
    Idealize.ShloMosaic.sem_eq_zero_of_no_sems (by decide) r.2⟩) (Cert.ReferenceIdeal.Value.run (F := Ideal) m g)

/-- The four rewrites between the kernel and its reading. -/
theorem preserves_k : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "neg_log2e" .f32 0xBFB8AA3B#32 ((-((Real.log 2)⁻¹) : ℝ) : EReal) rfl,
   IdealRules.bf16_pack.statement Cert.KernelIdeal.S32x256,
   IdealRules.named_const.statement Cert.KernelIdeal.κ "rsqrt_d_log2e" .f32 0x3E8293EE#32 (((Real.sqrt 32)⁻¹ * (Real.log 2)⁻¹ : ℝ) : EReal) rfl⟩

/-- The frames under the precondition, which they do not read. -/
theorem frame_ki_pre : Cert.quiescent_KernelIdeal_pre_scales_tame := fun m g _ => Cert.KernelIdeal.Hand.quiescent (F := Ideal) m g

theorem frame_r_pre : Cert.quiescent_ReferenceIdeal_pre_scales_tame := fun m g _ => frame_r m g trivial

/-- The two programs' arguments agree, so they are one family of numbers. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    : Cert.ReferenceIdeal.Hand.argOf (StableHlo.launchContents m' c) = Cert.KernelIdeal.Hand.argK m c := by
  obtain ⟨h0, h1, h2, h3, h4, h5, h6, h7, h8, h9, h10, h11, h12, h13, h14, h15, h16⟩ := h
  unfold Cert.ReferenceIdeal.Hand.argOf Cert.KernelIdeal.Hand.argK
  congr 1
  · funext a b d e; exact congrFun h0 (ix4 a b d e)
  · funext a b d e; exact congrFun h1 (ix4 a b d e)
  · funext a b d; exact congrFun h2 (ix3 a b d)
  · funext a b d; exact congrFun h3 (ix3 a b d)
  · funext a b d e; exact congrFun h4 (ix4 a b d e)
  · funext a b d; exact congrFun h5 (ix3 a b d)
  · funext a b; exact congrFun h6 (ix2 a b)
  · funext a b d; exact congrFun h7 (ix3 a b d)
  · funext a b; exact congrFun h8 (ix2 a b)
  · funext a b d; exact congrFun h9 (ix3 a b d)
  · funext a b; exact congrFun h10 (ix2 a b)
  · funext a b d; exact congrFun h11 (ix3 a b d)
  · funext a b; exact congrFun h12 (ix2 a b)
  · funext a b; exact congrFun h13 (ix2 a b)
  · funext a b d; exact congrFun h14 (ix3 a b d)
  · funext a; exact congrFun h15 (ix1 a)
  · funext a; exact congrFun h16 (ix1 a)

/-- The kernel's nine results are the reference's. -/
theorem value : Cert.algebraic_KernelIdeal_ReferenceIdeal_pre_scales_tame := fun m g m' g' hp h =>
  ⟨fun c => (Cert.KernelIdeal.Hand.argK m c).a13, fun c => (Cert.KernelIdeal.Hand.argK m c).a14, fun c => (Cert.KernelIdeal.Hand.argK m c).a15, fun c => (Cert.KernelIdeal.Hand.argK m c).a16, fun c => (Cert.KernelIdeal.Hand.argK m c).a17, fun c => (Cert.KernelIdeal.Hand.argK m c).a18, fun c => (Cert.KernelIdeal.Hand.argK m c).a19, fun c => (Cert.KernelIdeal.Hand.argK m c).a20, fun c => (Cert.KernelIdeal.Hand.argK m c).a21,
   Cert.KernelIdeal.Hand.Val.run_post m g fun c => Cert.KernelIdeal.Hand.tame m hp c,
   (θ_run Cert.ReferenceIdeal.defs _ _).mono (fun r q c => by
     have p := q c
     rw [args_eq m m' c (h c)] at p
     exact p) (Cert.ReferenceIdeal.Hand.run_post m' g')⟩

/-- The layer norm call terminates, keeps its arguments and ends with every counter at zero. -/
theorem frame_l : Cert.quiescent_LnQuant := fun m g _ => Cert.LnQuant.Gen.frame (F := Bits) m g

/-- The same of its reading at the extended reals, with the precondition or without. -/
theorem frame_li : Cert.quiescent_LnQuantIdeal := fun m g _ => Cert.LnQuantIdeal.Gen.frame (F := Ideal) m g

theorem frame_li_pre : Cert.quiescent_LnQuantIdeal_pre_weights_below_inf := fun m g _ => Cert.LnQuantIdeal.Gen.frame (F := Ideal) m g

/-- The layer norm reference's run keeps its arguments; it has no semaphore. -/
theorem frame_m : Cert.quiescent_LnReferenceIdeal := fun m g _ =>
  (θ_run Cert.LnReferenceIdeal.defs _ _).mono (fun r h => ⟨fun c => (h c).2.2.2,
    Idealize.ShloMosaic.sem_eq_zero_of_no_sems (by decide) r.2⟩) (Cert.LnReferenceIdeal.Value.run (F := Ideal) m g)

theorem frame_m_pre : Cert.quiescent_LnReferenceIdeal_pre_weights_below_inf := fun m g _ => frame_m m g trivial

/-- The split of the bias weights between the layer norm call and its reading. -/
theorem preserves_l : Cert.preserves_LnQuant_LnQuantIdeal := IdealRules.bf16_pack.statement Cert.LnQuantIdeal.S8x128

/-- The layer norm call's three results are its reference's. -/
theorem value_l : Cert.algebraic_LnQuantIdeal_LnReferenceIdeal_pre_weights_below_inf := fun m g m' g' hp h =>
  ⟨fun c => (Cert.LnQuantIdeal.Hand.argL m c).aB, fun c => (Cert.LnQuantIdeal.Hand.argL m c).aQ, fun c => (Cert.LnQuantIdeal.Hand.argL m c).aS,
   Cert.LnQuantIdeal.Hand.run_post m g fun c => Cert.LnQuantIdeal.Hand.below m c hp,
   (θ_run Cert.LnReferenceIdeal.defs _ _).mono (fun r q c => by
     obtain ⟨h0, h1, h2, h3⟩ := h c
     have e : Cert.LnReferenceIdeal.Hand.argR m' c = Cert.LnQuantIdeal.Hand.argL m c := by
       unfold Cert.LnReferenceIdeal.Hand.argR Cert.LnQuantIdeal.Hand.argL
       congr 1
     have p := q c
     rw [e] at p
     exact p) (Cert.LnReferenceIdeal.Hand.run_post m' g')⟩

theorem claim : Cert.Claim := ⟨Cert.Kernel.Gen.facts, Cert.KernelIdeal.Gen.facts, Cert.ReferenceIdeal.Gen.facts, Cert.LnQuant.Gen.facts, Cert.LnQuantIdeal.Gen.facts,
  Cert.LnReferenceIdeal.Gen.facts, Cert.Pre_scales_tame.facts, Cert.Pre_weights_below_inf.facts,
  frame_k, frame_ki, frame_ki_pre, frame_r, frame_r_pre, frame_l, frame_li, frame_li_pre, frame_m, frame_m_pre, preserves_k, value, preserves_l, value_l⟩

end Cert.Proof

end
